-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_on_primary_scores_pre_finite [hKernelIdeal : Cert.KernelIdeal.Facts] [hReferenceIdeal : Cert.ReferenceIdeal.Facts] [hPre_finite : Cert.Pre_finite.Facts] [hOn_primary_scores : Cert.On_primary_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v89_0)) (v1 : (c : Dev Cert.KernelIdeal.nD) → Buf (Elt Ideal) ((c.tc : Thread Cert.KernelIdeal.nD Cert.KernelIdeal.τ).loc Cert.KernelIdeal.main_v89_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2, 700000, 128]⟩ : Shape).Idx, (Cert.On_primary_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v89_0) i = v0 c i)
          ∧ (∀ i : (⟨3, ![50, 2, 128]⟩ : Shape).Idx, (Cert.On_primary_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 i = 1#1 → r.2.mem ((c.tc : Thread Cert.KernelIdeal.nD Cert.KernelIdeal.τ).loc Cert.KernelIdeal.main_v89_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2, 700000, 128]⟩ : Shape).Idx, (Cert.On_primary_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v56) i = v0 c i)
          ∧ (∀ i : (⟨3, ![50, 2, 128]⟩ : Shape).Idx, (Cert.On_primary_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 i = 1#1 → r.2.mem ((c.tc : Thread Cert.ReferenceIdeal.nD Cert.ReferenceIdeal.τ).loc Cert.ReferenceIdeal.main_v57) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts) (hOn_primary_scores : Cert.On_primary_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_on_primary_scores_pre_finite (hKernelIdeal := hKernelIdeal) (hReferenceIdeal := hReferenceIdeal) (hPre_finite := hPre_finite) (hOn_primary_scores := hOn_primary_scores)
-- ==== On_primary_scores.lean ====
abbrev S2x128x96 : Shape := ⟨3, ![2, 128, 96]⟩
abbrev S96 : Shape := ⟨1, ![96]⟩
abbrev S700000x48 : Shape := ⟨2, ![700000, 48]⟩
abbrev S700000 : Shape := ⟨1, ![700000]⟩
abbrev S700000x96 : Shape := ⟨2, ![700000, 96]⟩
abbrev S2x128x50 : Shape := ⟨3, ![2, 128, 50]⟩
abbrev S_ : Shape := ⟨0, ![]⟩
abbrev S2x700000x128 : Shape := ⟨3, ![2, 700000, 128]⟩
abbrev S50x2x128 : Shape := ⟨3, ![50, 2, 128]⟩

class Facts : Prop where
  bcast_S_S2x700000x128 : S_.BroadcastsInDim S2x700000x128 (![] : Fin 0 → Fin S2x700000x128.rank)
  bcast_S_S50x2x128 : S_.BroadcastsInDim S50x2x128 (![] : Fin 0 → Fin S50x2x128.rank)

variable [Facts]

def fn {F : FTy → Type} [FloatOps F] (main_arg0 : FVec F S2x128x96 .bf16) (main_arg1 : FVec F S96 .f32) (main_arg2 : IVec S700000x48 8) (main_arg3 : FVec F S700000 .bf16) (main_arg4 : FVec F S700000 .bf16) (main_arg5 : IVec S700000x96 8) (main_arg6 : IVec S2x128x50 32) : IVec S2x700000x128 1 × IVec S50x2x128 1 :=
  let main_c : IVec S_ 1 := constantI S_ 1 1#1
  let main_v0 : IVec S2x700000x128 1 := broadcastInDim S2x700000x128 ![] bcast_S_S2x700000x128 main_c
  let main_c_0 : IVec S_ 1 := constantI S_ 1 0#1
  let main_v1 : IVec S50x2x128 1 := broadcastInDim S50x2x128 ![] bcast_S_S50x2x128 main_c_0
  (main_v0, main_v1)
-- ==== Pre_finite.lean ====
abbrev S2x128x96 : Shape := ⟨3, ![2, 128, 96]⟩
abbrev S96 : Shape := ⟨1, ![96]⟩
abbrev S700000x48 : Shape := ⟨2, ![700000, 48]⟩
abbrev S700000 : Shape := ⟨1, ![700000]⟩
abbrev S700000x96 : Shape := ⟨2, ![700000, 96]⟩
abbrev S2x128x50 : Shape := ⟨3, ![2, 128, 50]⟩
abbrev S_ : Shape := ⟨0, ![]⟩

class Facts : Prop where
  bcast_S_S2x128x96 : S_.BroadcastsInDim S2x128x96 (![] : Fin 0 → Fin S2x128x96.rank)
  bcast_S_S96 : S_.BroadcastsInDim S96 (![] : Fin 0 → Fin S96.rank)
  bcast_S_S700000 : S_.BroadcastsInDim S700000 (![] : Fin 0 → Fin S700000.rank)

variable [Facts]

def fn {F : FTy → Type} [FloatOps F] (main_arg0 : FVec F S2x128x96 .bf16) (main_arg1 : FVec F S96 .f32) (main_arg2 : IVec S700000x48 8) (main_arg3 : FVec F S700000 .bf16) (main_arg4 : FVec F S700000 .bf16) (main_arg5 : IVec S700000x96 8) (main_arg6 : IVec S2x128x50 32) : IVec S2x128x96 1 × IVec S96 1 × IVec S700000 1 :=
  let main_v0 : FVec F S2x128x96 .bf16 := Host.absf main_arg0
  let main_cst : FVec F S_ .bf16 := constant S_ .bf16 0x7F80#16
  let main_v1 : FVec F S2x128x96 .bf16 := broadcastInDim S2x128x96 ![] bcast_S_S2x128x96 main_cst
  let main_v2 : IVec S2x128x96 1 := cmpf .olt main_v0 main_v1
  let main_v3 : FVec F S96 .f32 := Host.absf main_arg1
  let main_cst_0 : FVec F S_ .f32 := constant S_ .f32 0x7F800000#32
  let main_v4 : FVec F S96 .f32 := broadcastInDim S96 ![] bcast_S_S96 main_cst_0
  let main_v5 : IVec S96 1 := cmpf .olt main_v3 main_v4
  let main_v6 : FVec F S700000 .bf16 := Host.absf main_arg4
  let main_cst_1 : FVec F S_ .bf16 := constant S_ .bf16 0x7F80#16
  let main_v7 : FVec F S700000 .bf16 := broadcastInDim S700000 ![] bcast_S_S700000 main_cst_1
  let main_v8 : IVec S700000 1 := cmpf .olt main_v6 main_v7
  (main_v2, main_v5, main_v8)
-- ==== Kernel.lean ====
abbrev S2x128x96 : Shape := ⟨3, ![2, 128, 96]⟩
abbrev S96 : Shape := ⟨1, ![96]⟩
abbrev S700000x48 : Shape := ⟨2, ![700000, 48]⟩
abbrev S700000 : Shape := ⟨1, ![700000]⟩
abbrev S700000x96 : Shape := ⟨2, ![700000, 96]⟩
abbrev S2x128x50 : Shape := ⟨3, ![2, 128, 50]⟩
abbrev S50x2x128 : Shape := ⟨3, ![50, 2, 128]⟩
abbrev S12800 : Shape := ⟨1, ![12800]⟩
abbrev S_ : Shape := ⟨0, ![]⟩
abbrev S12800x1 : Shape := ⟨2, ![12800, 1]⟩
abbrev S171 : Shape := ⟨1, ![171]⟩
abbrev S176x128 : Shape := ⟨2, ![176, 128]⟩
abbrev S12800x2 : Shape := ⟨2, ![12800, 2]⟩
abbrev S171x100x128 : Shape := ⟨3, ![171, 100, 128]⟩
abbrev S12800x3 : Shape := ⟨2, ![12800, 3]⟩
abbrev S2x96x128 : Shape := ⟨3, ![2, 96, 128]⟩
abbrev S1x96 : Shape := ⟨2, ![1, 96]⟩
abbrev S48x700000 : Shape := ⟨2, ![48, 700000]⟩
abbrev S96x700000 : Shape := ⟨2, ![96, 700000]⟩
abbrev S1x700000 : Shape := ⟨2, ![1, 700000]⟩
abbrev S2x700000x128 : Shape := ⟨3, ![2, 700000, 128]⟩
abbrev S48x4096 : Shape := ⟨2, ![48, 4096]⟩
abbrev S96x4096 : Shape := ⟨2, ![96, 4096]⟩
abbrev S1x4096 : Shape := ⟨2, ![1, 4096]⟩
abbrev S96x128 : Shape := ⟨2, ![96, 128]⟩
abbrev S208x256 : Shape := ⟨2, ![208, 256]⟩
abbrev S240x256 : Shape := ⟨2, ![240, 256]⟩
abbrev S104x128 : Shape := ⟨2, ![104, 128]⟩
abbrev S1x128 : Shape := ⟨2, ![1, 128]⟩
abbrev S4x2x4096x128 : Shape := ⟨4, ![4, 2, 4096, 128]⟩
abbrev S4 : Shape := ⟨1, ![4]⟩
abbrev S128x96 : Shape := ⟨2, ![128, 96]⟩
abbrev S1x96x128 : Shape := ⟨3, ![1, 96, 128]⟩
abbrev S128 : Shape := ⟨1, ![128]⟩
abbrev S16x128 : Shape := ⟨2, ![16, 128]⟩
abbrev S8x128 : Shape := ⟨2, ![8, 128]⟩
abbrev S5x128 : Shape := ⟨2, ![5, 128]⟩
abbrev S24x128 : Shape := ⟨2, ![24, 128]⟩
abbrev S12x128 : Shape := ⟨2, ![12, 128]⟩
abbrev S4x128 : Shape := ⟨2, ![4, 128]⟩
abbrev S10x128 : Shape := ⟨2, ![10, 128]⟩
abbrev S240x128 : Shape := ⟨2, ![240, 128]⟩
abbrev S1 : Shape := ⟨1, ![1]⟩
abbrev S2x4096x128 : Shape := ⟨3, ![2, 4096, 128]⟩
abbrev S1x2x4096x128 : Shape := ⟨4, ![1, 2, 4096, 128]⟩
abbrev S12x4096 : Shape := ⟨2, ![12, 4096]⟩
abbrev S8x4096 : Shape := ⟨2, ![8, 4096]⟩
abbrev S4x4096 : Shape := ⟨2, ![4, 4096]⟩
abbrev S16x4096 : Shape := ⟨2, ![16, 4096]⟩
abbrev S208x4096 : Shape := ⟨2, ![208, 4096]⟩
abbrev S4096x256 : Shape := ⟨2, ![4096, 256]⟩
abbrev S4096x128 : Shape := ⟨2, ![4096, 128]⟩
abbrev S1x1x4096x128 : Shape := ⟨4, ![1, 1, 4096, 128]⟩
abbrev S48x128 : Shape := ⟨2, ![48, 128]⟩
abbrev S8x128x1 : Shape := ⟨3, ![8, 128, 1]⟩
abbrev S32x128 : Shape := ⟨2, ![32, 128]⟩
abbrev S256x128 : Shape := ⟨2, ![256, 128]⟩
abbrev S128x128 : Shape := ⟨2, ![128, 128]⟩
abbrev S312x128 : Shape := ⟨2, ![312, 128]⟩
abbrev S1x1x128 : Shape := ⟨3, ![1, 1, 128]⟩
abbrev S2x3680x128 : Shape := ⟨3, ![2, 3680, 128]⟩
abbrev S1x2x3680x128 : Shape := ⟨4, ![1, 2, 3680, 128]⟩
abbrev S2x128 : Shape := ⟨2, ![2, 128]⟩
abbrev S1x2x128 : Shape := ⟨3, ![1, 2, 128]⟩

abbrev nBuf : Space → Nat
  | .hbm => 171
  | .vmem => 18
  | .smem => 1
  | _ => 0

abbrev hbmTy0_0 (i : Nat) : BufTy := match i % 128 with
  | 0 => ⟨S2x128x96, .bf16⟩
  | 1 => ⟨S96, .f32⟩
  | 2 => ⟨S700000x48, .i8⟩
  | 3 => ⟨S700000, .bf16⟩
  | 4 => ⟨S700000, .bf16⟩
  | 5 => ⟨S700000x96, .i8⟩
  | 6 => ⟨S2x128x50, .i32⟩
  | 7 => ⟨S50x2x128, .i32⟩
  | 8 => ⟨S12800, .i32⟩
  | 9 => ⟨S12800, .i32⟩
  | 10 => ⟨S12800, .i32⟩
  | 11 => ⟨S12800, .i32⟩
  | 12 => ⟨S_, .i32⟩
  | 13 => ⟨S12800, .i32⟩
  | 14 => ⟨S12800, .i1⟩
  | 15 => ⟨S_, .i32⟩
  | 16 => ⟨S12800, .i32⟩
  | 17 => ⟨S12800, .i32⟩
  | 18 => ⟨S12800, .i32⟩
  | 19 => ⟨S12800x1, .i32⟩
  | 20 => ⟨S12800, .i32⟩
  | 21 => ⟨S_, .i32⟩
  | 22 => ⟨S_, .i32⟩
  | 23 => ⟨S12800, .i32⟩
  | 24 => ⟨S12800, .i32⟩
  | 25 => ⟨S12800, .i32⟩
  | 26 => ⟨S_, .i32⟩
  | 27 => ⟨S12800, .i32⟩
  | 28 => ⟨S12800, .i1⟩
  | 29 => ⟨S12800, .i32⟩
  | 30 => ⟨S12800, .i32⟩
  | 31 => ⟨S_, .i32⟩
  | 32 => ⟨S12800, .i32⟩
  | 33 => ⟨S12800, .i1⟩
  | 34 => ⟨S12800, .i1⟩
  | 35 => ⟨S_, .i32⟩
  | 36 => ⟨S12800, .i32⟩
  | 37 => ⟨S12800, .i32⟩
  | 38 => ⟨S12800, .i32⟩
  | 39 => ⟨S_, .i32⟩
  | 40 => ⟨S171, .i32⟩
  | 41 => ⟨S_, .i32⟩
  | 42 => ⟨S12800, .i32⟩
  | 43 => ⟨S12800, .i1⟩
  | 44 => ⟨S_, .i32⟩
  | 45 => ⟨S12800, .i32⟩
  | 46 => ⟨S12800, .i32⟩
  | 47 => ⟨S12800, .i32⟩
  | 48 => ⟨S12800x1, .i32⟩
  | 49 => ⟨S_, .i32⟩
  | 50 => ⟨S12800, .i32⟩
  | 51 => ⟨S_, .i32⟩
  | 52 => ⟨S_, .i32⟩
  | 53 => ⟨S171, .i32⟩
  | 54 => ⟨S171, .i32⟩
  | 55 => ⟨S12800, .i32⟩
  | 56 => ⟨S_, .i32⟩
  | 57 => ⟨S12800, .i32⟩
  | 58 => ⟨S12800, .i1⟩
  | 59 => ⟨S_, .i32⟩
  | 60 => ⟨S12800, .i32⟩
  | 61 => ⟨S12800, .i32⟩
  | 62 => ⟨S12800, .i32⟩
  | 63 => ⟨S12800x1, .i32⟩
  | 64 => ⟨S12800, .i32⟩
  | 65 => ⟨S12800, .i32⟩
  | 66 => ⟨S_, .i32⟩
  | 67 => ⟨S12800, .i32⟩
  | 68 => ⟨S12800, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S12800, .i32⟩
  | 76 => ⟨S12800, .i32⟩
  | 77 => ⟨S_, .i32⟩
  | 78 => ⟨S12800, .i32⟩
  | 79 => ⟨S12800, .i1⟩
  | 80 => ⟨S_, .i32⟩
  | 81 => ⟨S12800, .i32⟩
  | 82 => ⟨S12800, .i1⟩
  | 83 => ⟨S_, .i32⟩
  | 84 => ⟨S_, .i1⟩
  | 85 => ⟨S12800, .i1⟩
  | 86 => ⟨S12800, .i1⟩
  | 87 => ⟨S12800, .i1⟩
  | 88 => ⟨S12800, .i32⟩
  | 89 => ⟨S12800, .i32⟩
  | 90 => ⟨S12800, .i32⟩
  | 91 => ⟨S12800, .i32⟩
  | 92 => ⟨S_, .i32⟩
  | 93 => ⟨S176x128, .i32⟩
  | 94 => ⟨S_, .i32⟩
  | 95 => ⟨S12800, .i32⟩
  | 96 => ⟨S12800, .i1⟩
  | 97 => ⟨S_, .i32⟩
  | 98 => ⟨S_, .i32⟩
  | 99 => ⟨S12800, .i32⟩
  | 100 => ⟨S12800, .i32⟩
  | 101 => ⟨S_, .i32⟩
  | 102 => ⟨S12800, .i32⟩
  | 103 => ⟨S12800, .i1⟩
  | 104 => ⟨S_, .i32⟩
  | 105 => ⟨S12800, .i32⟩
  | 106 => ⟨S12800, .i32⟩
  | 107 => ⟨S12800, .i32⟩
  | 108 => ⟨S_, .i32⟩
  | 109 => ⟨S12800, .i32⟩
  | 110 => ⟨S12800, .i1⟩
  | 111 => ⟨S_, .i32⟩
  | 112 => ⟨S12800, .i32⟩
  | 113 => ⟨S12800, .i32⟩
  | 114 => ⟨S12800, .i32⟩
  | 115 => ⟨S12800x1, .i32⟩
  | 116 => ⟨S12800x1, .i32⟩
  | 117 => ⟨S12800x2, .i32⟩
  | 118 => ⟨S176x128, .i32⟩
  | 119 => ⟨S_, .i32⟩
  | 120 => ⟨S171x100x128, .i32⟩
  | 121 => ⟨S_, .i32⟩
  | 122 => ⟨S12800, .i32⟩
  | 123 => ⟨S12800, .i1⟩
  | 124 => ⟨S_, .i32⟩
  | 125 => ⟨S12800, .i32⟩
  | 126 => ⟨S12800, .i32⟩
  | 127 => ⟨S_, .i32⟩
  | _ => ⟨S2x128x96, .bf16⟩

abbrev hbmTy0_1 (i : Nat) : BufTy := match i % 128 with
  | 0 => ⟨S12800, .i32⟩
  | 1 => ⟨S12800, .i32⟩
  | 2 => ⟨S_, .i32⟩
  | 3 => ⟨S_, .i32⟩
  | 4 => ⟨S12800, .i32⟩
  | 5 => ⟨S12800, .i32⟩
  | 6 => ⟨S_, .i32⟩
  | 7 => ⟨S12800, .i32⟩
  | 8 => ⟨S12800, .i32⟩
  | 9 => ⟨S_, .i32⟩
  | 10 => ⟨S12800, .i32⟩
  | 11 => ⟨S12800, .i1⟩
  | 12 => ⟨S_, .i32⟩
  | 13 => ⟨S12800, .i32⟩
  | 14 => ⟨S12800, .i32⟩
  | 15 => ⟨S12800, .i32⟩
  | 16 => ⟨S_, .i32⟩
  | 17 => ⟨S12800, .i32⟩
  | 18 => ⟨S12800, .i1⟩
  | 19 => ⟨S_, .i32⟩
  | 20 => ⟨S12800, .i32⟩
  | 21 => ⟨S12800, .i32⟩
  | 22 => ⟨S12800, .i32⟩
  | 23 => ⟨S_, .i32⟩
  | 24 => ⟨S12800, .i32⟩
  | 25 => ⟨S12800, .i1⟩
  | 26 => ⟨S_, .i32⟩
  | 27 => ⟨S12800, .i32⟩
  | 28 => ⟨S12800, .i32⟩
  | 29 => ⟨S12800, .i32⟩
  | 30 => ⟨S12800x1, .i32⟩
  | 31 => ⟨S12800x1, .i32⟩
  | 32 => ⟨S12800x1, .i32⟩
  | 33 => ⟨S12800x3, .i32⟩
  | 34 => ⟨S171x100x128, .i32⟩
  | 35 => ⟨S2x96x128, .bf16⟩
  | 36 => ⟨S1x96, .f32⟩
  | 37 => ⟨S48x700000, .i8⟩
  | 38 => ⟨S96x700000, .i8⟩
  | 39 => ⟨S1x700000, .bf16⟩
  | 40 => ⟨S1x700000, .bf16⟩
  | 41 => ⟨S2x700000x128, .f32⟩
  | 42 => ⟨S50x2x128, .f32⟩
  | _ => ⟨S2x128x96, .bf16⟩

abbrev hbmTy (i : Nat) : BufTy := match i / 128 with
  | 0 => hbmTy0_0 i
  | 1 => hbmTy0_1 i
  | _ => ⟨S2x128x96, .bf16⟩

abbrev bufTy : (tb : Table) → Fin (tcTables nBuf tb) → BufTy
  | .hbm, ⟨i, _⟩ => hbmTy i
  | .local _ .vmem, ⟨0, _⟩ => ⟨S2x96x128, .bf16⟩
  | .local _ .vmem, ⟨1, _⟩ => ⟨S1x96, .f32⟩
  | .local _ .vmem, ⟨2, _⟩ => ⟨S48x4096, .i8⟩
  | .local _ .vmem, ⟨3, _⟩ => ⟨S48x4096, .i8⟩
  | .local _ .vmem, ⟨4, _⟩ => ⟨S96x4096, .i8⟩
  | .local _ .vmem, ⟨5, _⟩ => ⟨S96x4096, .i8⟩
  | .local _ .vmem, ⟨6, _⟩ => ⟨S1x4096, .bf16⟩
  | .local _ .vmem, ⟨7, _⟩ => ⟨S1x4096, .bf16⟩
  | .local _ .vmem, ⟨8, _⟩ => ⟨S1x4096, .bf16⟩
  | .local _ .vmem, ⟨9, _⟩ => ⟨S1x4096, .bf16⟩
  | .local _ .vmem, ⟨10, _⟩ => ⟨S176x128, .i32⟩
  | .local _ .vmem, ⟨11, _⟩ => ⟨S50x2x128, .f32⟩
  | .local _ .vmem, ⟨12, _⟩ => ⟨S96x128, .f32⟩
  | .local _ .vmem, ⟨13, _⟩ => ⟨S208x256, .bf16⟩
  | .local _ .vmem, ⟨14, _⟩ => ⟨S240x256, .bf16⟩
  | .local _ .vmem, ⟨15, _⟩ => ⟨S104x128, .f32⟩
  | .local _ .vmem, ⟨16, _⟩ => ⟨S1x128, .i32⟩
  | .local _ .vmem, ⟨17, _⟩ => ⟨S4x2x4096x128, .f32⟩
  | .local _ .smem, ⟨0, _⟩ => ⟨S171, .i32⟩
  | _, _ => ⟨S2x128x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1_0 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_c : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_0 : Ref sig .tc := ⟨.hbm, 35, rfl⟩
abbrev main_call1_v12 : Ref sig .tc := ⟨.hbm, 36, rfl⟩
abbrev main_call1_v13 : Ref sig .tc := ⟨.hbm, 37, rfl⟩
abbrev main_v10 : Ref sig .tc := ⟨.hbm, 38, rfl⟩
abbrev main_c_2 : Ref sig .tc := ⟨.hbm, 39, rfl⟩
abbrev main_v11 : Ref sig .tc := ⟨.hbm, 40, rfl⟩
abbrev main_c_3 : Ref sig .tc := ⟨.hbm, 41, rfl⟩
abbrev main_v12 : Ref sig .tc := ⟨.hbm, 42, rfl⟩
abbrev main_v13 : Ref sig .tc := ⟨.hbm, 43, rfl⟩
abbrev main_c_4 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_c_5 : Ref sig .tc := ⟨.hbm, 49, rfl⟩
abbrev main_v18 : Ref sig .tc := ⟨.hbm, 50, rfl⟩
abbrev main_call2_call0_c : Ref sig .tc := ⟨.hbm, 51, rfl⟩
abbrev main_call2_call0_v0 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_c_6 : Ref sig .tc := ⟨.hbm, 56, rfl⟩
abbrev main_v23 : Ref sig .tc := ⟨.hbm, 57, rfl⟩
abbrev main_v24 : Ref sig .tc := ⟨.hbm, 58, rfl⟩
abbrev main_c_7 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_c_8 : Ref sig .tc := ⟨.hbm, 66, rfl⟩
abbrev main_v31 : Ref sig .tc := ⟨.hbm, 67, rfl⟩
abbrev main_v32 : Ref sig .tc := ⟨.hbm, 68, rfl⟩
abbrev main_c_9 : Ref sig .tc := ⟨.hbm, 69, rfl⟩
abbrev main_call3_v0 : Ref sig .tc := ⟨.hbm, 70, rfl⟩
abbrev main_call3_c : Ref sig .tc := ⟨.hbm, 71, rfl⟩
abbrev main_call3_v1 : Ref sig .tc := ⟨.hbm, 72, rfl⟩
abbrev main_call3_c_0 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_c_1 : Ref sig .tc := ⟨.hbm, 77, rfl⟩
abbrev main_call3_v5 : Ref sig .tc := ⟨.hbm, 78, rfl⟩
abbrev main_call3_v6 : Ref sig .tc := ⟨.hbm, 79, rfl⟩
abbrev main_call3_c_2 : Ref sig .tc := ⟨.hbm, 80, rfl⟩
abbrev main_call3_v7 : Ref sig .tc := ⟨.hbm, 81, rfl⟩
abbrev main_call3_v8 : Ref sig .tc := ⟨.hbm, 82, rfl⟩
abbrev main_call3_c_3 : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_call3_v12 : Ref sig .tc := ⟨.hbm, 87, rfl⟩
abbrev main_call3_v13 : Ref sig .tc := ⟨.hbm, 88, rfl⟩
abbrev main_call3_v14 : Ref sig .tc := ⟨.hbm, 89, rfl⟩
abbrev main_v33 : Ref sig .tc := ⟨.hbm, 90, rfl⟩
abbrev main_v34 : Ref sig .tc := ⟨.hbm, 91, rfl⟩
abbrev main_c_10 : Ref sig .tc := ⟨.hbm, 92, rfl⟩
abbrev main_v35 : Ref sig .tc := ⟨.hbm, 93, rfl⟩
abbrev main_c_11 : Ref sig .tc := ⟨.hbm, 94, rfl⟩
abbrev main_v36 : Ref sig .tc := ⟨.hbm, 95, rfl⟩
abbrev main_v37 : Ref sig .tc := ⟨.hbm, 96, rfl⟩
abbrev main_c_12 : Ref sig .tc := ⟨.hbm, 97, rfl⟩
abbrev main_call4_v0 : Ref sig .tc := ⟨.hbm, 98, rfl⟩
abbrev main_call4_v1 : Ref sig .tc := ⟨.hbm, 99, rfl⟩
abbrev main_v38 : Ref sig .tc := ⟨.hbm, 100, rfl⟩
abbrev main_c_13 : Ref sig .tc := ⟨.hbm, 101, rfl⟩
abbrev main_v39 : Ref sig .tc := ⟨.hbm, 102, rfl⟩
abbrev main_v40 : Ref sig .tc := ⟨.hbm, 103, rfl⟩
abbrev main_c_14 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_c_15 : Ref sig .tc := ⟨.hbm, 108, rfl⟩
abbrev main_v44 : Ref sig .tc := ⟨.hbm, 109, rfl⟩
abbrev main_v45 : Ref sig .tc := ⟨.hbm, 110, rfl⟩
abbrev main_c_16 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_c_17 : Ref sig .tc := ⟨.hbm, 119, rfl⟩
abbrev main_v53 : Ref sig .tc := ⟨.hbm, 120, rfl⟩
abbrev main_c_18 : Ref sig .tc := ⟨.hbm, 121, rfl⟩
abbrev main_v54 : Ref sig .tc := ⟨.hbm, 122, rfl⟩
abbrev main_v55 : Ref sig .tc := ⟨.hbm, 123, rfl⟩
abbrev main_c_19 : Ref sig .tc := ⟨.hbm, 124, rfl⟩
abbrev main_v56 : Ref sig .tc := ⟨.hbm, 125, rfl⟩
abbrev main_v57 : Ref sig .tc := ⟨.hbm, 126, rfl⟩
abbrev main_c_20 : Ref sig .tc := ⟨.hbm, 127, rfl⟩
abbrev main_v58 : Ref sig .tc := ⟨.hbm, 128, rfl⟩
abbrev main_v59 : Ref sig .tc := ⟨.hbm, 129, rfl⟩
abbrev main_c_21 : Ref sig .tc := ⟨.hbm, 130, rfl⟩
abbrev main_call5_v0 : Ref sig .tc := ⟨.hbm, 131, rfl⟩
abbrev main_call5_v1 : Ref sig .tc := ⟨.hbm, 132, rfl⟩
abbrev main_v60 : Ref sig .tc := ⟨.hbm, 133, rfl⟩
abbrev main_c_22 : Ref sig .tc := ⟨.hbm, 134, rfl⟩
abbrev main_v61 : Ref sig .tc := ⟨.hbm, 135, rfl⟩
abbrev main_v62 : Ref sig .tc := ⟨.hbm, 136, rfl⟩
abbrev main_c_23 : Ref sig .tc := ⟨.hbm, 137, rfl⟩
abbrev main_v63 : Ref sig .tc := ⟨.hbm, 138, rfl⟩
abbrev main_v64 : Ref sig .tc := ⟨.hbm, 139, rfl⟩
abbrev main_c_24 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_c_25 : Ref sig .tc := ⟨.hbm, 144, rfl⟩
abbrev main_v68 : Ref sig .tc := ⟨.hbm, 145, rfl⟩
abbrev main_v69 : Ref sig .tc := ⟨.hbm, 146, rfl⟩
abbrev main_c_26 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_c_27 : Ref sig .tc := ⟨.hbm, 151, rfl⟩
abbrev main_v73 : Ref sig .tc := ⟨.hbm, 152, rfl⟩
abbrev main_v74 : Ref sig .tc := ⟨.hbm, 153, rfl⟩
abbrev main_c_28 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89_0 : Ref sig .tc := ⟨.hbm, 169, rfl⟩
abbrev main_v89_1 : Ref sig .tc := ⟨.hbm, 170, rfl⟩
abbrev main_v19 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![171], ![false]⟩

abbrev pre0 : Pipeline.Prefetch sig := ⟨1, ![main_v19.idx], fun | 0 => main_v19.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg0 : BitVec 32 := BitVec.ofNat 32 (i 0).val
  let c4_i32 : BitVec 32 := 4#32
  let v3 : BitVec 1 := Scalar.cmpi .sge arg0 c4_i32
  let v4 : BitVec 32 := Scalar.extui v3
  let c0_i32_1 : BitVec 32 := 0#32
  let v5 : BitVec 1 := Scalar.cmpi .ne v4 c0_i32_1
  v5

def k0_off1 (i : grid0.Coords) : Fin 1 → Nat :=
  let arg0 : BitVec 32 := BitVec.ofNat 32 (i 0).val
  let c4_i32_588 : BitVec 32 := 4#32
  let v2563 : BitVec 32 := Scalar.subi arg0 c4_i32_588
  let c4_i32_589 : BitVec 32 := 4#32
  let c0_i32_590 : BitVec 32 := 0#32
  let v2564 : BitVec 1 := Scalar.cmpi .eq c4_i32_589 c0_i32_590
  let c1_i32_591 : BitVec 32 := 1#32
  let v2565 : BitVec 32 := Scalar.select v2564 c1_i32_591 c4_i32_589
  let v2566 : BitVec 32 := Scalar.remsi v2563 v2565
  let c0_i32_593 : BitVec 32 := 0#32
  let v2568 : BitVec 1 := Scalar.cmpi .slt v2566 c0_i32_593
  let c0_i32_594 : BitVec 32 := 0#32
  let v2569 : BitVec 1 := Scalar.cmpi .slt v2565 c0_i32_594
  let v2570 : BitVec 1 := Scalar.xori v2568 v2569
  let c0_i32_592 : BitVec 32 := 0#32
  let v2567 : BitVec 1 := Scalar.cmpi .ne v2566 c0_i32_592
  let v2571 : BitVec 1 := Scalar.andi v2570 v2567
  let v2572 : BitVec 32 := Scalar.addi v2566 v2565
  let v2573 : BitVec 32 := Scalar.select v2571 v2572 v2566
  ![v2573.toNat]
def k0_off2 (i : grid0.Coords) : Fin 3 → Nat :=
  let c0_i32_595 : BitVec 32 := 0#32
  let arg0 : BitVec 32 := BitVec.ofNat 32 (i 0).val
  let c4_i32_588 : BitVec 32 := 4#32
  let v2563 : BitVec 32 := Scalar.subi arg0 c4_i32_588
  let c4096_i32 : BitVec 32 := 4096#32
  let v2574 : BitVec 32 := Scalar.muli v2563 c4096_i32
  let c0_i32_596 : BitVec 32 := 0#32
  ![0, v2574.toNat, 0]
def k0_off3 (i : grid0.Coords) : Fin 4 → Nat :=
  let arg0 : BitVec 32 := BitVec.ofNat 32 (i 0).val
  let c4_i32_588 : BitVec 32 := 4#32
  let v2563 : BitVec 32 := Scalar.subi arg0 c4_i32_588
  let c4_i32_589 : BitVec 32 := 4#32
  let c0_i32_590 : BitVec 32 := 0#32
  let v2564 : BitVec 1 := Scalar.cmpi .eq c4_i32_589 c0_i32_590
  let c1_i32_591 : BitVec 32 := 1#32
  let v2565 : BitVec 32 := Scalar.select v2564 c1_i32_591 c4_i32_589
  let v2566 : BitVec 32 := Scalar.remsi v2563 v2565
  let c0_i32_593 : BitVec 32 := 0#32
  let v2568 : BitVec 1 := Scalar.cmpi .slt v2566 c0_i32_593
  let c0_i32_594 : BitVec 32 := 0#32
  let v2569 : BitVec 1 := Scalar.cmpi .slt v2565 c0_i32_594
  let v2570 : BitVec 1 := Scalar.xori v2568 v2569
  let c0_i32_592 : BitVec 32 := 0#32
  let v2567 : BitVec 1 := Scalar.cmpi .ne v2566 c0_i32_592
  let v2571 : BitVec 1 := Scalar.andi v2570 v2567
  let v2572 : BitVec 32 := Scalar.addi v2566 v2565
  let v2573 : BitVec 32 := Scalar.select v2571 v2572 v2566
  let c0_i32_597 : BitVec 32 := 0#32
  let c0_i32_598 : BitVec 32 := 0#32
  let c0_i32_599 : BitVec 32 := 0#32
  ![v2573.toNat, 0, 0, 0]
def k0_off4 (i : grid0.Coords) : Fin 4 → Nat :=
  let arg0 : BitVec 32 := BitVec.ofNat 32 (i 0).val
  let c4_i32_35 : BitVec 32 := 4#32
  let c0_i32_36 : BitVec 32 := 0#32
  let v155 : BitVec 1 := Scalar.cmpi .eq c4_i32_35 c0_i32_36
  let c1_i32 : BitVec 32 := 1#32
  let v156 : BitVec 32 := Scalar.select v155 c1_i32 c4_i32_35
  let v157 : BitVec 32 := Scalar.remsi arg0 v156
  let c0_i32_38 : BitVec 32 := 0#32
  let v159 : BitVec 1 := Scalar.cmpi .slt v157 c0_i32_38
  let c0_i32_39 : BitVec 32 := 0#32
  let v160 : BitVec 1 := Scalar.cmpi .slt v156 c0_i32_39
  let v161 : BitVec 1 := Scalar.xori v159 v160
  let c0_i32_37 : BitVec 32 := 0#32
  let v158 : BitVec 1 := Scalar.cmpi .ne v157 c0_i32_37
  let v162 : BitVec 1 := Scalar.andi v161 v158
  let v163 : BitVec 32 := Scalar.addi v157 v156
  let v164 : BitVec 32 := Scalar.select v162 v163 v157
  let v166 : Index := Scalar.indexCast v164
  let c0_40 : Index := 0#32
  let c0_41 : Index := 0#32
  let c0_42 : Index := 0#32
  ![v166.toNat, 0, 0, 0]
def k0_off5 (i : grid0.Coords) : Fin 4 → Nat :=
  let arg0 : BitVec 32 := BitVec.ofNat 32 (i 0).val
  let c4_i32_35 : BitVec 32 := 4#32
  let c0_i32_36 : BitVec 32 := 0#32
  let v155 : BitVec 1 := Scalar.cmpi .eq c4_i32_35 c0_i32_36
  let c1_i32 : BitVec 32 := 1#32
  let v156 : BitVec 32 := Scalar.select v155 c1_i32 c4_i32_35
  let v157 : BitVec 32 := Scalar.remsi arg0 v156
  let c0_i32_38 : BitVec 32 := 0#32
  let v159 : BitVec 1 := Scalar.cmpi .slt v157 c0_i32_38
  let c0_i32_39 : BitVec 32 := 0#32
  let v160 : BitVec 1 := Scalar.cmpi .slt v156 c0_i32_39
  let v161 : BitVec 1 := Scalar.xori v159 v160
  let c0_i32_37 : BitVec 32 := 0#32
  let v158 : BitVec 1 := Scalar.cmpi .ne v157 c0_i32_37
  let v162 : BitVec 1 := Scalar.andi v161 v158
  let v163 : BitVec 32 := Scalar.addi v157 v156
  let v164 : BitVec 32 := Scalar.select v162 v163 v157
  let v171 : Index := Scalar.indexCast v164
  let c1 : Index := 1#32
  let c0_43 : Index := 0#32
  let c0_44 : Index := 0#32
  ![v171.toNat, 1, 0, 0]
def k0_off6 (i : grid0.Coords) : Fin 2 → Nat :=
  let arg0 : BitVec 32 := BitVec.ofNat 32 (i 0).val
  let v175 : Index := Scalar.indexCast arg0
  let c0_45 : Index := 0#32
  ![v175.toNat, 0]
def k0_cond3 (i : grid0.Coords) : BitVec 1 :=
  let arg0 : BitVec 32 := BitVec.ofNat 32 (i 0).val
  let c170_i32 : BitVec 32 := 170#32
  let v2546 : BitVec 1 := Scalar.cmpi .slt arg0 c170_i32
  let v2547 : BitVec 32 := Scalar.extui v2546
  let c0_i32_578 : BitVec 32 := 0#32
  let v2548 : BitVec 1 := Scalar.cmpi .ne v2547 c0_i32_578
  v2548

def k0_off7 (i : grid0.Coords) : Fin 1 → Nat :=
  let arg0 : BitVec 32 := BitVec.ofNat 32 (i 0).val
  let c4_i32_588 : BitVec 32 := 4#32
  let c0_i32_589 : BitVec 32 := 0#32
  let v2563 : BitVec 1 := Scalar.cmpi .eq c4_i32_588 c0_i32_589
  let c1_i32_590 : BitVec 32 := 1#32
  let v2564 : BitVec 32 := Scalar.select v2563 c1_i32_590 c4_i32_588
  let v2565 : BitVec 32 := Scalar.remsi arg0 v2564
  let c0_i32_592 : BitVec 32 := 0#32
  let v2567 : BitVec 1 := Scalar.cmpi .slt v2565 c0_i32_592
  let c0_i32_593 : BitVec 32 := 0#32
  let v2568 : BitVec 1 := Scalar.cmpi .slt v2564 c0_i32_593
  let v2569 : BitVec 1 := Scalar.xori v2567 v2568
  let c0_i32_591 : BitVec 32 := 0#32
  let v2566 : BitVec 1 := Scalar.cmpi .ne v2565 c0_i32_591
  let v2570 : BitVec 1 := Scalar.andi v2569 v2566
  let v2571 : BitVec 32 := Scalar.addi v2565 v2564
  let v2572 : BitVec 32 := Scalar.select v2570 v2571 v2565
  ![v2572.toNat]
def k0_off8 (i : grid0.Coords) : Fin 3 → Nat :=
  let c0_i32_594 : BitVec 32 := 0#32
  let arg0 : BitVec 32 := BitVec.ofNat 32 (i 0).val
  let c4096_i32 : BitVec 32 := 4096#32
  let v2573 : BitVec 32 := Scalar.muli arg0 c4096_i32
  let c0_i32_595 : BitVec 32 := 0#32
  ![0, v2573.toNat, 0]
def k0_off9 (i : grid0.Coords) : Fin 4 → Nat :=
  let arg0 : BitVec 32 := BitVec.ofNat 32 (i 0).val
  let c4_i32_588 : BitVec 32 := 4#32
  let c0_i32_589 : BitVec 32 := 0#32
  let v2563 : BitVec 1 := Scalar.cmpi .eq c4_i32_588 c0_i32_589
  let c1_i32_590 : BitVec 32 := 1#32
  let v2564 : BitVec 32 := Scalar.select v2563 c1_i32_590 c4_i32_588
  let v2565 : BitVec 32 := Scalar.remsi arg0 v2564
  let c0_i32_592 : BitVec 32 := 0#32
  let v2567 : BitVec 1 := Scalar.cmpi .slt v2565 c0_i32_592
  let c0_i32_593 : BitVec 32 := 0#32
  let v2568 : BitVec 1 := Scalar.cmpi .slt v2564 c0_i32_593
  let v2569 : BitVec 1 := Scalar.xori v2567 v2568
  let c0_i32_591 : BitVec 32 := 0#32
  let v2566 : BitVec 1 := Scalar.cmpi .ne v2565 c0_i32_591
  let v2570 : BitVec 1 := Scalar.andi v2569 v2566
  let v2571 : BitVec 32 := Scalar.addi v2565 v2564
  let v2572 : BitVec 32 := Scalar.select v2570 v2571 v2565
  let c0_i32_596 : BitVec 32 := 0#32
  let c0_i32_597 : BitVec 32 := 0#32
  let c0_i32_598 : BitVec 32 := 0#32
  ![v2572.toNat, 0, 0, 0]
def k0_off10 (i : grid0.Coords) : Fin 1 → Nat :=
  let arg0 : BitVec 32 := BitVec.ofNat 32 (i 0).val
  let v2549 : Index := Scalar.indexCast arg0
  ![v2549.toNat]
@[reducible] def k0_t1_loop (v2550 : BitVec 32) : Scf.Loop 32 :=
  let c0_i32_581 : BitVec 32 := 0#32
  let c1_i32_579 : BitVec 32 := 1#32
  let v2551 : BitVec 32 := Scalar.subi v2550 c1_i32_579
  let c7_i32_580 : BitVec 32 := 7#32
  let v2552 : BitVec 32 := Scalar.shrsi v2551 c7_i32_580
  let v2553 : BitVec 32 := Scalar.subi v2552 c0_i32_581
  let c1_i32_583 : BitVec 32 := 1#32
  let v2555 : BitVec 32 := Scalar.divsi v2553 c1_i32_583
  let v2556 : BitVec 32 := Scalar.muli v2555 c1_i32_583
  let v2557 : BitVec 32 := Scalar.addi c0_i32_581 v2556
  let c1_i32_584 : BitVec 32 := 1#32
  ⟨c0_i32_581, v2557, c1_i32_584⟩

def k0_off11 (i : grid0.Coords) (v2550 : BitVec 32) (k0_t1 : Fin (k0_t1_loop v2550).trips) : Fin 3 → Nat :=
  let arg0 : BitVec 32 := BitVec.ofNat 32 (i 0).val
  let c0_i32_581 : BitVec 32 := 0#32
  let c1_i32_584 : BitVec 32 := 1#32
  let arg20 : BitVec 32 := Scf.iv c0_i32_581 c1_i32_584 k0_t1
  let c0_i32_588 : BitVec 32 := 0#32
  ![arg0.toNat, arg20.toNat, 0]
@[reducible] def k0_t2_loop (v2550 : BitVec 32) : Scf.Loop 32 :=
  let c0_i32_581 : BitVec 32 := 0#32
  let c1_i32_579 : BitVec 32 := 1#32
  let v2551 : BitVec 32 := Scalar.subi v2550 c1_i32_579
  let c7_i32_580 : BitVec 32 := 7#32
  let v2552 : BitVec 32 := Scalar.shrsi v2551 c7_i32_580
  let v2553 : BitVec 32 := Scalar.subi v2552 c0_i32_581
  let c1_i32_583 : BitVec 32 := 1#32
  let v2555 : BitVec 32 := Scalar.divsi v2553 c1_i32_583
  let v2556 : BitVec 32 := Scalar.muli v2555 c1_i32_583
  let v2557 : BitVec 32 := Scalar.addi c0_i32_581 v2556
  let v2554 : BitVec 32 := Scalar.addi c0_i32_581 v2553
  let c1_i32_585 : BitVec 32 := 1#32
  ⟨v2557, v2554, c1_i32_585⟩
def k0_off12 (i : grid0.Coords) (v2550 : BitVec 32) (k0_t2 : Fin (k0_t2_loop v2550).trips) : Fin 3 → Nat :=
  let arg0 : BitVec 32 := BitVec.ofNat 32 (i 0).val
  let c0_i32_581 : BitVec 32 := 0#32
  let c1_i32_579 : BitVec 32 := 1#32
  let v2551 : BitVec 32 := Scalar.subi v2550 c1_i32_579
  let c7_i32_580 : BitVec 32 := 7#32
  let v2552 : BitVec 32 := Scalar.shrsi v2551 c7_i32_580
  let v2553 : BitVec 32 := Scalar.subi v2552 c0_i32_581
  let c1_i32_583 : BitVec 32 := 1#32
  let v2555 : BitVec 32 := Scalar.divsi v2553 c1_i32_583
  let v2556 : BitVec 32 := Scalar.muli v2555 c1_i32_583
  let v2557 : BitVec 32 := Scalar.addi c0_i32_581 v2556
  let c1_i32_585 : BitVec 32 := 1#32
  let arg20 : BitVec 32 := Scf.iv v2557 c1_i32_585 k0_t2
  let c0_i32_588 : BitVec 32 := 0#32
  ![arg0.toNat, arg20.toNat, 0]

def k0_chk1 (i : grid0.Coords) (v2550 : BitVec 32) : Prop :=
  ((k0_t1_loop v2550).OK) ∧
  (∀ k0_t1 : Fin (k0_t1_loop v2550).trips, ∀ a, (k0_off11 i v2550 k0_t1) a + S1x1x128.size a ≤ S171x100x128.size a) ∧
  ((k0_t2_loop v2550).OK) ∧
  (∀ k0_t2 : Fin (k0_t2_loop v2550).trips, ∀ a, (k0_off12 i v2550 k0_t2) a + S1x1x128.size a ≤ S171x100x128.size a)
theorem k0_t1_ok : ∀ (i : grid0.Coords) (v2550 : BitVec 32) (k0_hw1 : k0_chk1 i v2550), (k0_t1_loop v2550).OK := fun i v2550 k0_hw1 => k0_hw1.1
theorem k0_off11_inb : ∀ (i : grid0.Coords) (v2550 : BitVec 32) (k0_hw1 : k0_chk1 i v2550) (k0_t1 : Fin (k0_t1_loop v2550).trips), ∀ a, (k0_off11 i v2550 k0_t1) a + S1x1x128.size a ≤ S171x100x128.size a := fun i v2550 k0_hw1 k0_t1 => k0_hw1.2.1 k0_t1
theorem k0_t2_ok : ∀ (i : grid0.Coords) (v2550 : BitVec 32) (k0_hw1 : k0_chk1 i v2550), (k0_t2_loop v2550).OK := fun i v2550 k0_hw1 => k0_hw1.2.2.1
theorem k0_off12_inb : ∀ (i : grid0.Coords) (v2550 : BitVec 32) (k0_hw1 : k0_chk1 i v2550) (k0_t2 : Fin (k0_t2_loop v2550).trips), ∀ a, (k0_off12 i v2550 k0_t2) a + S1x1x128.size a ≤ S171x100x128.size a := fun i v2550 k0_hw1 k0_t2 => k0_hw1.2.2.2 k0_t2

def k0_cond4 (i : grid0.Coords) : BitVec 1 :=
  let arg0 : BitVec 32 := BitVec.ofNat 32 (i 0).val
  let c170_i32_586 : BitVec 32 := 170#32
  let v2560 : BitVec 1 := Scalar.cmpi .eq arg0 c170_i32_586
  let v2561 : BitVec 32 := Scalar.extui v2560
  let c0_i32_587 : BitVec 32 := 0#32
  let v2562 : BitVec 1 := Scalar.cmpi .ne v2561 c0_i32_587
  v2562

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2x96x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S48x4096 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S96x4096 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S176x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S50x2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S2x128x96 : Shape := ⟨3, ![2, 128, 96]⟩
abbrev S96 : Shape := ⟨1, ![96]⟩
abbrev S700000x48 : Shape := ⟨2, ![700000, 48]⟩
abbrev S700000 : Shape := ⟨1, ![700000]⟩
abbrev S700000x96 : Shape := ⟨2, ![700000, 96]⟩
abbrev S2x128x50 : Shape := ⟨3, ![2, 128, 50]⟩
abbrev S_ : Shape := ⟨0, ![]⟩
abbrev S2x128 : Shape := ⟨2, ![2, 128]⟩
abbrev S2x128x48 : Shape := ⟨3, ![2, 128, 48]⟩
abbrev S2x128x700000 : Shape := ⟨3, ![2, 128, 700000]⟩
abbrev S2x128x1 : Shape := ⟨3, ![2, 128, 1]⟩
abbrev S1x1x700000 : Shape := ⟨3, ![1, 1, 700000]⟩
abbrev S2x128x50x1 : Shape := ⟨4, ![2, 128, 50, 1]⟩
abbrev S1 : Shape := ⟨1, ![1]⟩
abbrev S1x1x1x1 : Shape := ⟨4, ![1, 1, 1, 1]⟩
abbrev S2x128x50x96 : Shape := ⟨4, ![2, 128, 50, 96]⟩
abbrev S2x700000x128 : Shape := ⟨3, ![2, 700000, 128]⟩
abbrev S50x2x128 : Shape := ⟨3, ![50, 2, 128]⟩

abbrev nBuf : Space → Nat
  | .hbm => 95
  | .vmem => 0
  | .smem => 0
  | _ => 0

abbrev bufTy : (tb : Table) → Fin (tcTables nBuf tb) → BufTy
  | .hbm, ⟨0, _⟩ => ⟨S2x128x96, .bf16⟩
  | .hbm, ⟨1, _⟩ => ⟨S96, .f32⟩
  | .hbm, ⟨2, _⟩ => ⟨S700000x48, .i8⟩
  | .hbm, ⟨3, _⟩ => ⟨S700000, .bf16⟩
  | .hbm, ⟨4, _⟩ => ⟨S700000, .bf16⟩
  | .hbm, ⟨5, _⟩ => ⟨S700000x96, .i8⟩
  | .hbm, ⟨6, _⟩ => ⟨S2x128x50, .i32⟩
  | .hbm, ⟨7, _⟩ => ⟨S2x128x96, .f32⟩
  | .hbm, ⟨8, _⟩ => ⟨S_, .f32⟩
  | .hbm, ⟨9, _⟩ => ⟨S2x128, .f32⟩
  | .hbm, ⟨10, _⟩ => ⟨S2x128, .f32⟩
  | .hbm, ⟨11, _⟩ => ⟨S700000x48, .i32⟩
  | .hbm, ⟨12, _⟩ => ⟨S2x128x48, .bf16⟩
  | .hbm, ⟨13, _⟩ => ⟨S2x128x48, .bf16⟩
  | .hbm, ⟨14, _⟩ => ⟨S2x128x96, .bf16⟩
  | .hbm, ⟨15, _⟩ => ⟨S_, .i32⟩
  | .hbm, ⟨16, _⟩ => ⟨S700000x48, .i32⟩
  | .hbm, ⟨17, _⟩ => ⟨S700000x48, .i32⟩
  | .hbm, ⟨18, _⟩ => ⟨S700000x48, .bf16⟩
  | .hbm, ⟨19, _⟩ => ⟨S_, .i32⟩
  | .hbm, ⟨20, _⟩ => ⟨S700000x48, .i32⟩
  | .hbm, ⟨21, _⟩ => ⟨S700000x48, .i32⟩
  | .hbm, ⟨22, _⟩ => ⟨S700000x48, .bf16⟩
  | .hbm, ⟨23, _⟩ => ⟨S700000x96, .bf16⟩
  | .hbm, ⟨24, _⟩ => ⟨S2x128x700000, .f32⟩
  | .hbm, ⟨25, _⟩ => ⟨S700000, .f32⟩
  | .hbm, ⟨26, _⟩ => ⟨S700000, .f32⟩
  | .hbm, ⟨27, _⟩ => ⟨S2x128x1, .f32⟩
  | .hbm, ⟨28, _⟩ => ⟨S2x128x1, .f32⟩
  | .hbm, ⟨29, _⟩ => ⟨S1x1x700000, .f32⟩
  | .hbm, ⟨30, _⟩ => ⟨S2x128x700000, .f32⟩
  | .hbm, ⟨31, _⟩ => ⟨S2x128x700000, .f32⟩
  | .hbm, ⟨32, _⟩ => ⟨S2x128x700000, .f32⟩
  | .hbm, ⟨33, _⟩ => ⟨S2x128x700000, .f32⟩
  | .hbm, ⟨34, _⟩ => ⟨S2x128x700000, .f32⟩
  | .hbm, ⟨35, _⟩ => ⟨S1x1x700000, .f32⟩
  | .hbm, ⟨36, _⟩ => ⟨S2x128x700000, .f32⟩
  | .hbm, ⟨37, _⟩ => ⟨S2x128x700000, .f32⟩
  | .hbm, ⟨38, _⟩ => ⟨S2x128x700000, .f32⟩
  | .hbm, ⟨39, _⟩ => ⟨S_, .i32⟩
  | .hbm, ⟨40, _⟩ => ⟨S2x128x50, .i32⟩
  | .hbm, ⟨41, _⟩ => ⟨S2x128x50, .i1⟩
  | .hbm, ⟨42, _⟩ => ⟨S_, .i32⟩
  | .hbm, ⟨43, _⟩ => ⟨S2x128x50, .i32⟩
  | .hbm, ⟨44, _⟩ => ⟨S2x128x50, .i32⟩
  | .hbm, ⟨45, _⟩ => ⟨S2x128x50, .i32⟩
  | .hbm, ⟨46, _⟩ => ⟨S2x128x50x1, .i32⟩
  | .hbm, ⟨47, _⟩ => ⟨S1, .i32⟩
  | .hbm, ⟨48, _⟩ => ⟨S_, .i32⟩
  | .hbm, ⟨49, _⟩ => ⟨S2x128x50x1, .i32⟩
  | .hbm, ⟨50, _⟩ => ⟨S2x128x50x1, .i1⟩
  | .hbm, ⟨51, _⟩ => ⟨S1x1x1x1, .i32⟩
  | .hbm, ⟨52, _⟩ => ⟨S2x128x50x1, .i32⟩
  | .hbm, ⟨53, _⟩ => ⟨S2x128x50x1, .i1⟩
  | .hbm, ⟨54, _⟩ => ⟨S2x128x50x1, .i1⟩
  | .hbm, ⟨55, _⟩ => ⟨S_, .i1⟩
  | .hbm, ⟨56, _⟩ => ⟨S2x128x50, .i1⟩
  | .hbm, ⟨57, _⟩ => ⟨S2x128x50, .f32⟩
  | .hbm, ⟨58, _⟩ => ⟨S_, .f32⟩
  | .hbm, ⟨59, _⟩ => ⟨S2x128x50, .f32⟩
  | .hbm, ⟨60, _⟩ => ⟨S2x128x50, .f32⟩
  | .hbm, ⟨61, _⟩ => ⟨S_, .i32⟩
  | .hbm, ⟨62, _⟩ => ⟨S2x128x50, .i32⟩
  | .hbm, ⟨63, _⟩ => ⟨S2x128x50, .i1⟩
  | .hbm, ⟨64, _⟩ => ⟨S_, .i32⟩
  | .hbm, ⟨65, _⟩ => ⟨S2x128x50, .i32⟩
  | .hbm, ⟨66, _⟩ => ⟨S2x128x50, .i32⟩
  | .hbm, ⟨67, _⟩ => ⟨S2x128x50, .i32⟩
  | .hbm, ⟨68, _⟩ => ⟨S2x128x50x1, .i32⟩
  | .hbm, ⟨69, _⟩ => ⟨S2x128x50x96, .i8⟩
  | .hbm, ⟨70, _⟩ => ⟨S2x128x50x96, .i32⟩
  | .hbm, ⟨71, _⟩ => ⟨S2x128x50x96, .bf16⟩
  | .hbm, ⟨72, _⟩ => ⟨S2x128x50, .f32⟩
  | .hbm, ⟨73, _⟩ => ⟨S_, .i32⟩
  | .hbm, ⟨74, _⟩ => ⟨S2x128x50, .i32⟩
  | .hbm, ⟨75, _⟩ => ⟨S2x128x50, .i1⟩
  | .hbm, ⟨76, _⟩ => ⟨S_, .i32⟩
  | .hbm, ⟨77, _⟩ => ⟨S2x128x50, .i32⟩
  | .hbm, ⟨78, _⟩ => ⟨S2x128x50, .i32⟩
  | .hbm, ⟨79, _⟩ => ⟨S2x128x50, .i32⟩
  | .hbm, ⟨80, _⟩ => ⟨S2x128x50x1, .i32⟩
  | .hbm, ⟨81, _⟩ => ⟨S2x128x50, .f32⟩
  | .hbm, ⟨82, _⟩ => ⟨S_, .f32⟩
  | .hbm, ⟨83, _⟩ => ⟨S2x128x50, .f32⟩
  | .hbm, ⟨84, _⟩ => ⟨S2x128x50, .f32⟩
  | .hbm, ⟨85, _⟩ => ⟨S2x128x1, .f32⟩
  | .hbm, ⟨86, _⟩ => ⟨S_, .f32⟩
  | .hbm, ⟨87, _⟩ => ⟨S2x128x1, .f32⟩
  | .hbm, ⟨88, _⟩ => ⟨S2x128x1, .f32⟩
  | .hbm, ⟨89, _⟩ => ⟨S2x128x50, .f32⟩
  | .hbm, ⟨90, _⟩ => ⟨S2x128x50, .f32⟩
  | .hbm, ⟨91, _⟩ => ⟨S2x128x50, .f32⟩
  | .hbm, ⟨92, _⟩ => ⟨S2x128x50, .f32⟩
  | .hbm, ⟨93, _⟩ => ⟨S2x700000x128, .f32⟩
  | .hbm, ⟨94, _⟩ => ⟨S50x2x128, .f32⟩
  | _, _ => ⟨S2x128x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_c : Ref sig .tc := ⟨.hbm, 39, rfl⟩
abbrev main_call0_v0 : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_c_1 : Ref sig .tc := ⟨.hbm, 47, rfl⟩
abbrev main_call0_c_2 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_3 : Ref sig .tc := ⟨.hbm, 55, rfl⟩
abbrev main_call0_v12 : Ref sig .tc := ⟨.hbm, 56, rfl⟩
abbrev main_call0_v13 : Ref sig .tc := ⟨.hbm, 57, rfl⟩
abbrev main_call0_cst : Ref sig .tc := ⟨.hbm, 58, rfl⟩
abbrev main_call0_v14 : Ref sig .tc := ⟨.hbm, 59, rfl⟩
abbrev main_v29 : Ref sig .tc := ⟨.hbm, 60, rfl⟩
abbrev main_c_1 : Ref sig .tc := ⟨.hbm, 61, rfl⟩
abbrev main_v30 : Ref sig .tc := ⟨.hbm, 62, rfl⟩
abbrev main_v31 : Ref sig .tc := ⟨.hbm, 63, rfl⟩
abbrev main_c_2 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_c_3 : Ref sig .tc := ⟨.hbm, 73, rfl⟩
abbrev main_v40 : Ref sig .tc := ⟨.hbm, 74, rfl⟩
abbrev main_v41 : Ref sig .tc := ⟨.hbm, 75, rfl⟩
abbrev main_c_4 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_5 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_6 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩

abbrev nD : Nat := 1
abbrev τ : Topo := Topo.v7x

variable {F : FTy → Type} [FloatOps F]
-- ==== Proof.Kernel.Names.lean ====
module

public import proofs.«01_k».proof.Proof.Gen.Kernel.Launch
public import proofs.«01_k».proof.Proof.Gen.Kernel.Skeleton
public import proofs.«01_k».proof.Proof.Gen.Kernel.Loops
public import Idealize.ShloMosaic.Lib.Pipeline.KitQuiescent
public import Idealize.ShloMosaic.Lib.Ring
public import Idealize.ShloMosaic.Lib.Affine
public import Idealize.ShloMosaic.Lib.Tactic

/-! The names the kernel's transfers go by: the four slots of the write-behind ring, their semaphores, the block of the
result each step writes, and the equations that bring the printed slices to those names. -/

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters
abbrev 𝒱₀ : Variants := Variants.none

/-- The result in device memory, the ring, and the operands the body addresses as they stand. -/
abbrev outM : Memref sig .tc .hbm S2x700000x128 .f32 := Memref.whole main_v89_0
abbrev ringM : Memref sig .tc .vmem S4x2x4096x128 .f32 := Memref.whole cc0_scratch5
abbrev tabM : Memref sig .tc .smem S171 .i32 := Memref.whole main_v19
abbrev ovfM : Memref sig .tc .hbm S171x100x128 .i32 := Memref.whole main_v82
abbrev xfM : Memref sig .tc .vmem S96x128 .f32 := Memref.whole cc0_scratch0
abbrev wM : Memref sig .tc .vmem S208x256 .bf16 := Memref.whole cc0_scratch1
abbrev xsM : Memref sig .tc .vmem S240x256 .bf16 := Memref.whole cc0_scratch2
abbrev accM : Memref sig .tc .vmem S104x128 .f32 := Memref.whole cc0_scratch3
abbrev rowM : Memref sig .tc .vmem S1x128 .i32 := Memref.whole cc0_scratch4

/-- Where block `u` of the result starts (kept in range for every `u`). -/
abbrev dstOff (u : ℕ) : Fin 3 → Nat := ![0, min (4096 * u) 695904, 0]
theorem dstOff_inb (u : ℕ) : ∀ a, dstOff u a + S2x4096x128.size a ≤ S2x700000x128.size a := by
  intro a; fin_cases a
  · show 0 + 2 ≤ 2; omega
  · show min (4096 * u) 695904 + 4096 ≤ 700000; omega
  · show 0 + 128 ≤ 128; omega
abbrev slotOff (g : Fin 4) : Fin 4 → Nat := ![g.val, 0, 0, 0]
theorem slotOff_inb (g : Fin 4) : ∀ a, slotOff g a + S1x2x4096x128.size a ≤ S4x2x4096x128.size a := by
  have := g.isLt; intro a; fin_cases a
  · show g.val + 1 ≤ 4; omega
  · show 0 + 2 ≤ 2; omega
  · show 0 + 4096 ≤ 4096; omega
  · show 0 + 128 ≤ 128; omega
abbrev semOff (g : Fin 4) : Fin 1 → Nat := ![g.val]
theorem semOff_inb (g : Fin 4) : ∀ a, semOff g a + S1.size a ≤ S4.size a := by
  have := g.isLt; intro a; fin_cases a; show g.val + 1 ≤ 4; omega

/-- Block `u` of the result: both batches, rows `4096 u` to `4096 u + 4095`. -/
def dstM (u : ℕ) : Memref sig .tc .hbm S2x4096x128 .f32 :=
  outM.slice (Rect.unit (s := S2x700000x128) (dstOff u) S2x4096x128.size (dstOff_inb u)) (fun _ => rfl)
/-- The last, short block of the result. -/
def dstT : Memref sig .tc .hbm S2x3680x128 .f32 :=
  outM.slice (Rect.unit (s := S2x700000x128) ![0, 696320, 0] S2x3680x128.size inb_S2x700000x128_S2x3680x128_0_696320_0) (fun _ => rfl)
/-- Slot `g` of the ring. -/
def slotM (g : Fin 4) : Memref sig .tc .vmem S2x4096x128 .f32 :=
  (ringM.slice (Rect.unit (s := S4x2x4096x128) (slotOff g) S1x2x4096x128.size (slotOff_inb g)) (fun _ => rfl)).squeeze S2x4096x128 squeezes_S1x2x4096x128_S2x4096x128
/-- The part of slot 2 the last copy reads. -/
def slotT : Memref sig .tc .vmem S2x3680x128 .f32 :=
  (ringM.slice (Rect.unit (s := S4x2x4096x128) ![2, 0, 0, 0] S1x2x3680x128.size inb_S4x2x4096x128_S1x2x3680x128_2_0_0_0) (fun _ => rfl)).squeeze S2x3680x128 squeezes_S1x2x3680x128_S2x3680x128
/-- Slot `g`'s semaphore. -/
def cell (g : Fin 4) : DmaSems sig S_ :=
  (cc0_scratch6.slice (Rect.unit (s := S4) (semOff g) S1.size (semOff_inb g))).squeeze S_ squeezes_S1_S_

instance (g : Fin 4) : ClosedOff (slotOff g) := ⟨slotOff g, rfl⟩
instance (u : ℕ) : ClosedOff (dstOff u) := ⟨dstOff u, rfl⟩

/-! ## The printed offsets -/

theorem off1_eq : ∀ i : grid0.Coords, 4 ≤ (i 0).val → k0_off1 i = semOff (Ring.sl 4 (i 0).val) := by decide +kernel
theorem off2_eq : ∀ i : grid0.Coords, 4 ≤ (i 0).val → k0_off2 i = dstOff ((i 0).val - 4) := by decide +kernel
theorem off3_eq : ∀ i : grid0.Coords, 4 ≤ (i 0).val → k0_off3 i = slotOff (Ring.sl 4 (i 0).val) := by decide +kernel
theorem off4_eq : ∀ i : grid0.Coords, k0_off4 i = ![(Ring.sl 4 (i 0).val).val, 0, 0, 0] := by decide +kernel
theorem off5_eq : ∀ i : grid0.Coords, k0_off5 i = ![(Ring.sl 4 (i 0).val).val, 1, 0, 0] := by decide +kernel
theorem off7_eq : ∀ i : grid0.Coords, k0_off7 i = semOff (Ring.sl 4 (i 0).val) := by decide +kernel
theorem off8_eq : ∀ i : grid0.Coords, (i 0).val < 170 → k0_off8 i = dstOff (i 0).val := by decide +kernel
theorem off9_eq : ∀ i : grid0.Coords, k0_off9 i = slotOff (Ring.sl 4 (i 0).val) := by decide +kernel
theorem cond2_iff : ∀ i : grid0.Coords, k0_cond2 i = 1#1 ↔ 4 ≤ (i 0).val := by decide +kernel
theorem cond3_iff : ∀ i : grid0.Coords, k0_cond3 i = 1#1 ↔ (i 0).val < 170 := by decide +kernel
theorem cond4_iff : ∀ i : grid0.Coords, k0_cond4 i = 1#1 ↔ (i 0).val = 170 := by decide +kernel
theorem cond1_iff : ∀ i : grid0.Coords, Scalar.cmpi .ne (Scalar.extui (Scalar.cmpi .eq (BitVec.ofNat 32 (i 0).val) 0#32) : BitVec 32) 0#32 = 1#1 ↔ (i 0).val = 0 := by decide +kernel
theorem sl_last : ∀ i : grid0.Coords, (i 0).val = 170 → Ring.sl 4 (i 0).val = 2 := by decide +kernel

instance (i : grid0.Coords) : ClosedOff (k0_off4 i) := ⟨_, off4_eq i⟩
instance (i : grid0.Coords) : ClosedOff (k0_off5 i) := ⟨_, off5_eq i⟩

/-! ## The printed slices under their names -/

theorem cell_congr {off : Fin 1 → Nat} {g : Fin 4} (e : off = semOff g) (hh) :
    (cc0_scratch6.slice (Rect.unit (s := S4) off S1.size hh)).squeeze S_ squeezes_S1_S_ = cell g :=
  congrArg (fun A : DmaSems sig S1 => A.squeeze S_ squeezes_S1_S_) (SemArray.slice_unit_congr _ e _ _)
theorem slotM_congr {off : Fin 4 → Nat} {g : Fin 4} (e : off = slotOff g) (hh hs) :
    (ringM.slice (Rect.unit (s := S4x2x4096x128) off S1x2x4096x128.size hh) hs).squeeze S2x4096x128 squeezes_S1x2x4096x128_S2x4096x128 = slotM g :=
  congrArg (fun M : Memref sig .tc .vmem S1x2x4096x128 .f32 => M.squeeze S2x4096x128 squeezes_S1x2x4096x128_S2x4096x128) (Memref.slice_unit_congr _ e _ _ _ _)
theorem dstM_congr {off : Fin 3 → Nat} {u : ℕ} (e : off = dstOff u) (hh hs) :
    outM.slice (Rect.unit (s := S2x700000x128) off S2x4096x128.size hh) hs = dstM u :=
  Memref.slice_unit_congr _ e _ _ _ (fun _ => rfl)

section Canon
variable (i : grid0.Coords)

@[sl_canon] theorem cellW (h4 : 4 ≤ (i 0).val) (hl : (i 0).val < 170) (hh) : (cc0_scratch6.slice (Rect.unit (s := S4) (k0_off1 i) S1.size hh)).squeeze S_ squeezes_S1_S_ = cell (Ring.sl 4 (i 0).val) := cell_congr (off1_eq i h4) _
@[sl_canon] theorem cellWl (h4 : (i 0).val = 170) (hh) : (cc0_scratch6.slice (Rect.unit (s := S4) (k0_off1 i) S1.size hh)).squeeze S_ squeezes_S1_S_ = cell 2 := cell_congr ((off1_eq i (by omega)).trans (by rw [sl_last i h4])) _
@[sl_canon] theorem slotW (h4 : 4 ≤ (i 0).val) (hl : (i 0).val < 170) (hh hs) : (ringM.slice (Rect.unit (s := S4x2x4096x128) (k0_off3 i) S1x2x4096x128.size hh) hs).squeeze S2x4096x128 squeezes_S1x2x4096x128_S2x4096x128 = slotM (Ring.sl 4 (i 0).val) := slotM_congr (off3_eq i h4) _ _
@[sl_canon] theorem slotWl (h4 : (i 0).val = 170) (hh hs) : (ringM.slice (Rect.unit (s := S4x2x4096x128) (k0_off3 i) S1x2x4096x128.size hh) hs).squeeze S2x4096x128 squeezes_S1x2x4096x128_S2x4096x128 = slotM 2 := slotM_congr ((off3_eq i (by omega)).trans (by rw [sl_last i h4])) _ _
@[sl_canon] theorem dstW (h4 : 4 ≤ (i 0).val) (hl : (i 0).val < 170) (hh hs) : outM.slice (Rect.unit (s := S2x700000x128) (k0_off2 i) S2x4096x128.size hh) hs = dstM ((i 0).val - 4) := dstM_congr (off2_eq i h4) _ _
@[sl_canon] theorem dstWl (h4 : (i 0).val = 170) (hh hs) : outM.slice (Rect.unit (s := S2x700000x128) (k0_off2 i) S2x4096x128.size hh) hs = dstM 166 := dstM_congr ((off2_eq i (by omega)).trans (by rw [h4])) _ _
@[sl_canon] theorem cellI (hl : (i 0).val < 170) (hh) : (cc0_scratch6.slice (Rect.unit (s := S4) (k0_off7 i) S1.size hh)).squeeze S_ squeezes_S1_S_ = cell (Ring.sl 4 (i 0).val) := cell_congr (off7_eq i) _
@[sl_canon] theorem slotI (hl : (i 0).val < 170) (hh hs) : (ringM.slice (Rect.unit (s := S4x2x4096x128) (k0_off9 i) S1x2x4096x128.size hh) hs).squeeze S2x4096x128 squeezes_S1x2x4096x128_S2x4096x128 = slotM (Ring.sl 4 (i 0).val) := slotM_congr (off9_eq i) _ _
@[sl_canon] theorem dstI (hl : (i 0).val < 170) (hh hs) : outM.slice (Rect.unit (s := S2x700000x128) (k0_off8 i) S2x4096x128.size hh) hs = dstM (i 0).val := dstM_congr (off8_eq i hl) _ _

end Canon

@[sl_canon] theorem cellL0 (hh) : (cc0_scratch6.slice (Rect.unit (s := S4) ![0] S1.size hh)).squeeze S_ squeezes_S1_S_ = cell 0 := cell_congr (by decide) _
@[sl_canon] theorem cellL1 (hh) : (cc0_scratch6.slice (Rect.unit (s := S4) ![1] S1.size hh)).squeeze S_ squeezes_S1_S_ = cell 1 := cell_congr (by decide) _
@[sl_canon] theorem cellL2 (hh) : (cc0_scratch6.slice (Rect.unit (s := S4) ![2] S1.size hh)).squeeze S_ squeezes_S1_S_ = cell 2 := cell_congr (by decide) _
@[sl_canon] theorem cellL3 (hh) : (cc0_scratch6.slice (Rect.unit (s := S4) ![3] S1.size hh)).squeeze S_ squeezes_S1_S_ = cell 3 := cell_congr (by decide) _
@[sl_canon] theorem slotL0 (hh hs) : (ringM.slice (Rect.unit (s := S4x2x4096x128) ![0, 0, 0, 0] S1x2x4096x128.size hh) hs).squeeze S2x4096x128 squeezes_S1x2x4096x128_S2x4096x128 = slotM 0 := slotM_congr (by decide) _ _
@[sl_canon] theorem slotL1 (hh hs) : (ringM.slice (Rect.unit (s := S4x2x4096x128) ![1, 0, 0, 0] S1x2x4096x128.size hh) hs).squeeze S2x4096x128 squeezes_S1x2x4096x128_S2x4096x128 = slotM 1 := slotM_congr (by decide) _ _
@[sl_canon] theorem slotL3 (hh hs) : (ringM.slice (Rect.unit (s := S4x2x4096x128) ![3, 0, 0, 0] S1x2x4096x128.size hh) hs).squeeze S2x4096x128 squeezes_S1x2x4096x128_S2x4096x128 = slotM 3 := slotM_congr (by decide) _ _
@[sl_canon] theorem slotLT (hh hs) : (ringM.slice (Rect.unit (s := S4x2x4096x128) ![2, 0, 0, 0] S1x2x3680x128.size hh) hs).squeeze S2x3680x128 squeezes_S1x2x3680x128_S2x3680x128 = slotT := rfl
@[sl_canon] theorem dstL167 (hh hs) : outM.slice (Rect.unit (s := S2x700000x128) ![0, 684032, 0] S2x4096x128.size hh) hs = dstM 167 := dstM_congr (by decide) _ _
@[sl_canon] theorem dstL168 (hh hs) : outM.slice (Rect.unit (s := S2x700000x128) ![0, 688128, 0] S2x4096x128.size hh) hs = dstM 168 := dstM_congr (by decide) _ _
@[sl_canon] theorem dstL169 (hh hs) : outM.slice (Rect.unit (s := S2x700000x128) ![0, 692224, 0] S2x4096x128.size hh) hs = dstM 169 := dstM_congr (by decide) _ _
@[sl_canon] theorem dstLT (hh hs) : outM.slice (Rect.unit (s := S2x700000x128) ![0, 696320, 0] S2x3680x128.size hh) hs = dstT := rfl

end Cert.Kernel.Hand

end
-- ==== Proof.Kernel.Geo.lean ====
module

public import proofs.«01_k».proof.Proof.Kernel.Names
public import Idealize.ShloMosaic.Lib.ValueIdx

/-! Where the ring's slots and the result's blocks lie, what one step's product is, and what a slot holds once the step
has stored that product in it. -/

@[expose] public section

noncomputable section

namespace Cert.Kernel.Hand

open Cert.Kernel Cert.Kernel.Gen
open Idealize.ShloMosaic
open Idealize.ShloMosaic.TcCoe Idealize.ShloMosaic.Tactic
open Idealize.ShloMosaic.ValueIdx
open Idealize.SL Idealize.SL.RA Idealize.SL.BI

variable {F : FTy → Type} [FloatOps F]

/-! ## Element sets -/

theorem slotM_emb (g : Fin 4) (j : S2x4096x128.Idx) (a : Fin 4) :
    ((slotM g).view.emb j a).val = (![g.val, (j 0).val, (j 1).val, (j 2).val] : Fin 4 → ℕ) a := by
  have e : (slotM g).view.emb j = (Rect.unit (s := S4x2x4096x128) (slotOff g) S1x2x4096x128.size (slotOff_inb g)).emb
      (Shape.reshapeEquiv squeezes_S1x2x4096x128_S2x4096x128.numel_eq j) := rfl
  rw [e, Shape.reshapeEquiv_cons_one]
  fin_cases a
  · show g.val + 1 * 0 = g.val; omega
  · show 0 + 1 * (j 0).val = (j 0).val; omega
  · show 0 + 1 * (j 1).val = (j 1).val; omega
  · show 0 + 1 * (j 2).val = (j 2).val; omega

theorem slotT_emb (j : S2x3680x128.Idx) (a : Fin 4) :
    (slotT.view.emb j a).val = (![2, (j 0).val, (j 1).val, (j 2).val] : Fin 4 → ℕ) a := by
  have e : slotT.view.emb j = (Rect.unit (s := S4x2x4096x128) ![2, 0, 0, 0] S1x2x3680x128.size inb_S4x2x4096x128_S1x2x3680x128_2_0_0_0).emb
      (Shape.reshapeEquiv squeezes_S1x2x3680x128_S2x3680x128.numel_eq j) := rfl
  rw [e, Shape.reshapeEquiv_cons_one]
  fin_cases a
  · show 2 + 1 * 0 = 2; omega
  · show 0 + 1 * (j 0).val = (j 0).val; omega
  · show 0 + 1 * (j 1).val = (j 1).val; omega
  · show 0 + 1 * (j 2).val = (j 2).val; omega

/-- Row `r` of the short block is row `r` of a full one. -/
abbrev up (j : S2x3680x128.Idx) : S2x4096x128.Idx := ix3 (j 0) ⟨(j 1).val, by have : (j 1).val < 3680 := (j 1).isLt; omega⟩ (j 2)

theorem slotT_up (j : S2x3680x128.Idx) : slotT.view.emb j = (slotM 2).view.emb (up j) := by
  funext a; apply Fin.ext; exact (slotT_emb j a).trans (slotM_emb 2 (up j) a).symm

theorem slotT_sub : slotT.view.set ⊆ (slotM 2).view.set := by
  intro y hy
  obtain ⟨j, _, rfl⟩ := Finset.mem_map.1 hy
  rw [slotT_up]; exact View.emb_mem_set _ _

/-- Slot `g` as a set of the ring's elements. -/
theorem mem_slot (g : Fin 4) (y : S4x2x4096x128.Idx) : y ∈ (slotM g).view.set ↔ (y 0).val = g.val := by
  have e : (slotM g).view.set = (Rect.unit (s := S4x2x4096x128) (slotOff g) S1x2x4096x128.size (slotOff_inb g)).set :=
    (View.set_reshape _ _).trans (View.set_slice_whole _ _)
  have h1 : (y 1).val < 2 := (y 1).isLt
  have h2 : (y 2).val < 4096 := (y 2).isLt
  have h3 : (y 3).val < 128 := (y 3).isLt
  refine (Finset.ext_iff.1 e y).trans ((Rect.mem_set_unit ..).trans ?_)
  constructor
  · intro H; have a0 : g.val ≤ (y 0).val ∧ (y 0).val < g.val + 1 := H 0; omega
  · intro H a; fin_cases a
    · show g.val ≤ (y 0).val ∧ (y 0).val < g.val + 1; omega
    · show 0 ≤ (y 1).val ∧ (y 1).val < 0 + 2; omega
    · show 0 ≤ (y 2).val ∧ (y 2).val < 0 + 4096; omega
    · show 0 ≤ (y 3).val ∧ (y 3).val < 0 + 128; omega

/-- Block `u` of the result as a set of its elements. -/
theorem mem_dst (u : ℕ) (hu : u < 170) (y : S2x700000x128.Idx) :
    y ∈ (dstM u).view.set ↔ 4096 * u ≤ (y 1).val ∧ (y 1).val < 4096 * u + 4096 := by
  have e : (dstM u).view.set = (Rect.unit (s := S2x700000x128) (dstOff u) S2x4096x128.size (dstOff_inb u)).set := View.set_slice_whole _ _
  have h0 : (y 0).val < 2 := (y 0).isLt
  have h2 : (y 2).val < 128 := (y 2).isLt
  refine (Finset.ext_iff.1 e y).trans ((Rect.mem_set_unit ..).trans ?_)
  constructor
  · intro H; have a1 : min (4096 * u) 695904 ≤ (y 1).val ∧ (y 1).val < min (4096 * u) 695904 + 4096 := H 1; omega
  · intro H a; fin_cases a
    · show 0 ≤ (y 0).val ∧ (y 0).val < 0 + 2; omega
    · show min (4096 * u) 695904 ≤ (y 1).val ∧ (y 1).val < min (4096 * u) 695904 + 4096; omega
    · show 0 ≤ (y 2).val ∧ (y 2).val < 0 + 128; omega

/-- The last block, as a set of the result's elements. -/
theorem mem_dstT (y : S2x700000x128.Idx) : y ∈ dstT.view.set ↔ 696320 ≤ (y 1).val := by
  have e : dstT.view.set = (Rect.unit (s := S2x700000x128) ![0, 696320, 0] S2x3680x128.size inb_S2x700000x128_S2x3680x128_0_696320_0).set :=
    View.set_slice_whole _ _
  have h0 : (y 0).val < 2 := (y 0).isLt
  have h1 : (y 1).val < 700000 := (y 1).isLt
  have h2 : (y 2).val < 128 := (y 2).isLt
  refine (Finset.ext_iff.1 e y).trans ((Rect.mem_set_unit ..).trans ?_)
  constructor
  · intro H; have a1 : 696320 ≤ (y 1).val ∧ (y 1).val < 696320 + 3680 := H 1; omega
  · intro H a; fin_cases a
    · show 0 ≤ (y 0).val ∧ (y 0).val < 0 + 2; omega
    · show 696320 ≤ (y 1).val ∧ (y 1).val < 696320 + 3680; omega
    · show 0 ≤ (y 2).val ∧ (y 2).val < 0 + 128; omega

theorem dstM_emb (u : ℕ) (hu : u < 170) (j : S2x4096x128.Idx) (a : Fin 3) :
    ((dstM u).view.emb j a).val = (![(j 0).val, 4096 * u + (j 1).val, (j 2).val] : Fin 3 → ℕ) a := by
  fin_cases a
  · show 0 + 1 * (j 0).val = (j 0).val; omega
  · show min (4096 * u) 695904 + 1 * (j 1).val = 4096 * u + (j 1).val; omega
  · show 0 + 1 * (j 2).val = (j 2).val; omega
theorem dstT_emb (j : S2x3680x128.Idx) (a : Fin 3) :
    (dstT.view.emb j a).val = (![(j 0).val, 696320 + (j 1).val, (j 2).val] : Fin 3 → ℕ) a := by
  fin_cases a
  · show 0 + 1 * (j 0).val = (j 0).val; omega
  · show 696320 + 1 * (j 1).val = 696320 + (j 1).val; omega
  · show 0 + 1 * (j 2).val = (j 2).val; omega

/-! ## One step's product -/

/-- The step's product of the assembled rows with the table `w`: 4096 vectors by both batches' 128 queries. -/
def score (w : Vec F S208x256 .bf16) (cp : Vec F S48x4096 .i8) (bd st : Vec F S1x4096 .bf16) : FVec F S4096x256 .f32 :=
  k0_pay920 w (k0_pay913 (k0_pay908 cp) (k0_pay909 cp) (k0_pay910 cp) (k0_pay911 cp) (k0_pay912 cp)) (k0_pay914 st) (k0_pay915 bd)
    (k0_pay916 st) (k0_pay917 st) (k0_pay919 (k0_pay917 st) k0_pay918)

/-- The same, as the step's slot holds it: by batch, vector and query. -/
def blkOf (w : Vec F S208x256 .bf16) (cp : Vec F S48x4096 .i8) (bd st : Vec F S1x4096 .bf16) : S2x4096x128.Idx → Elt F .f32 := fun j =>
  score w cp bd st (ix2 (j 1) ⟨128 * (j 0).val + (j 2).val, by
    have h0 : (j 0).val < 2 := (j 0).isLt
    have h2 : (j 2).val < 128 := (j 2).isLt
    omega⟩)

/-- Batch 0's and batch 1's halves of the product, as they are stored. -/
abbrev half0 (w : Vec F S208x256 .bf16) (cp : Vec F S48x4096 .i8) (bd st : Vec F S1x4096 .bf16) : FVec F S1x1x4096x128 .f32 :=
  k0_pay921 w (k0_pay913 (k0_pay908 cp) (k0_pay909 cp) (k0_pay910 cp) (k0_pay911 cp) (k0_pay912 cp)) (k0_pay914 st) (k0_pay915 bd)
    (k0_pay916 st) (k0_pay917 st) (k0_pay919 (k0_pay917 st) k0_pay918)
abbrev half1 (w : Vec F S208x256 .bf16) (cp : Vec F S48x4096 .i8) (bd st : Vec F S1x4096 .bf16) : FVec F S1x1x4096x128 .f32 :=
  k0_pay923 (k0_pay922 w (k0_pay913 (k0_pay908 cp) (k0_pay909 cp) (k0_pay910 cp) (k0_pay911 cp) (k0_pay912 cp)) (k0_pay914 st) (k0_pay915 bd)
    (k0_pay916 st) (k0_pay917 st) (k0_pay919 (k0_pay917 st) k0_pay918))

theorem reshape_11 (h : S1x1x4096x128.numel = S4096x128.numel) (r : Fin 4096) (l : Fin 128) (x : Fin 1) (y : Fin 1) :
    Shape.reshapeEquiv (s := S4096x128) (s' := S1x1x4096x128) h (ix4 x y r l) = ix2 r l :=
  Shape.reshapeEquiv_eq_of_rowMajor h (by
    rw [Shape.rowMajor_val_four, Shape.rowMajor_val_two]
    show r.val * 128 + l.val = ((x.val * 1 + y.val) * 4096 + r.val) * 128 + l.val
    have := x.isLt; have := y.isLt; omega)

theorem half0_apply (w : Vec F S208x256 .bf16) (cp bd st) (r : Fin 4096) (l : Fin 128) (x y : Fin 1) :
    half0 w cp bd st (ix4 x y r l) = blkOf w cp bd st (ix3 0 r l) := by
  have e := reshape_11 shapeCasts_S4096x128_S1x1x4096x128.symm r l x y
  have h : half0 w cp bd st (ix4 x y r l) = extractStridedSlice S4096x128 ![0, 0] (score w cp bd st) slices_S4096x256_o0_0_S4096x128
      (Shape.reshapeEquiv shapeCasts_S4096x128_S1x1x4096x128 (ix4 x y r l)) := rfl
  rw [h, reshape_11]
  refine congrArg (score w cp bd st) (funext fun a => Fin.ext ?_)
  fin_cases a
  · show 0 + r.val = r.val; omega
  · show 0 + l.val = 128 * 0 + l.val; omega
theorem half1_apply (w : Vec F S208x256 .bf16) (cp bd st) (r : Fin 4096) (l : Fin 128) (x y : Fin 1) :
    half1 w cp bd st (ix4 x y r l) = blkOf w cp bd st (ix3 1 r l) := by
  have h : half1 w cp bd st (ix4 x y r l) = extractStridedSlice S4096x128 ![0, 128] (score w cp bd st) slices_S4096x256_o0_128_S4096x128
      (Shape.reshapeEquiv shapeCasts_S4096x128_S1x1x4096x128 (ix4 x y r l)) := rfl
  rw [h, reshape_11]
  refine congrArg (score w cp bd st) (funext fun a => Fin.ext ?_)
  fin_cases a
  · show 0 + r.val = r.val; omega
  · show 128 + l.val = 128 * 1 + l.val; omega

/-- The half of slot `g` that batch `b`'s store writes. -/
abbrev halfV (g : Fin 4) (b : ℕ) (h : ∀ a, (![g.val, b, 0, 0] : Fin 4 → ℕ) a + S1x1x4096x128.size a ≤ S4x2x4096x128.size a) :=
  ringM.access (Rect.unit (s := S4x2x4096x128) ![g.val, b, 0, 0] S1x1x4096x128.size h)

theorem half_emb (g : Fin 4) (b : Fin 2) (h) (r : Fin 4096) (l : Fin 128) :
    (slotM g).view.emb (ix3 b r l) = (halfV g b.val h).emb (ix4 0 0 r l) := by
  funext a; apply Fin.ext; refine (slotM_emb g _ a).trans ?_
  fin_cases a
  · show g.val = g.val + 1 * 0; omega
  · show b.val = b.val + 1 * 0; omega
  · show r.val = 0 + 1 * r.val; omega
  · show l.val = 0 + 1 * l.val; omega

/-- A store of one half, read at an index of that half, -/
theorem half_hit (g : Fin 4) (b : Fin 2) (h) (f : ringM.view.ty.Contents (Elt F)) (p : S1x1x4096x128.Idx → Elt F .f32) (r : Fin 4096) (l : Fin 128) :
    ((halfV g b.val h).write (Elt F) f p Finset.univ : S4x2x4096x128.Idx → Elt F .f32) ((slotM g).view.emb (ix3 b r l)) = p (ix4 0 0 r l) :=
  (congrArg ((halfV g b.val h).write (Elt F) f p Finset.univ : S4x2x4096x128.Idx → Elt F .f32) (half_emb g b h r l)).trans
    ((View.write_emb_of_mem (v := halfV g b.val h) f p (M := Finset.univ) (x := ix4 0 0 r l) (Finset.mem_univ _)).trans (cast_eq _ _))
/-- A slot read at an index is the ring at the index's place. -/
theorem slot_read_apply (g : Fin 4) (f : ringM.view.ty.Contents (Elt F)) (j : S2x4096x128.Idx) :
    (slotM g).view.read (Elt F) f j = (f : S4x2x4096x128.Idx → Elt F .f32) ((slotM g).view.emb j) := rfl
theorem half_not_mem (g : Fin 4) (b' : ℕ) (h) (y : S4x2x4096x128.Idx) (hy : (y 1).val ≠ b') : y ∉ (halfV g b' h).set := by
  have e : (halfV g b' h).set = (Rect.unit (s := S4x2x4096x128) ![g.val, b', 0, 0] S1x1x4096x128.size h).set := View.set_slice_whole _ _
  intro hm
  have H := (Rect.mem_set_unit ..).1 ((Finset.ext_iff.1 e y).1 hm)
  have a1 : b' ≤ (y 1).val ∧ (y 1).val < b' + 1 := H 1
  omega
/-- and off it. -/
theorem half_miss (g : Fin 4) (b' : ℕ) (h) (f : ringM.view.ty.Contents (Elt F)) (p : S1x1x4096x128.Idx → Elt F .f32) (y : S4x2x4096x128.Idx) (hy : (y 1).val ≠ b') :
    ((halfV g b' h).write (Elt F) f p Finset.univ : S4x2x4096x128.Idx → Elt F .f32) y = (f : S4x2x4096x128.Idx → Elt F .f32) y :=
  View.write_of_not_mem (v := halfV g b' h) f p Finset.univ (half_not_mem g b' h y hy)

/-- Slot `g` after stores of the two halves reads them. -/
theorem halves_read (g : Fin 4) (h0 h1) (f : ringM.view.ty.Contents (Elt F)) (p0 p1 : S1x1x4096x128.Idx → Elt F .f32) (v : S2x4096x128.Idx → Elt F .f32)
    (e0 : ∀ r l, p0 (ix4 0 0 r l) = v (ix3 0 r l)) (e1 : ∀ r l, p1 (ix4 0 0 r l) = v (ix3 1 r l)) :
    (slotM g).view.read (Elt F) ((halfV g 1 h1).write (Elt F) ((halfV g 0 h0).write (Elt F) f p0 Finset.univ) p1 Finset.univ) = v := by
  funext j
  obtain ⟨b, r, l, rfl⟩ : ∃ (b : Fin 2) (r : Fin 4096) (l : Fin 128), j = ix3 b r l := ⟨j 0, j 1, j 2, eq_ix3 j⟩
  by_cases hb : b = 1
  · subst hb
    exact (slot_read_apply g _ _).trans ((half_hit g 1 h1 _ _ r l).trans (e1 r l))
  · obtain rfl : b = 0 := by have := b.isLt; apply Fin.ext; have : b.val ≠ 1 := fun h => hb (Fin.ext h); show b.val = 0; omega
    refine (slot_read_apply g _ _).trans ((half_miss g 1 h1 _ _ _ ?_).trans ((half_hit g 0 h0 _ _ r l).trans (e0 r l)))
    rw [slotM_emb]; exact (show (0 : ℕ) ≠ 1 by decide)

/-- Slot `g` after the step's two stores holds the step's product. -/
theorem slot_read (g : Fin 4) {off0 off1 : Fin 4 → ℕ} (e0 : off0 = ![g.val, 0, 0, 0]) (e1 : off1 = ![g.val, 1, 0, 0])
    (h0 : ∀ a, off0 a + S1x1x4096x128.size a ≤ S4x2x4096x128.size a) (h1 : ∀ a, off1 a + S1x1x4096x128.size a ≤ S4x2x4096x128.size a)
    (f : ringM.view.ty.Contents (Elt F)) (w : Vec F S208x256 .bf16) (cp bd st) :
    (slotM g).view.read (Elt F)
      ((ringM.access (Rect.unit (s := S4x2x4096x128) off1 S1x1x4096x128.size h1)).write (Elt F)
        ((ringM.access (Rect.unit (s := S4x2x4096x128) off0 S1x1x4096x128.size h0)).write (Elt F) f (half0 w cp bd st) Finset.univ)
        (half1 w cp bd st) Finset.univ) = blkOf w cp bd st := by
  subst e0 e1
  exact halves_read g h0 h1 f _ _ _ (fun r l => half0_apply w cp bd st r l 0 0) (fun r l => half1_apply w cp bd st r l 0 0)

/-- A block written whole holds what was written. -/
theorem dst_read (u : ℕ) (f : (dstM u).view.ty.Contents (Elt F)) (p : S2x4096x128.Idx → Elt F .f32) :
    (dstM u).view.read (Elt F) ((dstM u).view.writes (Elt F) f [⟨Rect.whole S2x4096x128, p⟩]) = p := View.read_writes_whole _ _ _
theorem dstT_read (f : dstT.view.ty.Contents (Elt F)) (p : S2x3680x128.Idx → Elt F .f32) :
    dstT.view.read (Elt F) (dstT.view.writes (Elt F) f [⟨Rect.whole S2x3680x128, p⟩]) = p := View.read_writes_whole _ _ _
/-- The short block read from slot 2 is the block's first 3680 rows. -/
theorem slotT_read (f : ringM.view.ty.Contents (Elt F)) (j : S2x3680x128.Idx) :
    slotT.view.read (Elt F) f j = (slotM 2).view.read (Elt F) f (up j) :=
  congrArg (f : S4x2x4096x128.Idx → Elt F .f32) (slotT_up j)
end Cert.Kernel.Hand
end
-- ==== Proof.Kernel.BodyDefs.lean ====
module

public import proofs.«01_k».proof.Proof.Kernel.Geo

/-! What the body holds before and after a step: its windows and tables, the ring's slots, the copies in flight. -/

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- The last grid point. -/
def lastPt : grid0.Coords := fun a => ⟨170, by fin_cases a; decide⟩
theorem lastPt_val : (lastPt 0).val = 170 := rfl
instance (priority := 2000) : ClosedOff (k0_off4 lastPt) := ⟨![2, 0, 0, 0], (off4_eq lastPt).trans (by rw [sl_last _ lastPt_val]; rfl)⟩
instance (priority := 2000) : ClosedOff (k0_off5 lastPt) := ⟨![2, 1, 0, 0], (off5_eq lastPt).trans (by rw [sl_last _ lastPt_val]; rfl)⟩

section Body
variable (c : Dev nD) (i : grid0.Coords)
  (arg2 : Memref sig .tc .vmem S2x96x128 .bf16) (harg2 : arg2.IsWhole) (arg3 : Memref sig .tc .vmem S1x96 .f32) (harg3 : arg3.IsWhole)
  (arg4 : Memref sig .tc .vmem S48x4096 .i8) (harg4 : arg4.IsWhole) (arg5 : Memref sig .tc .vmem S96x4096 .i8) (harg5 : arg5.IsWhole)
  (arg6 : Memref sig .tc .vmem S1x4096 .bf16) (harg6 : arg6.IsWhole) (arg7 : Memref sig .tc .vmem S1x4096 .bf16) (harg7 : arg7.IsWhole)
  (arg8 : Memref sig .tc .vmem S176x128 .i32) (harg8 : arg8.IsWhole) (arg11 : Memref sig .tc .vmem S50x2x128 .f32) (harg11 : arg11.IsWhole)

/-- The kernel's body at a grid point, over its own tables, ring and result. -/
abbrev bodyG : Prog (TpuEff nD τ sig (Elt F) Λ₀ .tc) PUnit :=
  cc0_lvq_scores i tabM (Memref.isWhole_whole _) arg2 harg2 arg3 harg3 arg4 harg4 arg5 harg5 arg6 harg6 arg7 harg7 arg8 harg8 ovfM (Memref.isWhole_whole _) outM (Memref.isWhole_whole _)
    arg11 harg11 xfM (Memref.isWhole_whole _) wM (Memref.isWhole_whole _) xsM (Memref.isWhole_whole _) accM (Memref.isWhole_whole _) rowM (Memref.isWhole_whole _) ringM (Memref.isWhole_whole _) cc0_scratch6 cc0_scratch7

/-- The view `a`, at contents `f`. -/
abbrev own {sp : Space} {s : Shape} {e : EltTy} (a : Memref sig .tc sp s e) (f : Buf (Elt F) (a.view.loc (c : Thread nD τ))) : sProp 𝕄 :=
  a.view.loc (c : Thread nD τ) ↦[a.view.set]{fullShare} f
/-- Slot `g`'s semaphore at zero. -/
abbrev cellP (g : Fin 4) : sProp 𝕄 := semVal ((c : Thread nD τ), SemLoc.dma (cell g).sem) 0
/-- The overflow copies' semaphore at zero. -/
abbrev ovfP : sProp 𝕄 := semVal ((c : Thread nD τ), SemLoc.dma cc0_scratch7.sem) 0
/-- A copy of slot `g` into block `u` in flight: when it lands, the block is held at `fd` and the slot at `fs`. -/
abbrev flt (g : Fin 4) (u : ℕ) (fd : Buf (Elt F) ((dstM u).view.loc (c : Thread nD τ))) (fs : Buf (Elt F) ((slotM g).view.loc (c : Thread nD τ))) : sProp 𝕄 :=
  Transfers.Flight countersEmb (c : Thread nD τ) (SemLoc.dma (cell g).sem) () 131072 iprop(own c (dstM u) fd ∗ own c (slotM g) fs)

/-- The step's words, as the body loads them. -/
abbrev ldT (T : Buf (Elt F) (tabM.view.loc (c : Thread nD τ))) : BitVec 32 :=
  tabM.view.readAt (Elt F) (Rect.unit (s := S171) (k0_off10 i) S1.size (k0_off10_inb i)).toLoadRect T (Shape.Idx.first (by show 0 < Shape.numel (⟨1, S1.size⟩ : Shape); decide))
abbrev ldW (f : Buf (Elt F) (wM.view.loc (c : Thread nD τ))) : Vec F S208x256 .bf16 :=
  wM.view.readAt (Elt F) (Rect.unit (s := S208x256) ![0, 0] S208x256.size inb_S208x256_S208x256_0_0).toLoadRect f
abbrev ldCP (f : Buf (Elt F) (arg4.view.loc (c : Thread nD τ))) : Vec F S48x4096 .i8 :=
  arg4.view.readAt (Elt F) (Rect.unit (s := S48x4096) ![0, 0] S48x4096.size inb_S48x4096_S48x4096_0_0).toLoadRect f
abbrev ldRow (a : Memref sig .tc .vmem S1x4096 .bf16) (f : Buf (Elt F) (a.view.loc (c : Thread nD τ))) : Vec F S1x4096 .bf16 :=
  a.view.readAt (Elt F) (Rect.unit (s := S1x4096) ![0, 0] S1x4096.size inb_S1x4096_S1x4096_0_0).toLoadRect f

/-- The step's block: what its slot holds and its copy writes. -/
abbrev stepBlk (f13 : Buf (Elt F) (wM.view.loc (c : Thread nD τ))) (f4 : Buf (Elt F) (arg4.view.loc (c : Thread nD τ))) (f6 : Buf (Elt F) (arg6.view.loc (c : Thread nD τ)))
    (f7 : Buf (Elt F) (arg7.view.loc (c : Thread nD τ))) : S2x4096x128.Idx → Elt F .f32 :=
  blkOf (ldW c f13) (ldCP c arg4 f4) (ldRow c arg6 f6) (ldRow c arg7 f7)

/-- Slot 2 is the part the last copy reads and the rest, -/
theorem slot2_split (f : Buf (Elt F) ((slotM 2).view.loc (c : Thread nD τ))) :
    own c (slotM 2) f ⊢ iprop(own c slotT f ∗ ((slotM 2).view.loc (c : Thread nD τ) ↦[(slotM 2).view.set \ slotT.view.set]{fullShare} f)) :=
  (pointsTo_split_subset (ℓ := (slotM 2).view.loc (c : Thread nD τ)) slotT_sub).1
/-- and back. -/
theorem slot2_join (f : Buf (Elt F) ((slotM 2).view.loc (c : Thread nD τ))) :
    iprop(own c slotT f ∗ ((slotM 2).view.loc (c : Thread nD τ) ↦[(slotM 2).view.set \ slotT.view.set]{fullShare} f)) ⊢ own c (slotM 2) f :=
  (pointsTo_split_subset (ℓ := (slotM 2).view.loc (c : Thread nD τ)) slotT_sub).2

end Body
end Cert.Kernel.Hand
end
-- ==== Proof.Kernel.Tabs.lean ====
module

public import proofs.«01_k».proof.Proof.Kernel.BodyDefs

/-! The first step's tables: the run of the part that fills them names what each of them holds. -/

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body
variable (c : Dev nD) (i : grid0.Coords)
  (arg2 : Memref sig .tc .vmem S2x96x128 .bf16) (harg2 : arg2.IsWhole) (arg3 : Memref sig .tc .vmem S1x96 .f32) (harg3 : arg3.IsWhole)
  (arg4 : Memref sig .tc .vmem S48x4096 .i8) (harg4 : arg4.IsWhole) (arg5 : Memref sig .tc .vmem S96x4096 .i8) (harg5 : arg5.IsWhole)
  (arg6 : Memref sig .tc .vmem S1x4096 .bf16) (harg6 : arg6.IsWhole) (arg7 : Memref sig .tc .vmem S1x4096 .bf16) (harg7 : arg7.IsWhole)
  (arg8 : Memref sig .tc .vmem S176x128 .i32) (harg8 : arg8.IsWhole) (arg11 : Memref sig .tc .vmem S50x2x128 .f32) (harg11 : arg11.IsWhole)

/-- The first step's opening part runs, over the centroid, the queries and the tables alone. -/
theorem tabs (h0 : (i 0).val = 0) (f2 f3 f4 f12 f13 f14 f15 W) :
    iprop(own c arg2 f2 ∗ own c arg3 f3 ∗ own c arg4 f4 ∗ own c xfM f12 ∗ own c wM f13 ∗ own c xsM f14 ∗ own c accM f15 ∗ owes (c : Thread nD τ) 0 W)
      ⊢ wp frame (wpE (defs₀ (F := F)) 𝒱₀ (c : Thread nD τ) none) Set.univ
        (k0_part115 i tabM (Memref.isWhole_whole _) arg2 harg2 arg3 harg3 arg4 harg4 arg5 harg5 arg6 harg6 arg7 harg7 arg8 harg8 ovfM (Memref.isWhole_whole _) outM (Memref.isWhole_whole _)
    arg11 harg11 xfM (Memref.isWhole_whole _) wM (Memref.isWhole_whole _) xsM (Memref.isWhole_whole _) accM (Memref.isWhole_whole _) rowM (Memref.isWhole_whole _) ringM (Memref.isWhole_whole _) cc0_scratch6 cc0_scratch7)
        (fun _ => iprop(∃ f, own c wM f)) := by
  have hc1 : Scalar.cmpi .ne (Scalar.extui (Scalar.cmpi .eq (BitVec.ofNat 32 (i 0).val) 0#32) : BitVec 32) 0#32 = 1#1 := (cond1_iff i).2 h0
  have hc2 : ¬ (k0_cond2 i = 1#1) := fun h => by have := (cond2_iff i).1 h; omega
  iintro ⟨H2, H3, H4, H12, H13, H14, H15, HW⟩
  rw [k0_part115_eq_skeleton]
  sl_exec_parts
  sl_step
  iexists _; iexact H13
end Body
end Cert.Kernel.Hand
end
-- ==== Proof.Kernel.BodyA.lean ====
module

public import proofs.«01_k».proof.Proof.Kernel.Tabs

/-! The first step: it fills the tables, stores its block in slot 0 and starts the copy. -/

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body
variable (c : Dev nD) (i : grid0.Coords)
  (arg2 : Memref sig .tc .vmem S2x96x128 .bf16) (harg2 : arg2.IsWhole) (arg3 : Memref sig .tc .vmem S1x96 .f32) (harg3 : arg3.IsWhole)
  (arg4 : Memref sig .tc .vmem S48x4096 .i8) (harg4 : arg4.IsWhole) (arg5 : Memref sig .tc .vmem S96x4096 .i8) (harg5 : arg5.IsWhole)
  (arg6 : Memref sig .tc .vmem S1x4096 .bf16) (harg6 : arg6.IsWhole) (arg7 : Memref sig .tc .vmem S1x4096 .bf16) (harg7 : arg7.IsWhole)
  (arg8 : Memref sig .tc .vmem S176x128 .i32) (harg8 : arg8.IsWhole) (arg11 : Memref sig .tc .vmem S50x2x128 .f32) (harg11 : arg11.IsWhole)

/-- The first step fills the tables from the queries and the centroid, and leaves its block on the way to the result. -/
theorem bodyA (h0 : (i 0).val = 0) (hl : (i 0).val < 170) (T : Buf (Elt F) (tabM.view.loc (c : Thread nD τ))) (hchk : k0_chk1 i (ldT c i T))
    (X9 f2 f3 f4 f5 f6 f7 f8 f11 f12 f13 f14 f15 f16 fs fo W) (Q : PUnit → sProp 𝕄) :
    iprop((own c tabM T ∗ (ovfM.view.loc (c : Thread nD τ) ↦{fullShare} X9)
      ∗ own c arg2 f2 ∗ own c arg3 f3 ∗ own c arg4 f4 ∗ own c arg5 f5 ∗ own c arg6 f6 ∗ own c arg7 f7 ∗ own c arg8 f8 ∗ own c arg11 f11
      ∗ own c xfM f12 ∗ own c wM f13 ∗ own c xsM f14 ∗ own c accM f15 ∗ own c rowM f16
      ∗ own c (slotM (Ring.sl 4 (i 0).val)) fs ∗ cellP c (Ring.sl 4 (i 0).val) ∗ own c (dstM (i 0).val) fo ∗ ovfP c ∗ owes (c : Thread nD τ) 0 W)
      ∗ ((own c tabM T ∗ (ovfM.view.loc (c : Thread nD τ) ↦{fullShare} X9)
        ∗ own c arg2 f2 ∗ own c arg3 f3 ∗ own c arg4 f4 ∗ own c arg5 f5 ∗ own c arg6 f6 ∗ own c arg7 f7 ∗ own c arg8 f8 ∗ own c arg11 f11
        ∗ (∃ f, own c xfM f) ∗ own c wM (wM.view.writes (Elt F) wM.view.junk (tabs.sl.H13_6 c arg2 arg3 f2 f3)) ∗ (∃ f, own c xsM f) ∗ (∃ f, own c accM f) ∗ (∃ f, own c rowM f)
        ∗ (∃ fd fs, ⌜(dstM (i 0).val).view.read (Elt F) fd = stepBlk c arg4 arg6 arg7 (wM.view.writes (Elt F) wM.view.junk (tabs.sl.H13_6 c arg2 arg3 f2 f3)) f4 f6 f7⌝ ∗ flt c (Ring.sl 4 (i 0).val) (i 0).val fd fs) ∗ ovfP c ∗ (∃ W, owes (c : Thread nD τ) 0 W)) -∗ Q ⟨⟩))
      ⊢ wp frame (wpE (defs₀ (F := F)) 𝒱₀ (c : Thread nD τ) none) Set.univ (bodyG i arg2 harg2 arg3 harg3 arg4 harg4 arg5 harg5 arg6 harg6 arg7 harg7 arg8 harg8 arg11 harg11) Q := by
  have hc1 : Scalar.cmpi .ne (Scalar.extui (Scalar.cmpi .eq (BitVec.ofNat 32 (i 0).val) 0#32) : BitVec 32) 0#32 = 1#1 := (cond1_iff i).2 (by omega)
  have hc2 : ¬ (k0_cond2 i = 1#1) := fun h => by have := (cond2_iff i).1 h; omega
  have hc3 : k0_cond3 i = 1#1 := (cond3_iff i).2 (by omega)
  have hc4 : ¬ (k0_cond4 i = 1#1) := fun h => by have := (cond4_iff i).1 h; omega
  iintro ⟨⟨HT, H9, H2, H3, H4, H5, H6, H7, H8, H11, H12, H13, H14, H15, H16, Hs, Hc, Ho, Hc7, HW⟩, Hk⟩
  dsimp only [bodyG]
  rw [cc0_lvq_scores_eq_skeleton]
  sl_exec_parts
  sl_step
  iapply Hk
  isplitl [HT]; · iexact HT
  isplitl [H9]; · iexact H9
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H11]; · iexact H11
  isplitl [H12]; · iexists _; iexact H12
  isplitl [H13]; · iexact H13
  isplitl [H14]; · iexists _; iexact H14
  isplitl [H15]; · iexists _; iexact H15
  isplitl [H16]; · iexists _; iexact H16
  isplitl [Hc]
  · iexists _, _
    isplitr [Hc]; swap; · iexact Hc
    ipureintro
    exact (dst_read _ _ _).trans (slot_read (Ring.sl 4 (i 0).val) (off4_eq i) (off5_eq i) _ _ _ _ _ _ _)
  isplitl [Hc7]; · iexact Hc7
  iexists _; iexact HW
end Body
end Cert.Kernel.Hand
end
-- ==== Proof.Kernel.BodyB.lean ====
module

public import proofs.«01_k».proof.Proof.Kernel.BodyDefs

/-! The second to fourth steps: a slot not used before takes the block. -/

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body
variable (c : Dev nD) (i : grid0.Coords)
  (arg2 : Memref sig .tc .vmem S2x96x128 .bf16) (harg2 : arg2.IsWhole) (arg3 : Memref sig .tc .vmem S1x96 .f32) (harg3 : arg3.IsWhole)
  (arg4 : Memref sig .tc .vmem S48x4096 .i8) (harg4 : arg4.IsWhole) (arg5 : Memref sig .tc .vmem S96x4096 .i8) (harg5 : arg5.IsWhole)
  (arg6 : Memref sig .tc .vmem S1x4096 .bf16) (harg6 : arg6.IsWhole) (arg7 : Memref sig .tc .vmem S1x4096 .bf16) (harg7 : arg7.IsWhole)
  (arg8 : Memref sig .tc .vmem S176x128 .i32) (harg8 : arg8.IsWhole) (arg11 : Memref sig .tc .vmem S50x2x128 .f32) (harg11 : arg11.IsWhole)

/-- A step before the ring wraps stores its block in a fresh slot and starts the copy. -/
theorem bodyB (h0 : 1 ≤ (i 0).val) (hl : (i 0).val < 4) (T : Buf (Elt F) (tabM.view.loc (c : Thread nD τ))) (hchk : k0_chk1 i (ldT c i T))
    (X9 f2 f3 f4 f5 f6 f7 f8 f11 f12 f13 f14 f15 f16 fs fo W) (Q : PUnit → sProp 𝕄) :
    iprop((own c tabM T ∗ (ovfM.view.loc (c : Thread nD τ) ↦{fullShare} X9)
      ∗ own c arg2 f2 ∗ own c arg3 f3 ∗ own c arg4 f4 ∗ own c arg5 f5 ∗ own c arg6 f6 ∗ own c arg7 f7 ∗ own c arg8 f8 ∗ own c arg11 f11
      ∗ own c xfM f12 ∗ own c wM f13 ∗ own c xsM f14 ∗ own c accM f15 ∗ own c rowM f16
      ∗ own c (slotM (Ring.sl 4 (i 0).val)) fs ∗ cellP c (Ring.sl 4 (i 0).val) ∗ own c (dstM (i 0).val) fo ∗ ovfP c ∗ owes (c : Thread nD τ) 0 W)
      ∗ ((own c tabM T ∗ (ovfM.view.loc (c : Thread nD τ) ↦{fullShare} X9)
        ∗ own c arg2 f2 ∗ own c arg3 f3 ∗ own c arg4 f4 ∗ own c arg5 f5 ∗ own c arg6 f6 ∗ own c arg7 f7 ∗ own c arg8 f8 ∗ own c arg11 f11
        ∗ own c xfM f12 ∗ own c wM f13 ∗ own c xsM f14 ∗ (∃ f, own c accM f) ∗ (∃ f, own c rowM f)
        ∗ (∃ fd fs, ⌜(dstM (i 0).val).view.read (Elt F) fd = stepBlk c arg4 arg6 arg7 f13 f4 f6 f7⌝ ∗ flt c (Ring.sl 4 (i 0).val) (i 0).val fd fs) ∗ ovfP c ∗ (∃ W, owes (c : Thread nD τ) 0 W)) -∗ Q ⟨⟩))
      ⊢ wp frame (wpE (defs₀ (F := F)) 𝒱₀ (c : Thread nD τ) none) Set.univ (bodyG i arg2 harg2 arg3 harg3 arg4 harg4 arg5 harg5 arg6 harg6 arg7 harg7 arg8 harg8 arg11 harg11) Q := by
  have hc1 : ¬ (Scalar.cmpi .ne (Scalar.extui (Scalar.cmpi .eq (BitVec.ofNat 32 (i 0).val) 0#32) : BitVec 32) 0#32 = 1#1) := fun h => by have := (cond1_iff i).1 h; omega
  have hc2 : ¬ (k0_cond2 i = 1#1) := fun h => by have := (cond2_iff i).1 h; omega
  have hc3 : k0_cond3 i = 1#1 := (cond3_iff i).2 (by omega)
  have hc4 : ¬ (k0_cond4 i = 1#1) := fun h => by have := (cond4_iff i).1 h; omega
  iintro ⟨⟨HT, H9, H2, H3, H4, H5, H6, H7, H8, H11, H12, H13, H14, H15, H16, Hs, Hc, Ho, Hc7, HW⟩, Hk⟩
  dsimp only [bodyG]
  rw [cc0_lvq_scores_eq_skeleton]
  sl_exec_parts
  sl_step
  iapply Hk
  isplitl [HT]; · iexact HT
  isplitl [H9]; · iexact H9
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H11]; · iexact H11
  isplitl [H12]; · iexact H12
  isplitl [H13]; · iexact H13
  isplitl [H14]; · iexact H14
  isplitl [H15]; · iexists _; iexact H15
  isplitl [H16]; · iexists _; iexact H16
  isplitl [Hc]
  · iexists _, _
    isplitr [Hc]; swap; · iexact Hc
    ipureintro
    exact (dst_read _ _ _).trans (slot_read (Ring.sl 4 (i 0).val) (off4_eq i) (off5_eq i) _ _ _ _ _ _ _)
  isplitl [Hc7]; · iexact Hc7
  iexists _; iexact HW
end Body
end Cert.Kernel.Hand
end
-- ==== Proof.Kernel.BodyC.lean ====
module

public import proofs.«01_k».proof.Proof.Kernel.BodyDefs

/-! A step once the ring has wrapped: it waits for the copy of four steps before. -/

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body
variable (c : Dev nD) (i : grid0.Coords)
  (arg2 : Memref sig .tc .vmem S2x96x128 .bf16) (harg2 : arg2.IsWhole) (arg3 : Memref sig .tc .vmem S1x96 .f32) (harg3 : arg3.IsWhole)
  (arg4 : Memref sig .tc .vmem S48x4096 .i8) (harg4 : arg4.IsWhole) (arg5 : Memref sig .tc .vmem S96x4096 .i8) (harg5 : arg5.IsWhole)
  (arg6 : Memref sig .tc .vmem S1x4096 .bf16) (harg6 : arg6.IsWhole) (arg7 : Memref sig .tc .vmem S1x4096 .bf16) (harg7 : arg7.IsWhole)
  (arg8 : Memref sig .tc .vmem S176x128 .i32) (harg8 : arg8.IsWhole) (arg11 : Memref sig .tc .vmem S50x2x128 .f32) (harg11 : arg11.IsWhole)

/-- A step of the main run waits for the copy of four steps before, takes its slot, and starts its own copy. -/
theorem bodyC (h0 : 4 ≤ (i 0).val) (hl : (i 0).val < 170) (T : Buf (Elt F) (tabM.view.loc (c : Thread nD τ))) (hchk : k0_chk1 i (ldT c i T))
    (X9 f2 f3 f4 f5 f6 f7 f8 f11 f12 f13 f14 f15 f16 fd fs fo W) (Q : PUnit → sProp 𝕄) :
    iprop((own c tabM T ∗ (ovfM.view.loc (c : Thread nD τ) ↦{fullShare} X9)
      ∗ own c arg2 f2 ∗ own c arg3 f3 ∗ own c arg4 f4 ∗ own c arg5 f5 ∗ own c arg6 f6 ∗ own c arg7 f7 ∗ own c arg8 f8 ∗ own c arg11 f11
      ∗ own c xfM f12 ∗ own c wM f13 ∗ own c xsM f14 ∗ own c accM f15 ∗ own c rowM f16
      ∗ flt c (Ring.sl 4 (i 0).val) ((i 0).val - 4) fd fs ∗ own c (dstM (i 0).val) fo ∗ ovfP c ∗ owes (c : Thread nD τ) 0 W)
      ∗ ((own c tabM T ∗ (ovfM.view.loc (c : Thread nD τ) ↦{fullShare} X9)
        ∗ own c arg2 f2 ∗ own c arg3 f3 ∗ own c arg4 f4 ∗ own c arg5 f5 ∗ own c arg6 f6 ∗ own c arg7 f7 ∗ own c arg8 f8 ∗ own c arg11 f11
        ∗ own c xfM f12 ∗ own c wM f13 ∗ own c xsM f14 ∗ (∃ f, own c accM f) ∗ (∃ f, own c rowM f)
        ∗ (∃ fd fs, ⌜(dstM (i 0).val).view.read (Elt F) fd = stepBlk c arg4 arg6 arg7 f13 f4 f6 f7⌝ ∗ flt c (Ring.sl 4 (i 0).val) (i 0).val fd fs) ∗ own c (dstM ((i 0).val - 4)) fd ∗ ovfP c ∗ (∃ W, owes (c : Thread nD τ) 0 W)) -∗ Q ⟨⟩))
      ⊢ wp frame (wpE (defs₀ (F := F)) 𝒱₀ (c : Thread nD τ) none) Set.univ (bodyG i arg2 harg2 arg3 harg3 arg4 harg4 arg5 harg5 arg6 harg6 arg7 harg7 arg8 harg8 arg11 harg11) Q := by
  have hc1 : ¬ (Scalar.cmpi .ne (Scalar.extui (Scalar.cmpi .eq (BitVec.ofNat 32 (i 0).val) 0#32) : BitVec 32) 0#32 = 1#1) := fun h => by have := (cond1_iff i).1 h; omega
  have hc2 : k0_cond2 i = 1#1 := (cond2_iff i).2 (by omega)
  have hc3 : k0_cond3 i = 1#1 := (cond3_iff i).2 (by omega)
  have hc4 : ¬ (k0_cond4 i = 1#1) := fun h => by have := (cond4_iff i).1 h; omega
  iintro ⟨⟨HT, H9, H2, H3, H4, H5, H6, H7, H8, H11, H12, H13, H14, H15, H16, Hf, Ho, Hc7, HW⟩, Hk⟩
  dsimp only [bodyG]
  rw [cc0_lvq_scores_eq_skeleton]
  sl_exec_parts
  sl_step
  iapply Hk
  isplitl [HT]; · iexact HT
  isplitl [H9]; · iexact H9
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H11]; · iexact H11
  isplitl [H12]; · iexact H12
  isplitl [H13]; · iexact H13
  isplitl [H14]; · iexact H14
  isplitl [H15]; · iexists _; iexact H15
  isplitl [H16]; · iexists _; iexact H16
  isplitl [Hf]
  · iexists _, _
    isplitr [Hf]; swap; · iexact Hf
    ipureintro
    exact (dst_read _ _ _).trans (slot_read (Ring.sl 4 (i 0).val) (off4_eq i) (off5_eq i) _ _ _ _ _ _ _)
  isplitl [Hf_dst]; · iexact Hf_dst
  isplitl [Hc7]; · iexact Hc7
  iexists _; iexact HW
end Body
end Cert.Kernel.Hand
end
-- ==== Proof.Kernel.BodyD.lean ====
module

public import proofs.«01_k».proof.Proof.Kernel.BodyDefs

/-! The last step: it stores the short block, copies it, writes the refined scores and waits for every copy. -/

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body
variable (c : Dev nD) (i : grid0.Coords)
  (arg2 : Memref sig .tc .vmem S2x96x128 .bf16) (harg2 : arg2.IsWhole) (arg3 : Memref sig .tc .vmem S1x96 .f32) (harg3 : arg3.IsWhole)
  (arg4 : Memref sig .tc .vmem S48x4096 .i8) (harg4 : arg4.IsWhole) (arg5 : Memref sig .tc .vmem S96x4096 .i8) (harg5 : arg5.IsWhole)
  (arg6 : Memref sig .tc .vmem S1x4096 .bf16) (harg6 : arg6.IsWhole) (arg7 : Memref sig .tc .vmem S1x4096 .bf16) (harg7 : arg7.IsWhole)
  (arg8 : Memref sig .tc .vmem S176x128 .i32) (harg8 : arg8.IsWhole) (arg11 : Memref sig .tc .vmem S50x2x128 .f32) (harg11 : arg11.IsWhole)

/-- The last step waits for all the copies, its own included. -/
theorem bodyD (hl : (lastPt 0).val = 170) (T : Buf (Elt F) (tabM.view.loc (c : Thread nD τ))) (hchk : k0_chk1 lastPt (ldT c lastPt T))
    (X9 f2 f3 f4 f5 f6 f7 f8 f11 f12 f13 f14 f15 f16 fd fs fd3 fs3 fd0 fs0 fd1 fs1 fo W) (Q : PUnit → sProp 𝕄) :
    iprop((own c tabM T ∗ (ovfM.view.loc (c : Thread nD τ) ↦{fullShare} X9)
      ∗ own c arg2 f2 ∗ own c arg3 f3 ∗ own c arg4 f4 ∗ own c arg5 f5 ∗ own c arg6 f6 ∗ own c arg7 f7 ∗ own c arg8 f8 ∗ own c arg11 f11
      ∗ own c xfM f12 ∗ own c wM f13 ∗ own c xsM f14 ∗ own c accM f15 ∗ own c rowM f16
      ∗ flt c 2 166 fd fs ∗ flt c 3 167 fd3 fs3 ∗ flt c 0 168 fd0 fs0 ∗ flt c 1 169 fd1 fs1 ∗ own c dstT fo ∗ ovfP c ∗ owes (c : Thread nD τ) 0 W)
      ∗ ((own c tabM T ∗ (ovfM.view.loc (c : Thread nD τ) ↦{fullShare} X9)
        ∗ own c arg2 f2 ∗ own c arg3 f3 ∗ own c arg4 f4 ∗ own c arg5 f5 ∗ own c arg6 f6 ∗ own c arg7 f7 ∗ own c arg8 f8 ∗ (∃ f, own c arg11 f)
        ∗ own c xfM f12 ∗ own c wM f13 ∗ own c xsM f14 ∗ (∃ f, own c accM f) ∗ (∃ f, own c rowM f)
        ∗ (own c (dstM 166) fd ∗ own c (dstM 167) fd3 ∗ own c (dstM 168) fd0 ∗ own c (dstM 169) fd1) ∗ (∃ fo, ⌜dstT.view.read (Elt F) fo = fun j => stepBlk c arg4 arg6 arg7 f13 f4 f6 f7 (up j)⌝ ∗ own c dstT fo) ∗ (∃ f, own c (slotM 0) f) ∗ (∃ f, own c (slotM 1) f) ∗ (∃ f, own c (slotM 2) f) ∗ (∃ f, own c (slotM 3) f) ∗ (cellP c 0 ∗ cellP c 1 ∗ cellP c 2 ∗ cellP c 3) ∗ ovfP c ∗ (∃ W, owes (c : Thread nD τ) 0 W)) -∗ Q ⟨⟩))
      ⊢ wp frame (wpE (defs₀ (F := F)) 𝒱₀ (c : Thread nD τ) none) Set.univ (bodyG lastPt arg2 harg2 arg3 harg3 arg4 harg4 arg5 harg5 arg6 harg6 arg7 harg7 arg8 harg8 arg11 harg11) Q := by
  have hc1 : ¬ (Scalar.cmpi .ne (Scalar.extui (Scalar.cmpi .eq (BitVec.ofNat 32 (lastPt 0).val) 0#32) : BitVec 32) 0#32 = 1#1) := fun h => by have := (cond1_iff lastPt).1 h; omega
  have hc2 : k0_cond2 lastPt = 1#1 := (cond2_iff lastPt).2 (by omega)
  have hc3 : ¬ (k0_cond3 lastPt = 1#1) := fun h => by have := (cond3_iff lastPt).1 h; omega
  have hc4 : k0_cond4 lastPt = 1#1 := (cond4_iff lastPt).2 (by omega)
  iintro ⟨⟨HT, H9, H2, H3, H4, H5, H6, H7, H8, H11, H12, H13, H14, H15, H16, Hf, Hf3, Hf0, Hf1, Ho, Hc7, HW⟩, Hk⟩
  dsimp only [bodyG]
  rw [cc0_lvq_scores_eq_skeleton]
  sl_exec_parts
  ihave Hsp := (slot2_split c (bodyD.sl.Hf_src_w2 c arg4 arg6 arg7 f4 f6 f7 f13 fs)) $$ Hf_src
  icases Hsp with ⟨Hst, Hsr⟩
  sl_exec_parts
  sl_step
  iapply Hk
  isplitl [HT]; · iexact HT
  isplitl [H9]; · iexact H9
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H11]; · iexists _; iexact H11
  isplitl [H12]; · iexact H12
  isplitl [H13]; · iexact H13
  isplitl [H14]; · iexact H14
  isplitl [H15]; · iexists _; iexact H15
  isplitl [H16]; · iexists _; iexact H16
  isplitl [Hf_dst Hf3_dst Hf0_dst Hf1_dst]
  · isplitl [Hf_dst]; · iexact Hf_dst
    isplitl [Hf3_dst]; · iexact Hf3_dst
    isplitl [Hf0_dst]; · iexact Hf0_dst
    iexact Hf1_dst
  isplitl [Ho]
  · iexists _
    isplitr [Ho]; swap; · iexact Ho
    ipureintro
    refine (dstT_read _ _).trans (funext fun j => ?_)
    refine (slotT_read _ j).trans ?_
    exact congrFun (slot_read 2 ((off4_eq lastPt).trans (by rw [sl_last lastPt hl])) ((off5_eq lastPt).trans (by rw [sl_last lastPt hl])) _ _ _ _ _ _ _) (up j)
  isplitl [Hf0_src]; · iexists _; iexact Hf0_src
  isplitl [Hf1_src]; · iexists _; iexact Hf1_src
  isplitl [Hst Hsr]
  · iexists (bodyD.sl.Hf_src_w2 c arg4 arg6 arg7 f4 f6 f7 f13 fs)
    iapply (slot2_join c (bodyD.sl.Hf_src_w2 c arg4 arg6 arg7 f4 f6 f7 f13 fs))
    isplitl [Hst]; · iexact Hst
    iexact Hsr
  isplitl [Hf3_src]; · iexists _; iexact Hf3_src
  isplitl [Hf0 Hf1 Hf Hf3]
  · isplitl [Hf0]; · iexact Hf0
    isplitl [Hf1]; · iexact Hf1
    isplitl [Hf]; · iexact Hf
    iexact Hf3
  isplitl [Hc7]; · iexact Hc7
  iexists _; iexact HW
end Body
end Cert.Kernel.Hand
end
-- ==== Proof.Kernel.RingInv.lean ====
module

public import proofs.«01_k».proof.Proof.Kernel.BodyDefs
public import Idealize.ShloMosaic.Lib.Ring.WriteBehind

/-! The result and the ring between two steps: the blocks that have landed, the blocks still to come, and the slots, of
which each is free or has a copy in flight. -/

@[expose] public section

noncomputable section

namespace Cert.Kernel.Hand

open Cert.Kernel Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- The result's rows before `n`, and from `n` on. -/
def rowsLt (n : ℕ) : Finset S2x700000x128.Idx := Finset.univ.filter fun y => (y 1).val < n
def rowsGe (n : ℕ) : Finset S2x700000x128.Idx := Finset.univ.filter fun y => n ≤ (y 1).val
theorem mem_rowsLt {n : ℕ} {y : S2x700000x128.Idx} : y ∈ rowsLt n ↔ (y 1).val < n := by simp [rowsLt]
theorem mem_rowsGe {n : ℕ} {y : S2x700000x128.Idx} : y ∈ rowsGe n ↔ n ≤ (y 1).val := by simp [rowsGe]

/-- An index of the result as an index of its block. -/
def blkIx (y : S2x700000x128.Idx) : S2x4096x128.Idx := ix3 (y 0) ⟨(y 1).val % 4096, Nat.mod_lt _ (by decide)⟩ (y 2)

/-- The contents `f` hold, at block `u`, values that `Bk u` admits. -/
def Gd (Bk : ℕ → (S2x4096x128.Idx → Elt F .f32) → Prop) (u : ℕ) (f : S2x700000x128.Idx → Elt F .f32) : Prop :=
  ∃ v, Bk u v ∧ ∀ y : S2x700000x128.Idx, 4096 * u ≤ (y 1).val → (y 1).val < 4096 * u + 4096 → f y = v (blkIx y)

variable {Bk : ℕ → (S2x4096x128.Idx → Elt F .f32) → Prop}

theorem Gd.congr {u : ℕ} {f g : S2x700000x128.Idx → Elt F .f32} (h : Gd Bk u f)
    (e : ∀ y : S2x700000x128.Idx, 4096 * u ≤ (y 1).val → (y 1).val < 4096 * u + 4096 → g y = f y) : Gd Bk u g := by
  obtain ⟨v, hv, hf⟩ := h
  exact ⟨v, hv, fun y h1 h2 => (e y h1 h2).trans (hf y h1 h2)⟩

theorem dstM_at (u : ℕ) (hu : u < 170) (j : S2x4096x128.Idx) (y : S2x700000x128.Idx) (h0 : (j 0).val = (y 0).val)
    (h1 : 4096 * u + (j 1).val = (y 1).val) (h2 : (j 2).val = (y 2).val) : (dstM u).view.emb j = y := by
  funext a; apply Fin.ext; refine (dstM_emb u hu _ a).trans ?_
  fin_cases a
  · exact h0
  · exact h1
  · exact h2
theorem blkIx_row (y : S2x700000x128.Idx) : (blkIx y 1).val = (y 1).val % 4096 := rfl
theorem dstM_blk (u : ℕ) (hu : u < 170) (y : S2x700000x128.Idx) (h1 : 4096 * u ≤ (y 1).val) (h2 : (y 1).val < 4096 * u + 4096) :
    (dstM u).view.emb (blkIx y) = y :=
  dstM_at u hu _ y rfl (by rw [blkIx_row]; omega) rfl

theorem Gd.of_read {u : ℕ} (hu : u < 170) {v : S2x4096x128.Idx → Elt F .f32} (hv : Bk u v) (f : outM.view.ty.Contents (Elt F))
    (h : (dstM u).view.read (Elt F) f = v) : Gd Bk u f :=
  ⟨v, hv, fun y h1 h2 => ((congrArg (f : S2x700000x128.Idx → Elt F .f32) (dstM_blk u hu y h1 h2)).symm).trans (congrFun h (blkIx y))⟩

/-- An index of the last block as an index of the short block. -/
def blkT (y : S2x700000x128.Idx) : S2x3680x128.Idx :=
  ix3 (y 0) ⟨(y 1).val - 696320, by have : (y 1).val < 700000 := (y 1).isLt; omega⟩ (y 2)
theorem dstT_at (j : S2x3680x128.Idx) (y : S2x700000x128.Idx) (h0 : (j 0).val = (y 0).val)
    (h1 : 696320 + (j 1).val = (y 1).val) (h2 : (j 2).val = (y 2).val) : dstT.view.emb j = y := by
  funext a; apply Fin.ext; refine (dstT_emb _ a).trans ?_
  fin_cases a
  · exact h0
  · exact h1
  · exact h2
theorem blkT_row (y : S2x700000x128.Idx) : (blkT y 1).val = (y 1).val - 696320 := rfl
theorem dstT_blk (y : S2x700000x128.Idx) (h1 : 696320 ≤ (y 1).val) : dstT.view.emb (blkT y) = y :=
  dstT_at _ y rfl (by rw [blkT_row]; omega) rfl
theorem up_at (j : S2x3680x128.Idx) (j' : S2x4096x128.Idx) (h0 : (j 0).val = (j' 0).val) (h1 : (j 1).val = (j' 1).val)
    (h2 : (j 2).val = (j' 2).val) : up j = j' := by
  funext a; apply Fin.ext
  fin_cases a
  · exact h0
  · exact h1
  · exact h2
theorem up_blkT (y : S2x700000x128.Idx) (h1 : 696320 ≤ (y 1).val) : up (blkT y) = blkIx y :=
  up_at _ _ rfl (by rw [blkT_row, blkIx_row]; have : (y 1).val < 700000 := (y 1).isLt; omega) rfl

theorem Gd.of_readT {v : S2x4096x128.Idx → Elt F .f32} (hv : Bk 170 v) (f : outM.view.ty.Contents (Elt F))
    (h : dstT.view.read (Elt F) f = fun j => v (up j)) : Gd Bk 170 f :=
  ⟨v, hv, fun y h1 _ => ((congrArg (f : S2x700000x128.Idx → Elt F .f32) (dstT_blk y h1)).symm).trans
    ((congrFun h (blkT y)).trans (congrArg v (up_blkT y h1)))⟩

variable (Bk) (c : Dev nD)

/-- The first `j` blocks have landed. -/
def behind (j : ℕ) : sProp 𝕄 :=
  iprop(∃ f : Buf (Elt F) (outM.view.loc (c : Thread nD τ)), ⌜∀ u, u < j → Gd Bk u f⌝ ∗ (outM.view.loc (c : Thread nD τ) ↦[rowsLt (4096 * j)]{fullShare} f))
/-- The blocks from `j` on are still to be written. -/
def ahead (j : ℕ) : sProp 𝕄 :=
  iprop(∃ f : Buf (Elt F) (outM.view.loc (c : Thread nD τ)), (outM.view.loc (c : Thread nD τ) ↦[rowsGe (4096 * j)]{fullShare} f))

/-- The elements of a block of the result, and of a slot of the ring. -/
def dstS (u : ℕ) : Finset S2x700000x128.Idx := (dstM u).view.set
def dstTS : Finset S2x700000x128.Idx := dstT.view.set
def slotS (g : Fin 4) : Finset S4x2x4096x128.Idx := (slotM g).view.set
theorem mem_dstS (u : ℕ) (hu : u < 170) (y : S2x700000x128.Idx) : y ∈ dstS u ↔ 4096 * u ≤ (y 1).val ∧ (y 1).val < 4096 * u + 4096 := mem_dst u hu y
theorem mem_dstTS (y : S2x700000x128.Idx) : y ∈ dstTS ↔ 696320 ≤ (y 1).val := mem_dstT y
theorem mem_slotS (g : Fin 4) (y : S4x2x4096x128.Idx) : y ∈ slotS g ↔ (y 0).val = g.val := mem_slot g y
theorem own_dst (u : ℕ) (f : Buf (Elt F) (outM.view.loc (c : Thread nD τ))) :
    (own c (dstM u) f : sProp 𝕄) = (outM.view.loc (c : Thread nD τ) ↦[dstS u]{fullShare} f) := rfl
theorem own_dstT (f : Buf (Elt F) (outM.view.loc (c : Thread nD τ))) :
    (own c dstT f : sProp 𝕄) = (outM.view.loc (c : Thread nD τ) ↦[dstTS]{fullShare} f) := rfl
theorem own_slot (g : Fin 4) (f : Buf (Elt F) (ringM.view.loc (c : Thread nD τ))) :
    (own c (slotM g) f : sProp 𝕄) = (ringM.view.loc (c : Thread nD τ) ↦[slotS g]{fullShare} f) := rfl
theorem dst_eq (u : ℕ) (hu : u < 170) : rowsGe (4096 * u) \ rowsGe (4096 * (u + 1)) = dstS u := by
  ext y; rw [mem_dstS u hu, Finset.mem_sdiff, mem_rowsGe, mem_rowsGe]; omega
theorem dst_sub (u : ℕ) (hu : u < 170) : rowsGe (4096 * (u + 1)) ⊆ rowsGe (4096 * u) := by
  intro y; rw [mem_rowsGe, mem_rowsGe]; omega

/-- The next block is taken from those to come. -/
theorem ahead_open (u : ℕ) (hu : u < 170) : (ahead c u : sProp 𝕄) ⊢ iprop((∃ fo, own c (dstM u) fo) ∗ ahead c (u + 1)) := by
  unfold ahead
  iintro ⟨%f, H⟩
  ihave H := (pointsTo_split_subset (ℓ := outM.view.loc (c : Thread nD τ)) (dst_sub u hu)).1 $$ H
  icases H with ⟨H1, H2⟩
  isplitl [H2]
  · iexists f
    rw [own_dst, ← dst_eq u hu]
    iexact H2
  · iexists f; iexact H1
/-- The last one is what is left. -/
theorem ahead_last : (ahead c 170 : sProp 𝕄) ⊢ iprop(∃ fo, own c dstT fo) := by
  unfold ahead
  iintro ⟨%f, H⟩
  iexists f
  rw [own_dstT, show dstTS = rowsGe (4096 * 170) from by ext y; rw [mem_dstTS, mem_rowsGe]]
  iexact H
/-- At first every block is to come, -/
theorem ahead_start (f : Buf (Elt F) (outM.view.loc (c : Thread nD τ))) : ((outM.view.loc (c : Thread nD τ)) ↦{fullShare} f : sProp 𝕄) ⊢ ahead c 0 := by
  unfold ahead
  iintro H; iexists f
  rw [show rowsGe (4096 * 0) = Finset.univ from by ext y; rw [mem_rowsGe]; simp]
  iexact H
/-- and none has landed. -/
theorem behind_zero : (BI.emp : sProp 𝕄) ⊢ behind Bk c 0 := by
  unfold behind
  iintro -
  iexists outM.view.junk
  rw [show rowsLt (4096 * 0) = ∅ from by ext y; rw [mem_rowsLt]; simp]
  isplitr
  · ipureintro; intro u hu; omega
  · rw [show (outM.view.loc (c : Thread nD τ) ↦[(∅ : Finset S2x700000x128.Idx)]{fullShare} outM.view.junk : sProp 𝕄) = BI.emp from pointsTo_empty]
    iempintro

theorem behind_join {j n : ℕ} (I : Finset S2x700000x128.Idx) (hI : ∀ y : S2x700000x128.Idx, y ∈ I ↔ (4096 * j ≤ (y 1).val ∧ (y 1).val < n))
    (hn : n ≤ 4096 * (j + 1)) (hn' : rowsLt n = rowsLt (4096 * (j + 1))) (g : Buf (Elt F) (outM.view.loc (c : Thread nD τ))) (hg : Gd Bk j g) (hjn : 4096 * j ≤ n) :
    iprop(behind Bk c j ∗ (outM.view.loc (c : Thread nD τ) ↦[I]{fullShare} g)) ⊢ (behind Bk c (j + 1) : sProp 𝕄) := by
  unfold behind
  iintro ⟨⟨%f, %hf, H⟩, Hg⟩
  have hd : Disjoint (rowsLt (4096 * j)) I := by
    rw [Finset.disjoint_left]; intro y; rw [mem_rowsLt, hI]; omega
  ihave H := (pointsTo_join (ℓ := outM.view.loc (c : Thread nD τ)) hd) $$ [H Hg]
  · isplitl [H] <;> iassumption
  have e : rowsLt (4096 * j) ∪ I = rowsLt (4096 * (j + 1)) := by
    rw [← hn']; ext y; rw [Finset.mem_union, mem_rowsLt, mem_rowsLt, hI]; omega
  iexists (I.piecewise g f)
  isplitr
  · ipureintro
    intro u hu
    by_cases hj : u = j
    · subst hj
      refine hg.congr fun y h1 h2 => ?_
      have hy : y ∈ I := (hI y).2 ⟨h1, by
        have : y ∈ rowsLt n := by rw [hn', mem_rowsLt]; omega
        exact mem_rowsLt.1 this⟩
      exact Finset.piecewise_eq_of_mem _ _ _ hy
    · refine (hf u (by omega)).congr fun y h1 h2 => ?_
      have hy : y ∉ I := fun h => by have := (hI y).1 h; omega
      exact Finset.piecewise_eq_of_notMem _ _ _ hy
  · rw [← e]; iexact H

/-- A block lands next to those that have landed. -/
theorem behind_land (j : ℕ) (hj : j < 170) (g : Buf (Elt F) (outM.view.loc (c : Thread nD τ))) (hg : Gd Bk j g) :
    iprop(behind Bk c j ∗ own c (dstM j) g) ⊢ (behind Bk c (j + 1) : sProp 𝕄) :=
  behind_join Bk c (dstS j) (fun y => (mem_dstS j hj y).trans (by omega)) (n := 4096 * (j + 1)) le_rfl rfl g hg (by omega)
/-- The last one too. -/
theorem behind_last (g : Buf (Elt F) (outM.view.loc (c : Thread nD τ))) (hg : Gd Bk 170 g) :
    iprop(behind Bk c 170 ∗ own c dstT g) ⊢ (behind Bk c 171 : sProp 𝕄) :=
  behind_join Bk c dstTS (fun y => (mem_dstTS y).trans (by have : (y 1).val < 700000 := (y 1).isLt; omega)) (n := 700000) (by omega)
    (by ext y; rw [mem_rowsLt, mem_rowsLt]; have : (y 1).val < 700000 := (y 1).isLt; omega) g hg (by omega)
/-- At the end the whole result is held, every block at admitted values. -/
theorem behind_end : (behind Bk c 171 : sProp 𝕄)
    ⊢ iprop(∃ f : Buf (Elt F) (outM.view.loc (c : Thread nD τ)), ⌜∀ u, u < 171 → Gd Bk u f⌝ ∗ ((outM.view.loc (c : Thread nD τ)) ↦{fullShare} f)) := by
  unfold behind
  rw [show rowsLt (4096 * 171) = Finset.univ from by ext y; rw [mem_rowsLt]; have : (y 1).val < 700000 := (y 1).isLt; simp; omega]

/-! ## The slots -/

/-- Slot `g` holds a copy of block `u` in flight, of admitted values; or it is free. -/
def infl (g : Fin 4) (u : ℕ) : sProp 𝕄 :=
  iprop(∃ (fd : Buf (Elt F) (outM.view.loc (c : Thread nD τ))) (fs : Buf (Elt F) (ringM.view.loc (c : Thread nD τ))), ⌜Gd Bk u fd⌝ ∗ flt c g u fd fs)
def freeS (g : Fin 4) : sProp 𝕄 :=
  iprop((∃ fs : Buf (Elt F) (ringM.view.loc (c : Thread nD τ)), own c (slotM g) fs) ∗ cellP c g)
/-- The last step before `k` that used slot `g`. -/
def lastU (k : ℕ) (g : Fin 4) : ℕ := k - 1 - (k - 1 - g.val) % 4
/-- Slot `g` before step `k`. -/
def slotAt (k : ℕ) (g : Fin 4) : sProp 𝕄 := if g.val < k then infl Bk c g (lastU k g) else freeS c g

theorem sl_mod (k : ℕ) : (Ring.sl 4 k).val = k % 4 := by simp [Ring.sl, Fin.ofNat]
theorem slotAt_next (k : ℕ) (g : Fin 4) (hg : g ≠ Ring.sl 4 k) : (slotAt Bk c k g : sProp 𝕄) = slotAt Bk c (k + 1) g := by
  have h : g.val ≠ k % 4 := fun e => hg (Fin.ext (e.trans (sl_mod k).symm))
  have h4 := g.isLt
  unfold slotAt
  by_cases hk : g.val < k
  · rw [if_pos hk, if_pos (by omega), show lastU k g = lastU (k + 1) g from by unfold lastU; omega]
  · rw [if_neg hk, if_neg (by omega)]

theorem slots_rest (k : ℕ) : (bigSep (Finset.univ.erase (Ring.sl 4 k)) (slotAt Bk c k) : sProp 𝕄)
    = bigSep (Finset.univ.erase (Ring.sl 4 k)) (slotAt Bk c (k + 1)) :=
  bigSep_congr fun g hg => slotAt_next Bk c k g (Finset.ne_of_mem_erase hg)

/-- Step `k < 4` takes a free slot, -/
theorem slots_boot (k : ℕ) (hk : k < 4) : (bigSep Finset.univ (slotAt Bk c k) : sProp 𝕄)
    = iprop(freeS c (Ring.sl 4 k) ∗ bigSep (Finset.univ.erase (Ring.sl 4 k)) (slotAt Bk c (k + 1))) := by
  rw [Ring.bigSep_take (Finset.mem_univ (Ring.sl 4 k)), slots_rest]
  unfold slotAt
  rw [if_neg (by rw [sl_mod]; omega)]
/-- a later one the slot of four steps before, -/
theorem slots_take (k : ℕ) (hk : 4 ≤ k) : (bigSep Finset.univ (slotAt Bk c k) : sProp 𝕄)
    = iprop(infl Bk c (Ring.sl 4 k) (k - 4) ∗ bigSep (Finset.univ.erase (Ring.sl 4 k)) (slotAt Bk c (k + 1))) := by
  rw [Ring.bigSep_take (Finset.mem_univ (Ring.sl 4 k)), slots_rest]
  have e : lastU k (Ring.sl 4 k) = k - 4 := by unfold lastU; rw [sl_mod]; omega
  have e' : slotAt Bk c k (Ring.sl 4 k) = (infl Bk c (Ring.sl 4 k) (k - 4) : sProp 𝕄) := by
    unfold slotAt
    rw [if_pos (by rw [sl_mod]; omega), e]
  rw [e']
/-- and each leaves its own copy in flight. -/
theorem slots_put (k : ℕ) : (bigSep Finset.univ (slotAt Bk c (k + 1)) : sProp 𝕄)
    = iprop(infl Bk c (Ring.sl 4 k) k ∗ bigSep (Finset.univ.erase (Ring.sl 4 k)) (slotAt Bk c (k + 1))) := by
  rw [Ring.bigSep_take (Finset.mem_univ (Ring.sl 4 k))]
  have e : lastU (k + 1) (Ring.sl 4 k) = k := by unfold lastU; rw [sl_mod]; omega
  have e' : slotAt Bk c (k + 1) (Ring.sl 4 k) = (infl Bk c (Ring.sl 4 k) k : sProp 𝕄) := by
    unfold slotAt
    rw [if_pos (by rw [sl_mod]; omega), e]
  rw [e']
theorem slots_four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ
/-- The last step finds the copies of the four steps before. -/
theorem slots_last : (bigSep Finset.univ (slotAt Bk c 170) : sProp 𝕄)
    = iprop(infl Bk c 0 168 ∗ infl Bk c 1 169 ∗ infl Bk c 2 166 ∗ infl Bk c 3 167) := by
  rw [slots_four]; rfl
theorem slots_start : (bigSep Finset.univ (slotAt Bk c 0) : sProp 𝕄) = bigSep Finset.univ (freeS c) :=
  bigSep_congr fun g _ => by unfold slotAt; rw [if_neg (by omega)]

/-- The ring's buffer is its four slots, -/
theorem slot_disj : ∀ g ∈ (Finset.univ : Finset (Fin 4)), ∀ g' ∈ (Finset.univ : Finset (Fin 4)), g ≠ g' → Disjoint (slotS g) (slotS g') := by
  intro g _ g' _ h
  rw [Finset.disjoint_left]; intro y h1 h2
  exact h (Fin.ext (((mem_slotS g y).1 h1).symm.trans ((mem_slotS g' y).1 h2)))
theorem slot_cover : (Finset.univ : Finset (Fin 4)).biUnion slotS = (Finset.univ : Finset S4x2x4096x128.Idx) := by
  ext y; rw [Finset.mem_biUnion]
  exact ⟨fun _ => Finset.mem_univ _, fun _ => ⟨y 0, Finset.mem_univ _, (mem_slotS (y 0) y).2 rfl⟩⟩

theorem ring_split (f : Buf (Elt F) (ringM.view.loc (c : Thread nD τ))) : ((ringM.view.loc (c : Thread nD τ)) ↦{fullShare} f : sProp 𝕄)
    = bigSep Finset.univ fun g : Fin 4 => own c (slotM g) f :=
  (congrArg (fun I : Finset S4x2x4096x128.Idx => (ringM.view.loc (c : Thread nD τ) ↦[I]{fullShare} f : sProp 𝕄)) slot_cover.symm).trans
    (pointsTo_biUnion (ℓ := ringM.view.loc (c : Thread nD τ)) Finset.univ slotS slot_disj)
/-- and back. -/
theorem ring_join (f0 f1 f2 f3 : Buf (Elt F) (ringM.view.loc (c : Thread nD τ))) :
    iprop(own c (slotM 0) f0 ∗ own c (slotM 1) f1 ∗ own c (slotM 2) f2 ∗ own c (slotM 3) f3) ⊢ iprop(∃ f, ((ringM.view.loc (c : Thread nD τ)) ↦{fullShare} f : sProp 𝕄)) := by
  have h := pointsTo_biUnion_join (ℓ := ringM.view.loc (c : Thread nD τ)) (q := fullShare) (Ix := Unit) (Name := ℕ) (U := UU nD τ) (Lvl := ℕ) Finset.univ slotS
    (![f0, f1, f2, f3]) f0 slot_disj
  rw [slots_four] at h
  refine (show _ ⊢ _ from h).trans ?_
  iintro ⟨%g, -, H⟩
  iexists g
  have e := congrArg (fun I : Finset S4x2x4096x128.Idx => (ringM.view.loc (c : Thread nD τ) ↦[I]{fullShare} g : sProp 𝕄)) slot_cover
  iapply (Entails.of_eq e)
  iexact H
end Cert.Kernel.Hand
end
-- ==== Proof.Kernel.Step.lean ====
module

public import proofs.«01_k».proof.Proof.Kernel.BodyA
public import proofs.«01_k».proof.Proof.Kernel.BodyB
public import proofs.«01_k».proof.Proof.Kernel.BodyC
public import proofs.«01_k».proof.Proof.Kernel.BodyD
public import proofs.«01_k».proof.Proof.Kernel.RingInv

/-! One step of the kernel, whichever it is: from the invariant before it to the invariant after it. The invariant says
what the tables hold (`Wk`) and which values each block of the result already written may hold (`Bk`). -/

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Step
variable (c : Dev nD) (T : Buf (Elt F) (tabM.view.loc (c : Thread nD τ)))
  (Wk : Buf (Elt F) (wM.view.loc (c : Thread nD τ)) → Prop)
  (Bk : ℕ → (S2x4096x128.Idx → Elt F .f32) → Prop)

/-- The counts and the overflow table, -/
def tabI : sProp 𝕄 := iprop(own c tabM T ∗ ∃ X, (ovfM.view.loc (c : Thread nD τ) ↦{fullShare} X))
/-- the scratch buffers before step `k`, -/
def scrI (k : ℕ) : sProp 𝕄 :=
  iprop((∃ f, own c xfM f) ∗ (∃ f, ⌜0 < k → Wk f⌝ ∗ own c wM f) ∗ (∃ f, own c xsM f) ∗ (∃ f, own c accM f) ∗ (∃ f, own c rowM f) ∗ ovfP c)
/-- the result and the ring before step `k ≤ 170`, -/
def ringI (k : ℕ) : sProp 𝕄 := iprop(behind Bk c (k - 4) ∗ ahead c k ∗ bigSep Finset.univ (slotAt Bk c k))
/-- and after the last step. -/
def ringE : sProp 𝕄 := iprop(behind Bk c 171 ∗ bigSep Finset.univ (freeS c))
/-- The invariant before step `k` (at 171: after the last). -/
def stepI (k : ℕ) : sProp 𝕄 := iprop(tabI c T ∗ scrI c Wk k ∗ if k ≤ 170 then ringI c Bk k else ringE c Bk)

variable (i : grid0.Coords)
  (arg2 : Memref sig .tc .vmem S2x96x128 .bf16) (harg2 : arg2.IsWhole) (arg3 : Memref sig .tc .vmem S1x96 .f32) (harg3 : arg3.IsWhole)
  (arg4 : Memref sig .tc .vmem S48x4096 .i8) (harg4 : arg4.IsWhole) (arg5 : Memref sig .tc .vmem S96x4096 .i8) (harg5 : arg5.IsWhole)
  (arg6 : Memref sig .tc .vmem S1x4096 .bf16) (harg6 : arg6.IsWhole) (arg7 : Memref sig .tc .vmem S1x4096 .bf16) (harg7 : arg7.IsWhole)
  (arg8 : Memref sig .tc .vmem S176x128 .i32) (harg8 : arg8.IsWhole) (arg11 : Memref sig .tc .vmem S50x2x128 .f32) (harg11 : arg11.IsWhole)

/-- The tables the first step makes of the queries and the centroid. -/
abbrev firstW (f2 : Buf (Elt F) (arg2.view.loc (c : Thread nD τ))) (f3 : Buf (Elt F) (arg3.view.loc (c : Thread nD τ))) : Buf (Elt F) (wM.view.loc (c : Thread nD τ)) :=
  wM.view.writes (Elt F) wM.view.junk (tabs.sl.H13_6 c arg2 arg3 f2 f3)

variable (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))
  (f6 : Buf (Elt F) (arg6.view.loc (c : Thread nD τ))) (f7 : Buf (Elt F) (arg7.view.loc (c : Thread nD τ)))
  (f8 : Buf (Elt F) (arg8.view.loc (c : Thread nD τ))) (f11 : Buf (Elt F) (arg11.view.loc (c : Thread nD τ)))

/-- The windows a step reads. -/
def winI : sProp 𝕄 := iprop(own c arg2 f2 ∗ own c arg3 f3 ∗ own c arg4 f4 ∗ own c arg5 f5 ∗ own c arg6 f6 ∗ own c arg7 f7 ∗ own c arg8 f8)

/-- What a step leaves. -/
def postI (k : ℕ) : sProp 𝕄 :=
  iprop(stepI c T Wk Bk k ∗ (∃ W, owes (c : Thread nD τ) 0 W) ∗ winI c arg2 arg3 arg4 arg5 arg6 arg7 arg8 f2 f3 f4 f5 f6 f7 f8 ∗ ∃ f, own c arg11 f)

variable (hT : ∀ i : grid0.Coords, k0_chk1 i (ldT c i T))
  (hB : ∀ f13, Wk f13 → Bk (i 0).val (stepBlk c arg4 arg6 arg7 f13 f4 f6 f7))

include hT hB in
/-- The first step. -/
theorem stepA (h0 : (i 0).val = 0) (hW : Wk (firstW c arg2 arg3 f2 f3)) :
    iprop(stepI c T Wk Bk (i 0).val ∗ (∃ W, owes (c : Thread nD τ) 0 W) ∗ winI c arg2 arg3 arg4 arg5 arg6 arg7 arg8 f2 f3 f4 f5 f6 f7 f8 ∗ own c arg11 f11)
      ⊢ wp frame (wpE (defs₀ (F := F)) 𝒱₀ (c : Thread nD τ) none) Set.univ (bodyG i arg2 harg2 arg3 harg3 arg4 harg4 arg5 harg5 arg6 harg6 arg7 harg7 arg8 harg8 arg11 harg11)
          fun _ => postI c T Wk Bk arg2 arg3 arg4 arg5 arg6 arg7 arg8 arg11 f2 f3 f4 f5 f6 f7 f8 ((i 0).val + 1) := by
  unfold stepI postI winI stepI tabI scrI
  rw [if_pos (by omega), if_pos (by omega)]
  unfold ringI
  rw [slots_boot Bk c (i 0).val (by omega), slots_put Bk c (i 0).val]
  unfold freeS
  iintro ⟨⟨⟨HT, %X9, H9⟩, ⟨⟨%f12, H12⟩, ⟨%f13, %hf13, H13⟩, ⟨%f14, H14⟩, ⟨%f15, H15⟩, ⟨%f16, H16⟩, Hc7⟩, ⟨Hbe, Hah, ⟨⟨%fs, Hs⟩, Hc⟩, Hrest⟩⟩, ⟨%W, HW⟩, ⟨H2, H3, H4, H5, H6, H7, H8⟩, H11⟩
  ihave Hah := (ahead_open c (i 0).val (by omega)) $$ Hah
  icases Hah with ⟨⟨%fo, Ho⟩, Hah⟩
  iapply (bodyA c i arg2 harg2 arg3 harg3 arg4 harg4 arg5 harg5 arg6 harg6 arg7 harg7 arg8 harg8 arg11 harg11 h0 (by omega) T (hT i) X9 f2 f3 f4 f5 f6 f7 f8 f11 f12 f13 f14 f15 f16 fs fo W)
  isplitl [HT H9 H2 H3 H4 H5 H6 H7 H8 H11 H12 H13 H14 H15 H16 Hs Hc Ho Hc7 HW]
  · iframe
  iintro ⟨HT, H9, H2, H3, H4, H5, H6, H7, H8, H11, H12, H13, H14, H15, H16, ⟨%fd, %fs', %hfd, Hf⟩, Hc7, HW⟩
  rw [show (i 0).val + 1 - 4 = (i 0).val - 4 from by omega]
  isplitl [HT H9 H12 H13 H14 H15 H16 Hc7 Hbe Hah Hf Hrest]
  · isplitl [HT H9]
    · isplitl [HT]; · iexact HT
      iexists _; iexact H9
    isplitl [H12 H13 H14 H15 H16 Hc7]
    · isplitl [H12]; · iexact H12
      isplitl [H13]
      · iexists _; isplitr; · ipureintro; exact fun _ => hW
        iexact H13
      iframe
    isplitl [Hbe]; · iexact Hbe
    isplitl [Hah]; · iexact Hah
    isplitl [Hf]
    · unfold infl; iexists _, _; isplitr [Hf]; swap; · iexact Hf
      ipureintro; exact Gd.of_read (by omega) (hB _ hW) fd hfd
    iexact Hrest
  isplitl [HW]; · iexact HW
  isplitl [H2 H3 H4 H5 H6 H7 H8]; · iframe
  iexists _; iexact H11

include hT hB in
/-- A step before the ring wraps. -/
theorem stepB (h0 : 1 ≤ (i 0).val) (hl : (i 0).val < 4) :
    iprop(stepI c T Wk Bk (i 0).val ∗ (∃ W, owes (c : Thread nD τ) 0 W) ∗ winI c arg2 arg3 arg4 arg5 arg6 arg7 arg8 f2 f3 f4 f5 f6 f7 f8 ∗ own c arg11 f11)
      ⊢ wp frame (wpE (defs₀ (F := F)) 𝒱₀ (c : Thread nD τ) none) Set.univ (bodyG i arg2 harg2 arg3 harg3 arg4 harg4 arg5 harg5 arg6 harg6 arg7 harg7 arg8 harg8 arg11 harg11)
          fun _ => postI c T Wk Bk arg2 arg3 arg4 arg5 arg6 arg7 arg8 arg11 f2 f3 f4 f5 f6 f7 f8 ((i 0).val + 1) := by
  unfold stepI postI winI stepI tabI scrI
  rw [if_pos (by omega), if_pos (by omega)]
  unfold ringI
  rw [slots_boot Bk c (i 0).val (by omega), slots_put Bk c (i 0).val]
  unfold freeS
  iintro ⟨⟨⟨HT, %X9, H9⟩, ⟨⟨%f12, H12⟩, ⟨%f13, %hf13, H13⟩, ⟨%f14, H14⟩, ⟨%f15, H15⟩, ⟨%f16, H16⟩, Hc7⟩, ⟨Hbe, Hah, ⟨⟨%fs, Hs⟩, Hc⟩, Hrest⟩⟩, ⟨%W, HW⟩, ⟨H2, H3, H4, H5, H6, H7, H8⟩, H11⟩
  ihave Hah := (ahead_open c (i 0).val (by omega)) $$ Hah
  icases Hah with ⟨⟨%fo, Ho⟩, Hah⟩
  iapply (bodyB c i arg2 harg2 arg3 harg3 arg4 harg4 arg5 harg5 arg6 harg6 arg7 harg7 arg8 harg8 arg11 harg11 h0 hl T (hT i) X9 f2 f3 f4 f5 f6 f7 f8 f11 f12 f13 f14 f15 f16 fs fo W)
  isplitl [HT H9 H2 H3 H4 H5 H6 H7 H8 H11 H12 H13 H14 H15 H16 Hs Hc Ho Hc7 HW]
  · iframe
  iintro ⟨HT, H9, H2, H3, H4, H5, H6, H7, H8, H11, H12, H13, H14, H15, H16, ⟨%fd, %fs', %hfd, Hf⟩, Hc7, HW⟩
  rw [show (i 0).val + 1 - 4 = (i 0).val - 4 from by omega]
  isplitl [HT H9 H12 H13 H14 H15 H16 Hc7 Hbe Hah Hf Hrest]
  · isplitl [HT H9]
    · isplitl [HT]; · iexact HT
      iexists _; iexact H9
    isplitl [H12 H13 H14 H15 H16 Hc7]
    · isplitl [H12]; · iexists _; iexact H12
      isplitl [H13]
      · iexists _; isplitr; · ipureintro; exact fun _ => hf13 (by omega)
        iexact H13
      isplitl [H14]; · iexists _; iexact H14
      iframe
    isplitl [Hbe]; · iexact Hbe
    isplitl [Hah]; · iexact Hah
    isplitl [Hf]
    · unfold infl; iexists _, _; isplitr [Hf]; swap; · iexact Hf
      ipureintro; exact Gd.of_read (by omega) (hB _ (hf13 (by omega))) fd hfd
    iexact Hrest
  isplitl [HW]; · iexact HW
  isplitl [H2 H3 H4 H5 H6 H7 H8]; · iframe
  iexists _; iexact H11

include hT hB in
/-- A step of the main run. -/
theorem stepC (h0 : 4 ≤ (i 0).val) (hl : (i 0).val < 170) :
    iprop(stepI c T Wk Bk (i 0).val ∗ (∃ W, owes (c : Thread nD τ) 0 W) ∗ winI c arg2 arg3 arg4 arg5 arg6 arg7 arg8 f2 f3 f4 f5 f6 f7 f8 ∗ own c arg11 f11)
      ⊢ wp frame (wpE (defs₀ (F := F)) 𝒱₀ (c : Thread nD τ) none) Set.univ (bodyG i arg2 harg2 arg3 harg3 arg4 harg4 arg5 harg5 arg6 harg6 arg7 harg7 arg8 harg8 arg11 harg11)
          fun _ => postI c T Wk Bk arg2 arg3 arg4 arg5 arg6 arg7 arg8 arg11 f2 f3 f4 f5 f6 f7 f8 ((i 0).val + 1) := by
  unfold stepI postI winI stepI tabI scrI
  rw [if_pos (by omega), if_pos (by omega)]
  unfold ringI
  rw [slots_take Bk c (i 0).val h0, slots_put Bk c (i 0).val]
  iintro ⟨⟨⟨HT, %X9, H9⟩, ⟨⟨%f12, H12⟩, ⟨%f13, %hf13, H13⟩, ⟨%f14, H14⟩, ⟨%f15, H15⟩, ⟨%f16, H16⟩, Hc7⟩, ⟨Hbe, Hah, Hin, Hrest⟩⟩, ⟨%W, HW⟩, ⟨H2, H3, H4, H5, H6, H7, H8⟩, H11⟩
  ihave Hah := (ahead_open c (i 0).val (by omega)) $$ Hah
  icases Hah with ⟨⟨%fo, Ho⟩, Hah⟩
  unfold infl
  icases Hin with ⟨%fd0, %fs0, %hfd0, Hf⟩
  iapply (bodyC c i arg2 harg2 arg3 harg3 arg4 harg4 arg5 harg5 arg6 harg6 arg7 harg7 arg8 harg8 arg11 harg11 h0 hl T (hT i) X9 f2 f3 f4 f5 f6 f7 f8 f11 f12 f13 f14 f15 f16 fd0 fs0 fo W)
  isplitl [HT H9 H2 H3 H4 H5 H6 H7 H8 H11 H12 H13 H14 H15 H16 Hf Ho Hc7 HW]
  · iframe
  iintro ⟨HT, H9, H2, H3, H4, H5, H6, H7, H8, H11, H12, H13, H14, H15, H16, ⟨%fd, %fs', %hfd, Hf⟩, Hdn, Hc7, HW⟩
  ihave Hbe := (behind_land Bk c ((i 0).val - 4) (by omega) fd0 hfd0) $$ [Hbe Hdn]
  · iframe
  rw [show (i 0).val + 1 - 4 = (i 0).val - 4 + 1 from by omega]
  isplitl [HT H9 H12 H13 H14 H15 H16 Hc7 Hbe Hah Hf Hrest]
  · isplitl [HT H9]
    · isplitl [HT]; · iexact HT
      iexists _; iexact H9
    isplitl [H12 H13 H14 H15 H16 Hc7]
    · isplitl [H12]; · iexists _; iexact H12
      isplitl [H13]
      · iexists _; isplitr; · ipureintro; exact fun _ => hf13 (by omega)
        iexact H13
      isplitl [H14]; · iexists _; iexact H14
      iframe
    isplitl [Hbe]; · iexact Hbe
    isplitl [Hah]; · iexact Hah
    isplitl [Hf]
    · iexists _, _; isplitr [Hf]; swap; · iexact Hf
      ipureintro; exact Gd.of_read (by omega) (hB _ (hf13 (by omega))) fd hfd
    iexact Hrest
  isplitl [HW]; · iexact HW
  isplitl [H2 H3 H4 H5 H6 H7 H8]; · iframe
  iexists _; iexact H11

include hT hB in
/-- The last step. -/
theorem stepD (h0 : (i 0).val = 170) :
    iprop(stepI c T Wk Bk (i 0).val ∗ (∃ W, owes (c : Thread nD τ) 0 W) ∗ winI c arg2 arg3 arg4 arg5 arg6 arg7 arg8 f2 f3 f4 f5 f6 f7 f8 ∗ own c arg11 f11)
      ⊢ wp frame (wpE (defs₀ (F := F)) 𝒱₀ (c : Thread nD τ) none) Set.univ (bodyG i arg2 harg2 arg3 harg3 arg4 harg4 arg5 harg5 arg6 harg6 arg7 harg7 arg8 harg8 arg11 harg11)
          fun _ => postI c T Wk Bk arg2 arg3 arg4 arg5 arg6 arg7 arg8 arg11 f2 f3 f4 f5 f6 f7 f8 ((i 0).val + 1) := by
  obtain rfl : i = lastPt := by funext a; fin_cases a; exact Fin.ext h0
  rw [h0] at hB ⊢
  unfold stepI postI winI stepI tabI scrI
  rw [if_pos (by omega), if_neg (by omega)]
  unfold ringI ringE
  rw [slots_last Bk c, slots_four]
  unfold infl freeS
  iintro ⟨⟨⟨HT, %X9, H9⟩, ⟨⟨%f12, H12⟩, ⟨%f13, %hf13, H13⟩, ⟨%f14, H14⟩, ⟨%f15, H15⟩, ⟨%f16, H16⟩, Hc7⟩, ⟨Hbe, Hah, ⟨%fd0, %fs0, %hfd0, Hf0⟩, ⟨%fd1, %fs1, %hfd1, Hf1⟩, ⟨%fd2, %fs2, %hfd2, Hf2⟩, ⟨%fd3, %fs3, %hfd3, Hf3⟩⟩⟩, ⟨%W, HW⟩, ⟨H2, H3, H4, H5, H6, H7, H8⟩, H11⟩
  ihave Hah := (ahead_last c) $$ Hah
  icases Hah with ⟨%fo, Ho⟩
  iapply (bodyD c arg2 harg2 arg3 harg3 arg4 harg4 arg5 harg5 arg6 harg6 arg7 harg7 arg8 harg8 arg11 harg11 lastPt_val T (hT lastPt) X9 f2 f3 f4 f5 f6 f7 f8 f11 f12 f13 f14 f15 f16 fd2 fs2 fd3 fs3 fd0 fs0 fd1 fs1 fo W)
  isplitl [HT H9 H2 H3 H4 H5 H6 H7 H8 H11 H12 H13 H14 H15 H16 Hf0 Hf1 Hf2 Hf3 Ho Hc7 HW]
  · iframe
  iintro ⟨HT, H9, H2, H3, H4, H5, H6, H7, H8, H11, H12, H13, H14, H15, H16, ⟨Hd2, Hd3, Hd0, Hd1⟩, ⟨%fo', %hfo, Ho⟩, Hs0, Hs1, Hs2, Hs3, ⟨Hk0, Hk1, Hk2, Hk3⟩, Hc7, HW⟩
  ihave Hbe := (behind_land Bk c 166 (by omega) fd2 hfd2) $$ [Hbe Hd2]
  · iframe
  ihave Hbe := (behind_land Bk c 167 (by omega) fd3 hfd3) $$ [Hbe Hd3]
  · iframe
  ihave Hbe := (behind_land Bk c 168 (by omega) fd0 hfd0) $$ [Hbe Hd0]
  · iframe
  ihave Hbe := (behind_land Bk c 169 (by omega) fd1 hfd1) $$ [Hbe Hd1]
  · iframe
  ihave Hbe := (behind_last Bk c fo' (Gd.of_readT (hB _ (hf13 (by omega))) fo' hfo)) $$ [Hbe Ho]
  · iframe
  isplitl [HT H9 H12 H13 H14 H15 H16 Hc7 Hbe Hs0 Hs1 Hs2 Hs3 Hk0 Hk1 Hk2 Hk3]
  · isplitl [HT H9]
    · isplitl [HT]; · iexact HT
      iexists _; iexact H9
    isplitl [H12 H13 H14 H15 H16 Hc7]
    · isplitl [H12]; · iexists _; iexact H12
      isplitl [H13]
      · iexists _; isplitr; · ipureintro; exact fun _ => hf13 (by omega)
        iexact H13
      isplitl [H14]; · iexists _; iexact H14
      iframe
    isplitl [Hbe]; · iexact Hbe
    isplitl [Hs0 Hk0]
    · icases Hs0 with ⟨%g0, Hs0⟩
      isplitl [Hs0]
      · iexists g0; iexact Hs0
      · iexact Hk0
    isplitl [Hs1 Hk1]
    · icases Hs1 with ⟨%g1, Hs1⟩
      isplitl [Hs1]
      · iexists g1; iexact Hs1
      · iexact Hk1
    isplitl [Hs2 Hk2]
    · icases Hs2 with ⟨%g2, Hs2⟩
      isplitl [Hs2]
      · iexists g2; iexact Hs2
      · iexact Hk2
    icases Hs3 with ⟨%g3, Hs3⟩
    isplitl [Hs3]
    · iexists g3; iexact Hs3
    · iexact Hk3
  isplitl [HW]; · iexact HW
  isplitl [H2 H3 H4 H5 H6 H7 H8]; · iframe
  iexact H11

include hT hB in
/-- Any step. -/
theorem step (hW : (i 0).val = 0 → Wk (firstW c arg2 arg3 f2 f3)) :
    iprop(stepI c T Wk Bk (i 0).val ∗ (∃ W, owes (c : Thread nD τ) 0 W) ∗ winI c arg2 arg3 arg4 arg5 arg6 arg7 arg8 f2 f3 f4 f5 f6 f7 f8 ∗ own c arg11 f11)
      ⊢ wp frame (wpE (defs₀ (F := F)) 𝒱₀ (c : Thread nD τ) none) Set.univ (bodyG i arg2 harg2 arg3 harg3 arg4 harg4 arg5 harg5 arg6 harg6 arg7 harg7 arg8 harg8 arg11 harg11)
          fun _ => postI c T Wk Bk arg2 arg3 arg4 arg5 arg6 arg7 arg8 arg11 f2 f3 f4 f5 f6 f7 f8 ((i 0).val + 1) := by
  have hi : (i 0).val < 171 := (i 0).isLt
  by_cases h0 : (i 0).val = 0
  · exact stepA c T Wk Bk i arg2 harg2 arg3 harg3 arg4 harg4 arg5 harg5 arg6 harg6 arg7 harg7 arg8 harg8 arg11 harg11 f2 f3 f4 f5 f6 f7 f8 f11 hT hB h0 (hW h0)
  by_cases h4 : (i 0).val < 4
  · exact stepB c T Wk Bk i arg2 harg2 arg3 harg3 arg4 harg4 arg5 harg5 arg6 harg6 arg7 harg7 arg8 harg8 arg11 harg11 f2 f3 f4 f5 f6 f7 f8 f11 hT hB (by omega) h4
  by_cases hl : (i 0).val < 170
  · exact stepC c T Wk Bk i arg2 harg2 arg3 harg3 arg4 harg4 arg5 harg5 arg6 harg6 arg7 harg7 arg8 harg8 arg11 harg11 f2 f3 f4 f5 f6 f7 f8 f11 hT hB (by omega) hl
  · exact stepD c T Wk Bk i arg2 harg2 arg3 harg3 arg4 harg4 arg5 harg5 arg6 harg6 arg7 harg7 arg8 harg8 arg11 harg11 f2 f3 f4 f5 f6 f7 f8 f11 hT hB (by omega)

end Step
end Cert.Kernel.Hand
end
-- ==== Proof.Kernel.Data.lean ====
module

public import proofs.«01_k».proof.Proof.Kernel.Step
public import proofs.«01_k».proof.Proof.Gen.Kernel.Launch
public import Idealize.ShloMosaic.Lib.Pipeline.Regions

/-! The kernel's call as proof data: what its windows' arrays hold when it starts, which values each block of the
result may then get, and every step kept within the invariant. -/

@[expose] public section

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (a : (pcfg0 (F := F)).Adm) (c : Dev nD) (X : (b : Ref sig .tc) → Buf (Elt F) ((c : Thread nD τ).loc b))

/-- What a fetch of window `w` at step `t` leaves in a staging buffer that held `d`. -/
def fetchedAt (w : Fin (cfg0 a).W) (t : Fin (cfg0 a).N) (d : ((cfg0 a).win w).block.Idx → Elt F ((cfg0 a).win w).elt) :
    ((cfg0 a).win w).block.Idx → Elt F ((cfg0 a).win w).elt :=
  ((cfg0 a).win w).fill ((cfg0 a).grid.coords t) d ((((cfg0 a).win w).blk t).view.read (Elt F) (X (Pipeline.arrRef spec0 w)))

/-- The first step. -/
def t0 : Fin (cfg0 a).N := ⟨0, by show 0 < grid0.N; rw [N_0]; omega⟩

/-- The tables the first step may make. -/
def Wk (f13 : Buf (Elt F) (wM.view.loc (c : Thread nD τ))) : Prop :=
  ∃ (arg2 : Memref sig .tc .vmem S2x96x128 .bf16) (_ : arg2.IsWhole) (arg3 : Memref sig .tc .vmem S1x96 .f32) (_ : arg3.IsWhole)
    (f2 : Buf (Elt F) (arg2.view.loc (c : Thread nD τ))) (f3 : Buf (Elt F) (arg3.view.loc (c : Thread nD τ))),
    (∃ d, arg2.view.read (Elt F) f2 = fetchedAt a c X 0 (t0 a) d) ∧ (∃ d, arg3.view.read (Elt F) f3 = fetchedAt a c X 1 (t0 a) d)
      ∧ f13 = firstW c arg2 arg3 f2 f3

/-- The values step `u` may give its block. -/
def Bk (u : ℕ) (v : S2x4096x128.Idx → Elt F .f32) : Prop :=
  ∃ (f13 : Buf (Elt F) (wM.view.loc (c : Thread nD τ))) (t : Fin (cfg0 a).N)
    (arg4 : Memref sig .tc .vmem S48x4096 .i8) (_ : arg4.IsWhole) (arg6 : Memref sig .tc .vmem S1x4096 .bf16) (_ : arg6.IsWhole)
    (arg7 : Memref sig .tc .vmem S1x4096 .bf16) (_ : arg7.IsWhole) (f4 : Buf (Elt F) (arg4.view.loc (c : Thread nD τ)))
    (f6 : Buf (Elt F) (arg6.view.loc (c : Thread nD τ))) (f7 : Buf (Elt F) (arg7.view.loc (c : Thread nD τ))),
    Wk a c X f13 ∧ t.val = u ∧ (∃ d, arg4.view.read (Elt F) f4 = fetchedAt a c X 2 t d) ∧ (∃ d, arg6.view.read (Elt F) f6 = fetchedAt a c X 4 t d)
      ∧ (∃ d, arg7.view.read (Elt F) f7 = fetchedAt a c X 5 t d) ∧ v = stepBlk c arg4 arg6 arg7 f13 f4 f6 f7

/-- The call's proof data. -/
def rd : Pipeline.RDat τ (Elt F) Unit ℕ (UU nD τ) ℕ (cfg0 a) c where
  A w := X (Pipeline.arrRef spec0 w)
  after _ _ _ _ := True
  Φ k := stepI c (X main_v19) (Wk a c X) (Bk a c X) k.val
  q _ := fullShare
  owed _ := 0

theorem rd_A (w : Fin (cfg0 a).W) : (rd a c X).A w = X (Pipeline.arrRef spec0 w) := rfl

theorem coords_val : ∀ t : Fin grid0.N, (grid0.coords t 0).val = t.val := by decide +kernel
theorem fetch0 (t : Fin (cfg0 a).N) (h : t.val = 0) : ((cfg0 a).win 0).fetch t = true := by
  obtain rfl : t = t0 a := Fin.ext h
  rfl
theorem fetch1 (t : Fin (cfg0 a).N) (h : t.val = 0) : ((cfg0 a).win 1).fetch t = true := by
  obtain rfl : t = t0 a := Fin.ext h
  rfl
theorem tr2 : ∀ t : Fin grid0.N, cc0_transform_2 (grid0.coords t) 1 = t.val := by decide +kernel
theorem tr4 : ∀ t : Fin grid0.N, cc0_transform_4 (grid0.coords t) 1 = t.val := by decide +kernel
theorem tr5 : ∀ t : Fin grid0.N, cc0_transform_5 (grid0.coords t) 1 = t.val := by decide +kernel
/-- A window whose block changes with every step is fetched at every step. -/
theorem fetch_of {G : Pipeline.Grid} (w : Pipeline.Window sig G) (ho : w.isOut = false) (t : Fin G.N) (ha : 0 < t.val → w.index t ≠ w.index ⟨t.val - 1, by omega⟩) :
    w.fetch t = true := by
  unfold Pipeline.Window.fetch
  rw [ho]
  rcases Nat.eq_zero_or_pos t.val with h | h
  · simp [h]
  · simp [h, ha h]
theorem fetch2 (t : Fin (cfg0 a).N) : ((cfg0 a).win 2).fetch t = true := fetch_of _ rfl t fun h e => by
  have := (tr2 t).symm.trans ((congrFun e (1 : Fin 2)).trans (tr2 _)); simp at this; omega
theorem fetch4 (t : Fin (cfg0 a).N) : ((cfg0 a).win 4).fetch t = true := fetch_of _ rfl t fun h e => by
  have := (tr4 t).symm.trans ((congrFun e (1 : Fin 2)).trans (tr4 _)); simp at this; omega
theorem fetch5 (t : Fin (cfg0 a).N) : ((cfg0 a).win 5).fetch t = true := fetch_of _ rfl t fun h e => by
  have := (tr5 t).symm.trans ((congrFun e (1 : Fin 2)).trans (tr5 _)); simp at this; omega

/-- A staging buffer at given contents, opened and closed. -/
theorem owns_open {sp : Space} {s : Shape} {e : EltTy} (M : Memref sig .tc sp s e) (Y : s.Idx → Elt F e) :
    (owns (c : Thread nD τ) M fullShare Y : sProp 𝕄) ⊢ iprop(∃ f, ⌜M.view.read (Elt F) f = Y⌝ ∗ own c M f) := .rfl
theorem owns_close {sp : Space} {s : Shape} {e : EltTy} (M : Memref sig .tc sp s e) (f : Buf (Elt F) (M.view.loc (c : Thread nD τ))) :
    (own c M f : sProp 𝕄) ⊢ iprop(∃ Y, ⌜True⌝ ∗ owns (c : Thread nD τ) M fullShare Y) := by
  unfold owns
  iintro H
  iexists M.view.read (Elt F) f
  isplitr; · ipureintro; trivial
  iexists f
  isplitr; · ipureintro; rfl
  iexact H

/-- What a step leaves, as the pipeline wants it. -/
theorem post_close (T : Buf (Elt F) (tabM.view.loc (c : Thread nD τ))) (W : Buf (Elt F) (wM.view.loc (c : Thread nD τ)) → Prop)
    (B : ℕ → (S2x4096x128.Idx → Elt F .f32) → Prop) (arg2 : Memref sig .tc .vmem S2x96x128 .bf16) (arg3 : Memref sig .tc .vmem S1x96 .f32)
    (arg4 : Memref sig .tc .vmem S48x4096 .i8) (arg5 : Memref sig .tc .vmem S96x4096 .i8) (arg6 : Memref sig .tc .vmem S1x4096 .bf16)
    (arg7 : Memref sig .tc .vmem S1x4096 .bf16) (arg8 : Memref sig .tc .vmem S176x128 .i32) (arg11 : Memref sig .tc .vmem S50x2x128 .f32) (f2 f3 f4 f5 f6 f7 f8) (k : ℕ)
    (S : Set (SemLoc sig × Unit)) (hS : ∀ x, x ∈ S) :
    (postI c T W B arg2 arg3 arg4 arg5 arg6 arg7 arg8 arg11 f2 f3 f4 f5 f6 f7 f8 k : sProp 𝕄)
      ⊢ iprop(stepI c T W B k ∗ Pipeline.owesWithin c (0 : CellTallies nD τ sig Unit) S
        ∗ (∃ Y, ⌜True⌝ ∗ owns (c : Thread nD τ) arg2 fullShare Y) ∗ (∃ Y, ⌜True⌝ ∗ owns (c : Thread nD τ) arg3 fullShare Y)
        ∗ (∃ Y, ⌜True⌝ ∗ owns (c : Thread nD τ) arg4 fullShare Y) ∗ (∃ Y, ⌜True⌝ ∗ owns (c : Thread nD τ) arg5 fullShare Y)
        ∗ (∃ Y, ⌜True⌝ ∗ owns (c : Thread nD τ) arg6 fullShare Y) ∗ (∃ Y, ⌜True⌝ ∗ owns (c : Thread nD τ) arg7 fullShare Y)
        ∗ (∃ Y, ⌜True⌝ ∗ owns (c : Thread nD τ) arg8 fullShare Y) ∗ ∃ Y, ⌜True⌝ ∗ owns (c : Thread nD τ) arg11 fullShare Y) := by
  unfold postI winI Pipeline.owesWithin
  iintro ⟨HI, ⟨%W, HO⟩, ⟨H2, H3, H4, H5, H6, H7, H8⟩, ⟨%f11, H11⟩⟩
  isplitl [HI]; · iexact HI
  isplitl [HO]
  · iexists W; isplitr; · ipureintro; exact fun _ _ => hS _
    iexact HO
  isplitl [H2]; · iapply (owns_close c _ f2); iexact H2
  isplitl [H3]; · iapply (owns_close c _ f3); iexact H3
  isplitl [H4]; · iapply (owns_close c _ f4); iexact H4
  isplitl [H5]; · iapply (owns_close c _ f5); iexact H5
  isplitl [H6]; · iapply (owns_close c _ f6); iexact H6
  isplitl [H7]; · iapply (owns_close c _ f7); iexact H7
  isplitl [H8]; · iapply (owns_close c _ f8); iexact H8
  iapply (owns_close c _ f11); iexact H11

theorem body_obligation (hT : ∀ i : grid0.Coords, k0_chk1 i (ldT c i (X main_v19))) :
    (rd a c X).BodyObligation (defs₀ (F := F)) 𝒱₀ () Set.univ := fun t Y hY => by
  rw [bigSep_W0, bigSep_W0]
  unfold defs₀
  rw [Defs.onTc_tc]
  rw [show (rd a c X).Φ t.castSucc = stepI c (X main_v19) (Wk a c X) (Bk a c X) (grid0.coords t 0).val from by rw [coords_val]; rfl,
    show (rd a c X).Φ t.succ = stepI c (X main_v19) (Wk a c X) (Bk a c X) ((grid0.coords t 0).val + 1) from by rw [coords_val]; rfl]
  unfold Pipeline.RDat.owesAt Pipeline.owesWithin
  rw [show (rd a c X).owed t.castSucc = 0 from rfl, show (rd a c X).owed t.succ = 0 from rfl]
  simp only [owns]
  iintro ⟨HI, ⟨%W, -, HO⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f11, %h11, H11⟩⟩
  have h := step c (X main_v19) (Wk a c X) (Bk a c X) (grid0.coords t)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (spec0_5.stage ((cfg0 a).slots t 5)) (hstage0_5 (((cfg0 a).slots t 5).cast nbuf0_5))
    (spec0_6.stage ((cfg0 a).slots t 6)) (hstage0_6 (((cfg0 a).slots t 6).cast nbuf0_6))
    (spec0_7.stage ((cfg0 a).slots t 7)) (hstage0_7 (((cfg0 a).slots t 7).cast nbuf0_7)) f2 f3 f4 f5 f6 f7 f8 f11 hT
    (fun f13 h13 => ⟨f13, t, _, hstage0_2 (((cfg0 a).slots t 2).cast nbuf0_2), _, hstage0_4 (((cfg0 a).slots t 4).cast nbuf0_4), _, hstage0_5 (((cfg0 a).slots t 5).cast nbuf0_5), f4, f6, f7, h13, (coords_val t).symm,
      (((rd a c X).finds_of_fetch (fetch2 a t) _).1 (hY 2)).imp fun d e => h4.trans e,
      (((rd a c X).finds_of_fetch (fetch4 a t) _).1 (hY 4)).imp fun d e => h6.trans e,
      (((rd a c X).finds_of_fetch (fetch5 a t) _).1 (hY 5)).imp fun d e => h7.trans e, rfl⟩)
    (fun h0 => by
      obtain rfl : t = t0 a := Fin.ext ((coords_val t).symm.trans h0)
      exact ⟨_, hstage0_0 (((cfg0 a).slots (t0 a) 0).cast nbuf0_0), _, hstage0_1 (((cfg0 a).slots (t0 a) 1).cast nbuf0_1), f2, f3,
        (((rd a c X).finds_of_fetch (fetch0 a _ rfl) _).1 (hY 0)).imp fun d e => h2.trans e,
        (((rd a c X).finds_of_fetch (fetch1 a _ rfl) _).1 (hY 1)).imp fun d e => h3.trans e, rfl⟩)
  ihave Hw := (h.trans (Idealize.SL.Sem.wp_mono _ _ _ fun _ => post_close c _ _ _ _ _ _ _ _ _ _ _ _ _ _ _ _ _ _ _ ((rd a c X).bound () t.succ) fun _ => Or.inl trivial)) $$ [HI HO H2 H3 H4 H5 H6 H7 H8 H11]
  · isplitl [HI]; · iexact HI
    isplitl [HO]; · iexists W; iexact HO
    isplitl [H2 H3 H4 H5 H6 H7 H8]
    · unfold winI
      isplitl [H2]; · iexact H2
      isplitl [H3]; · iexact H3
      isplitl [H4]; · iexact H4
      isplitl [H5]; · iexact H5
      isplitl [H6]; · iexact H6
      isplitl [H7]; · iexact H7
      iexact H8
    iexact H11
  iexact Hw

end Cert.Kernel.Hand
end
-- ==== Proof.Kernel.Kept.lean ====
module

public import proofs.«01_k».proof.Proof.Gen.Kernel.Launch

/-! Which buffer each host operation before the kernel's call writes: never an argument, and after the counts never the
counts. -/

@[expose] public section

noncomputable section

namespace Cert.Kernel.Hand

open Cert.Kernel Cert.Kernel.Gen
open Idealize.ShloMosaic
open Idealize.ShloMosaic.TcCoe

variable {F : FTy → Type} [FloatOps F]

/-- The arguments. -/
def kept : List (Ref sig .tc) := [main_arg0, main_arg1, main_arg2, main_arg3, main_arg4, main_arg5, main_arg6]

/-- A list of operations that write the buffers `l`, in order, leaves every other buffer as it was. -/
theorem after_other {ops : List (HloOp τ sig (Elt F))} {l : List (Ref sig .tc)} (hw : ops.map HloOp.writes = l.map fun r => {Proc.devRef .tc r})
    (X : Valuation τ sig (Elt F)) {b : Ref sig .tc} (hb : b ∉ l) : StableHlo.after ops X (Proc.devRef .tc b) = X (Proc.devRef .tc b) := by
  refine StableHlo.after_of_forall_not_mem (b := Proc.devRef .tc b) ops X fun op hop hmem => ?_
  have h1 : op.writes ∈ l.map fun r => ({Proc.devRef .tc r} : Finset (DevRef τ sig)) := hw ▸ List.mem_map_of_mem hop
  obtain ⟨r, hr, e⟩ := List.mem_map.mp h1
  rw [← e, Finset.mem_singleton] at hmem
  exact hb (Proc.devRef_injective _ hmem ▸ hr)

/-- The buffers list 0 writes. -/
def outs0 : List (Ref sig .tc) :=
  [main_v0, main_v1]
theorem writes0 : (hostOps0 : List (HloOp τ sig (Elt F))).map HloOp.writes = outs0.map fun r => {Proc.devRef .tc r} := rfl
theorem kept_0 : ∀ b ∈ kept, b ∉ outs0 := by decide +kernel

/-- The buffers list 1 writes. -/
def outs1 : List (Ref sig .tc) :=
  [main_call0_v0, main_call0_v1_0, main_v2]
theorem writes1 : (hostOps0_1 : List (HloOp τ sig (Elt F))).map HloOp.writes = outs1.map fun r => {Proc.devRef .tc r} := rfl
theorem kept_1 : ∀ b ∈ kept, b ∉ outs1 := by decide +kernel

/-- The buffers list 2 writes. -/
def outs2 : List (Ref sig .tc) :=
  [main_c, main_v3, main_v4, main_c_0, main_v5, main_v6, main_v7, main_v8, main_v9, main_c_1]
theorem writes2 : (hostOps0_2 : List (HloOp τ sig (Elt F))).map HloOp.writes = outs2.map fun r => {Proc.devRef .tc r} := rfl
theorem kept_2 : ∀ b ∈ kept, b ∉ outs2 := by decide +kernel

/-- The buffers list 3 writes. -/
def outs3 : List (Ref sig .tc) :=
  [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v10]
theorem writes3 : (hostOps0_3 : List (HloOp τ sig (Elt F))).map HloOp.writes = outs3.map fun r => {Proc.devRef .tc r} := rfl
theorem kept_3 : ∀ b ∈ kept, b ∉ outs3 := by decide +kernel

/-- The buffers list 4 writes. -/
def outs4 : List (Ref sig .tc) :=
  [main_c_2, main_v11, main_c_3, main_v12, main_v13, main_c_4, main_v14, main_v15, main_v16, main_v17, main_c_5, main_v18, main_v19]
theorem writes4 : (hostOps0_4 : List (HloOp τ sig (Elt F))).map HloOp.writes = outs4.map fun r => {Proc.devRef .tc r} := rfl
theorem kept_4 : ∀ b ∈ kept, b ∉ outs4 := by decide +kernel

/-- The buffers list 5 writes. -/
def outs5 : List (Ref sig .tc) :=
  [main_call2_call0_c, main_call2_call0_v0, main_v20]
theorem writes5 : (hostOps0_5 : List (HloOp τ sig (Elt F))).map HloOp.writes = outs5.map fun r => {Proc.devRef .tc r} := rfl
theorem kept_5 : ∀ b ∈ kept, b ∉ outs5 := by decide +kernel
theorem counts_5 : main_v19 ∉ outs5 := by decide +kernel

/-- The buffers list 6 writes. -/
def outs6 : List (Ref sig .tc) :=
  [main_v21, main_v22, main_c_6, main_v23, main_v24, main_c_7, main_v25, main_v26, main_v27, main_v28, main_v29, main_v30, main_c_8, main_v31, main_v32, main_c_9]
theorem writes6 : (hostOps0_6 : List (HloOp τ sig (Elt F))).map HloOp.writes = outs6.map fun r => {Proc.devRef .tc r} := rfl
theorem kept_6 : ∀ b ∈ kept, b ∉ outs6 := by decide +kernel
theorem counts_6 : main_v19 ∉ outs6 := by decide +kernel

/-- The buffers list 7 writes. -/
def outs7 : List (Ref sig .tc) :=
  [main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v33]
theorem writes7 : (hostOps0_7 : List (HloOp τ sig (Elt F))).map HloOp.writes = outs7.map fun r => {Proc.devRef .tc r} := rfl
theorem kept_7 : ∀ b ∈ kept, b ∉ outs7 := by decide +kernel
theorem counts_7 : main_v19 ∉ outs7 := by decide +kernel

/-- The buffers list 8 writes. -/
def outs8 : List (Ref sig .tc) :=
  [main_v34, main_c_10, main_v35, main_c_11, main_v36, main_v37, main_c_12]
theorem writes8 : (hostOps0_8 : List (HloOp τ sig (Elt F))).map HloOp.writes = outs8.map fun r => {Proc.devRef .tc r} := rfl
theorem kept_8 : ∀ b ∈ kept, b ∉ outs8 := by decide +kernel
theorem counts_8 : main_v19 ∉ outs8 := by decide +kernel

/-- The buffers list 9 writes. -/
def outs9 : List (Ref sig .tc) :=
  [main_call4_v0, main_call4_v1, main_v38]
theorem writes9 : (hostOps0_9 : List (HloOp τ sig (Elt F))).map HloOp.writes = outs9.map fun r => {Proc.devRef .tc r} := rfl
theorem kept_9 : ∀ b ∈ kept, b ∉ outs9 := by decide +kernel
theorem counts_9 : main_v19 ∉ outs9 := by decide +kernel

/-- The buffers list 10 writes. -/
def outs10 : List (Ref sig .tc) :=
  [main_c_13, main_v39, main_v40, main_c_14, main_v41, main_v42, main_v43, main_c_15, main_v44, main_v45, main_c_16, main_v46, main_v47, main_v48, main_v49, main_v50, main_v51, main_v52, main_c_17, main_v53, main_c_18, main_v54, main_v55, main_c_19, main_v56, main_v57, main_c_20, main_v58, main_v59, main_c_21]
theorem writes10 : (hostOps0_10 : List (HloOp τ sig (Elt F))).map HloOp.writes = outs10.map fun r => {Proc.devRef .tc r} := rfl
theorem kept_10 : ∀ b ∈ kept, b ∉ outs10 := by decide +kernel
theorem counts_10 : main_v19 ∉ outs10 := by decide +kernel

/-- The buffers list 11 writes. -/
def outs11 : List (Ref sig .tc) :=
  [main_call5_v0, main_call5_v1, main_v60]
theorem writes11 : (hostOps0_11 : List (HloOp τ sig (Elt F))).map HloOp.writes = outs11.map fun r => {Proc.devRef .tc r} := rfl
theorem kept_11 : ∀ b ∈ kept, b ∉ outs11 := by decide +kernel
theorem counts_11 : main_v19 ∉ outs11 := by decide +kernel

/-- The buffers list 12 writes. -/
def outs12 : List (Ref sig .tc) :=
  [main_c_22, main_v61, main_v62, main_c_23, main_v63, main_v64, main_c_24, main_v65, main_v66, main_v67, main_c_25, main_v68, main_v69, main_c_26, main_v70, main_v71, main_v72, main_c_27, main_v73, main_v74, main_c_28, main_v75, main_v76, main_v77, main_v78, main_v79, main_v80, main_v81, main_v82, main_v83, main_v84, main_v85, main_v86, main_v87, main_v88]
theorem writes12 : (hostOps0_12 : List (HloOp τ sig (Elt F))).map HloOp.writes = outs12.map fun r => {Proc.devRef .tc r} := rfl
theorem kept_12 : ∀ b ∈ kept, b ∉ outs12 := by decide +kernel
theorem counts_12 : main_v19 ∉ outs12 := by decide +kernel

end Cert.Kernel.Hand
end
-- ==== Proof.Kernel.Host.lean ====
module

public import proofs.«01_k».proof.Proof.Kernel.Kept
public import proofs.«01_k».proof.Proof.Kernel.BodyDefs
public import Idealize.ShloMosaic.Lib.Routing.OpsOrder
public import Idealize.ShloMosaic.Lib.WordArith.Masks
public import Idealize.ShloMosaic.Lib.Pipeline.Regions
public import Idealize.ShloMosaic.Lib.Claim

/-! The host operations before the kernel's call: the buffers they hand on, the arguments untouched, and the range of
the counts they prefetch. -/

@[expose] public section

noncomputable section

namespace Cert.Kernel.Hand

open Cert.Kernel Cert.Kernel.Gen
open Idealize.ShloMosaic
open Idealize.ShloMosaic.TcCoe
open Idealize.SL Idealize.SL.Sem

variable {F : FTy → Type} [FloatOps F]

/-! ## The overflow loops' bounds, from the range of a count -/

/-- The number of full groups of 128 below a count of at most 12800, less one: -1 to 99. -/
theorem groups (v : BitVec 32) (h : v.toNat ≤ 12800) :
    ∃ n : Fin 101, Scalar.shrsi (Scalar.subi v 1#32) 7#32 = BitVec.ofNat 32 n.val - 1#32 := by
  show ∃ n : Fin 101, (v - 1#32).sshiftRight' 7#32 = BitVec.ofNat 32 n.val - 1#32
  rcases Nat.eq_zero_or_pos v.toNat with h0 | h0
  · obtain rfl : v = 0#32 := BitVec.eq_of_toNat_eq h0
    exact ⟨0, by decide⟩
  · have hs : (v - 1#32).toNat = v.toNat - 1 := by
      rw [BitVec.toNat_sub]; show (2 ^ 32 - 1 + v.toNat) % 2 ^ 32 = _; omega
    refine ⟨⟨(v.toNat - 1) / 128 + 1, by omega⟩, BitVec.eq_of_toNat_eq ?_⟩
    rw [show (v - 1#32).sshiftRight' 7#32 = (v - 1#32).sshiftRight 7 from rfl,
      BitVec.sshiftRight_eq_of_msb_false (by rw [BitVec.msb_eq_false_iff_two_mul_lt, hs]; omega), BitVec.toNat_ushiftRight, hs,
      Nat.shiftRight_eq_div_pow, BitVec.toNat_sub]
    show _ = (2 ^ 32 - 1 + ((v.toNat - 1) / 128 + 1) % 2 ^ 32) % 2 ^ 32
    omega

/-- The first overflow loop, from its number of groups; -/
def L1 (w : BitVec 32) : Scf.Loop 32 := ⟨0#32, Scalar.addi 0#32 (Scalar.muli (Scalar.divsi (Scalar.subi w 0#32) 1#32) 1#32), 1#32⟩
/-- the second. -/
def L2 (w : BitVec 32) : Scf.Loop 32 :=
  ⟨Scalar.addi 0#32 (Scalar.muli (Scalar.divsi (Scalar.subi w 0#32) 1#32) 1#32), Scalar.addi 0#32 (Scalar.subi w 0#32), 1#32⟩

theorem L1_range : ∀ n : Fin 101, (L1 (BitVec.ofNat 32 n.val - 1#32)).OK ∧ (L1 (BitVec.ofNat 32 n.val - 1#32)).trips ≤ 99 := by decide +kernel
theorem L2_range : ∀ n : Fin 101, (L2 (BitVec.ofNat 32 n.val - 1#32)).OK ∧ (L2 (BitVec.ofNat 32 n.val - 1#32)).trips = 0 := by decide +kernel

/-- A count of at most 12800 meets the body's side condition. -/
theorem chk_of_le (i : grid0.Coords) (v : BitVec 32) (h : v.toNat ≤ 12800) : k0_chk1 i v := by
  obtain ⟨n, hn⟩ := groups v h
  have e1 : k0_t1_loop v = L1 (BitVec.ofNat 32 n.val - 1#32) := by rw [← hn]; rfl
  have e2 : k0_t2_loop v = L2 (BitVec.ofNat 32 n.val - 1#32) := by rw [← hn]; rfl
  have hi : (i 0).val < 171 := (i 0).isLt
  unfold k0_chk1
  refine ⟨by rw [e1]; exact (L1_range n).1, fun t a => ?_, by rw [e2]; exact (L2_range n).1, fun t => ?_⟩
  · have ht : t.val < 99 := lt_of_lt_of_le t.isLt (by rw [e1]; exact (L1_range n).2)
    have hi' : (BitVec.ofNat 32 (i 0).val).toNat = (i 0).val := by rw [BitVec.toNat_ofNat]; omega
    fin_cases a
    · show (BitVec.ofNat 32 (i 0).val).toNat + 1 ≤ 171; omega
    · show (Scf.iv 0#32 1#32 t.val).toNat + 1 ≤ 100
      rw [WordArith.toNat_iv_zero_one _ (by omega)]; omega
    · show 0 + 128 ≤ 128; omega
  · exact absurd (lt_of_lt_of_eq t.isLt (by rw [e2]; exact (L2_range n).2)) (Nat.not_lt_zero _)

/-! ## The counts -/

/-- Adding ones to zeros by any scatter counts at most the updates. -/
theorem scatter_ones_le {s si u : Shape} {w : Nat} (d : ScatterDims s si u) (idx : IVec si w) (hu : u.numel < 2 ^ 32) (j : s.Idx) :
    (Host.scatter d IntOp.addi (fun _ => 0#32) idx (fun _ => 1#32) j).toNat ≤ u.numel := by
  rw [← Routing.scatterIn_finRange, Routing.scatterIn_at]
  have key : ∀ (L : List (Fin u.numel)) (a : BitVec 32), a.toNat + L.length < 2 ^ 32 →
      (L.foldl (fun a n => if d.resultIdx? (u.rowMajor.symm n) idx = some j then IntOp.addi a 1#32 else a) a).toNat ≤ a.toNat + L.length := by
    intro L
    induction L with
    | nil => intro a _; exact le_refl _
    | cons n l ih =>
      intro a ha
      rw [List.length_cons] at ha ⊢
      rw [List.foldl_cons]
      split
      · have h1 : (IntOp.addi a 1#32).toNat = a.toNat + 1 := by
          show (a + 1#32).toNat = _
          rw [BitVec.toNat_add]; show (a.toNat + 1) % 2 ^ 32 = _; omega
        have := ih (IntOp.addi a 1#32) (by omega)
        omega
      · have := ih a (by omega)
        omega
  have := key (List.finRange u.numel) 0#32 (by rw [List.length_finRange]; show 0 + _ < _; omega)
  rw [List.length_finRange] at this
  exact this.trans (by show 0 + _ ≤ _; omega)

/-- The counts, after the operations that make them: each is at most 12800. -/
theorem counts_le4 (X : Valuation τ sig (Elt F)) (j : S171.Idx) :
    ((StableHlo.after hostOps0_4 X (Proc.devRef .tc main_v19) : S171.Idx → BitVec 32) j).toNat ≤ 12800 := by
  have e : (StableHlo.after hostOps0_4 X (Proc.devRef .tc main_v19) : S171.Idx → BitVec 32)
      = Host.scatter scatter_S171_S12800x1_S12800_n_0_0_1 IntOp.addi (fun _ => 0#32)
          (StableHlo.after hostOps0_4 X (Proc.devRef .tc main_v17) : S12800x1.Idx → BitVec 32) (fun _ => 1#32) := by
    unfold_abbrev_sides
    after_results
    rfl
  rw [e]
  exact (scatter_ones_le _ _ (by decide) j).trans (by decide)

/-! ## The buffers at each line -/

variable (m : (ℓ : Loc nD τ sig) → Buf (Elt F) ℓ) (ρ : Dev nD → PrngReg)

/-- Core `c`'s buffers at launch, -/
def V0 (c : Dev nD) : Valuation τ sig (Elt F) := fun b => (⟨m, fun _ => 0, ρ⟩ : MemSt nD τ sig (Elt F)).mem ((c : Dev nD), b)
/-- after list 0, -/
def V1 (c : Dev nD) : Valuation τ sig (Elt F) := StableHlo.after hostOps0 (V0 m ρ c)
/-- after list 1, -/
def V2 (c : Dev nD) : Valuation τ sig (Elt F) := StableHlo.after hostOps0_1 (V1 m ρ c)
/-- after list 2, -/
def V3 (c : Dev nD) : Valuation τ sig (Elt F) := StableHlo.after hostOps0_2 (V2 m ρ c)
/-- after list 3, -/
def V4 (c : Dev nD) : Valuation τ sig (Elt F) := StableHlo.after hostOps0_3 (V3 m ρ c)
/-- after list 4, -/
def V5 (c : Dev nD) : Valuation τ sig (Elt F) := StableHlo.after hostOps0_4 (V4 m ρ c)
/-- after list 5, -/
def V6 (c : Dev nD) : Valuation τ sig (Elt F) := StableHlo.after hostOps0_5 (V5 m ρ c)
/-- after list 6, -/
def V7 (c : Dev nD) : Valuation τ sig (Elt F) := StableHlo.after hostOps0_6 (V6 m ρ c)
/-- after list 7, -/
def V8 (c : Dev nD) : Valuation τ sig (Elt F) := StableHlo.after hostOps0_7 (V7 m ρ c)
/-- after list 8, -/
def V9 (c : Dev nD) : Valuation τ sig (Elt F) := StableHlo.after hostOps0_8 (V8 m ρ c)
/-- after list 9, -/
def V10 (c : Dev nD) : Valuation τ sig (Elt F) := StableHlo.after hostOps0_9 (V9 m ρ c)
/-- after list 10, -/
def V11 (c : Dev nD) : Valuation τ sig (Elt F) := StableHlo.after hostOps0_10 (V10 m ρ c)
/-- after list 11, -/
def V12 (c : Dev nD) : Valuation τ sig (Elt F) := StableHlo.after hostOps0_11 (V11 m ρ c)
/-- after list 12: when the kernel is called. -/
def V13 (c : Dev nD) : Valuation τ sig (Elt F) := StableHlo.after hostOps0_12 (V12 m ρ c)

/-- The arguments reach the kernel as launched. -/
theorem V13_kept (c : Dev nD) {b : Ref sig .tc} (hb : b ∈ kept) : V13 m ρ c (Proc.devRef .tc b) = m ((c : Thread nD τ).loc b) :=
  (after_other writes12 (V12 m ρ c) (kept_12 b hb)).trans <|
  (after_other writes11 (V11 m ρ c) (kept_11 b hb)).trans <|
  (after_other writes10 (V10 m ρ c) (kept_10 b hb)).trans <|
  (after_other writes9 (V9 m ρ c) (kept_9 b hb)).trans <|
  (after_other writes8 (V8 m ρ c) (kept_8 b hb)).trans <|
  (after_other writes7 (V7 m ρ c) (kept_7 b hb)).trans <|
  (after_other writes6 (V6 m ρ c) (kept_6 b hb)).trans <|
  (after_other writes5 (V5 m ρ c) (kept_5 b hb)).trans <|
  (after_other writes4 (V4 m ρ c) (kept_4 b hb)).trans <|
  (after_other writes3 (V3 m ρ c) (kept_3 b hb)).trans <|
  (after_other writes2 (V2 m ρ c) (kept_2 b hb)).trans <|
  (after_other writes1 (V1 m ρ c) (kept_1 b hb)).trans <|
  (after_other writes0 (V0 m ρ c) (kept_0 b hb))

/-- The counts the kernel prefetches. -/
theorem V13_counts (c : Dev nD) (j : S171.Idx) : ((V13 m ρ c (Proc.devRef .tc main_v19) : S171.Idx → BitVec 32) j).toNat ≤ 12800 := by
  have e : V13 m ρ c (Proc.devRef .tc main_v19) = V5 m ρ c (Proc.devRef .tc main_v19) :=
    (after_other writes12 (V12 m ρ c) counts_12).trans <|
    (after_other writes11 (V11 m ρ c) counts_11).trans <|
    (after_other writes10 (V10 m ρ c) counts_10).trans <|
    (after_other writes9 (V9 m ρ c) counts_9).trans <|
    (after_other writes8 (V8 m ρ c) counts_8).trans <|
    (after_other writes7 (V7 m ρ c) counts_7).trans <|
    (after_other writes6 (V6 m ρ c) counts_6).trans <|
    (after_other writes5 (V5 m ρ c) counts_5)
  rw [e]
  exact counts_le4 (V4 m ρ c) j

end Cert.Kernel.Hand
end
-- ==== Proof.Kernel.Run.lean ====
module

public import proofs.«01_k».proof.Proof.Kernel.Data
public import proofs.«01_k».proof.Proof.Kernel.Host

/-! The program's run: the host operations, the kernel's call, and what memory holds at the end. -/

@[expose] public section

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs)

variable {F : FTy → Type} [FloatOps F]
local notation "𝕄" => MT nD τ sig Unit (Elt F) ℕ (UU nD τ) ℕ

/-- The pipeline library's algebra is the left component. -/
abbrev EP : Emb (UR sig nD τ) (MT nD τ sig Unit (Elt F) ℕ (UU nD τ) ℕ) := embL

variable (X : (c : Dev nD) → Valuation τ sig (Elt F))

/-- What core `c`'s buffers hold when the call starts, at a valuation `X` of them. -/
abbrev Vb (c : Dev nD) (b : Ref sig .tc) : Buf (Elt F) ((c : Thread nD τ).loc b) := X c (Proc.devRef .tc b)

/-- The table of counts as the call finds it. -/
def adm : (p : Fin 1) → (pcfgs (F := F) p).Adm := fun _ => ⟨fun k => Vb X 0 (pre0.ref k), trivial⟩

/-- The call's proof data. -/
def rdats (_ : Fin 1) (c : Dev nD) : Pipeline.RDat τ (Elt F) Unit ℕ (UU nD τ) ℕ (cfg0 (adm X 0)) c := rd (adm X 0) c (Vb X c)

/-- The buffers the call uses that are no window's array: the counts, the overflow table, the result; the arguments. -/
def restL : List (Ref sig .tc) := [main_v19, main_v82, main_v89_0, main_arg0, main_arg1, main_arg2, main_arg3, main_arg4, main_arg5, main_arg6]

theorem restL_sub : restL.toFinset ⊆ (Finset.univ.filter fun b : Ref sig .tc => ¬ b.isScoped) \ Finset.univ.image (Pipeline.arrRef spec0) := by
  intro b hb
  rw [List.mem_toFinset] at hb
  rw [Finset.mem_sdiff, Finset.mem_filter, Finset.mem_image]
  have h1 : ∀ b ∈ restL, b.isScoped = false := by decide
  have h2 : ∀ b ∈ restL, ∀ w, Pipeline.arrRef spec0 w ≠ b := by decide
  exact ⟨⟨Finset.mem_univ _, by rw [h1 b hb]; exact Bool.false_ne_true⟩, fun ⟨w, _, e⟩ => h2 b hb w e⟩

/-- A whole buffer at its contents. -/
abbrev ptb (c : Dev nD) (V : (b : Ref sig .tc) → Buf (Elt F) ((c : Thread nD τ).loc b)) (b : Ref sig .tc) : sProp 𝕄 := ((c : Thread nD τ).loc b) ↦{fullShare} V b

omit [FloatOps F] in
theorem restL_eq (c : Dev nD) (V : (b : Ref sig .tc) → Buf (Elt F) ((c : Thread nD τ).loc b)) :
    (bigSep restL.toFinset (fun b => ptb c V b) : sProp 𝕄) = iprop(ptb c V main_v19 ∗ ptb c V main_v82 ∗ ptb c V main_v89_0 ∗ ptb c V main_arg0 ∗ ptb c V main_arg1
      ∗ ptb c V main_arg2 ∗ ptb c V main_arg3 ∗ ptb c V main_arg4 ∗ ptb c V main_arg5 ∗ ptb c V main_arg6) :=
  bigSep_eq_bigSepL restL (by decide) _
omit [FloatOps F] in
/-- They are taken out of the buffers that are no window's array. -/
theorem rest_split (c : Dev nD) (V : (b : Ref sig .tc) → Buf (Elt F) ((c : Thread nD τ).loc b)) :
    (Pipeline.unscopedRest spec0 c V : sProp 𝕄) ⊢ iprop(ptb c V main_v19 ∗ ptb c V main_v82 ∗ ptb c V main_v89_0 ∗ ptb c V main_arg0 ∗ ptb c V main_arg1
      ∗ ptb c V main_arg2 ∗ ptb c V main_arg3 ∗ ptb c V main_arg4 ∗ ptb c V main_arg5 ∗ ptb c V main_arg6) :=
  (show _ ⊢ _ from bigSep_subset restL_sub).trans (Entails.of_eq (restL_eq c V))

/-- The kernel's own semaphores. -/
abbrev osem : Fin 5 → SemLoc sig := fun | 0 => .dma (cell 0).sem | 1 => .dma (cell 1).sem | 2 => .dma (cell 2).sem | 3 => .dma (cell 3).sem | 4 => .dma cc0_scratch7.sem
theorem ownSemFacts : Pipeline.OwnSemFacts spec0 osem := by decide
omit [FloatOps F] in
theorem ownSems0_eq (c : Dev nD) :
    (Pipeline.ownSems0 (Ix := Unit) (Name := ℕ) (U := UU nD τ) (Lvl := ℕ) (Val := Elt F) (τ := τ) osem c : sProp 𝕄)
      = iprop(cellP c 0 ∗ cellP c 1 ∗ cellP c 2 ∗ cellP c 3 ∗ ovfP c) :=
  Pipeline.ownSems0_eq_of_list c osem [0, 1, 2, 3, 4] (by decide) (by decide)

/-- The launch element. -/
def u₀ : UU nD τ := (initOf (Pipeline.cells (Pipeline.pin (pcfgs (F := F)) (adm X)) (cellOf_inj (adm X))) (Pipeline.launchToks (Pipeline.pin (pcfgs (F := F)) (adm X)) (cellOf_inj (adm X))), 1)

abbrev L : GSem nD τ sig → Finset Unit := fun _ => ∅
abbrev lv : GSem nD τ sig → Unit → ℕ := fun _ _ => 0
/-- What rides beside the buffers through the host operations. -/
abbrev R (c : Dev nD) : sProp 𝕄 := iprop(∃ W, owes (c : Thread nD τ) (0 : CellTallies nD τ sig Unit) W)

omit [FloatOps F] in
theorem unscopedBufs_held (c : Dev nD) (W : Valuation τ sig (Elt F)) :
    (unscopedBufs c (fun b => W b) : sProp 𝕄) = StableHlo.held (c : Thread nD τ) (ucRefs τ sig) W := by
  unfold unscopedBufs StableHlo.held ucRefs StableHlo.tcRefs
  rw [Finset.filter_map, bigSep_map]
  rfl
omit [FloatOps F] in
theorem sub_ucRefs (op : HloOp τ sig (Elt F)) (h : op.bufs ⊆ StableHlo.tcRefs τ sig) : op.bufs ⊆ ucRefs τ sig := fun b hb =>
  Finset.mem_filter.mpr ⟨h hb, fun h' => Bool.false_ne_true ((op.no_scoped b hb).symm.trans h')⟩

/-- A run of host operations over the unscoped buffers. -/
def hseg (ops : List (HloOp τ sig (Elt F))) (hs : ops.Forall fun op => op.bufs ⊆ StableHlo.tcRefs τ sig) (hf : ∀ op ∈ ops, op.fresh = ∅)
    (V : (c : Dev nD) → Valuation τ sig (Elt F)) : Pipeline.HostSeg (Name := ℕ) (U := UU nD τ) (pcfgs (F := F)) defs₀ 𝒱₀ L lv :=
  Pipeline.HostSeg.ofOps _ _ _ _ _ (ucRefs τ sig) ops (fun op h => sub_ucRefs op ((List.forall_iff_forall_mem.mp hs) op h)) hf V R

/-- What the call leaves for the end: the result, every block at admitted values, and the arguments. -/
abbrev Tₙ (c : Dev nD) : sProp 𝕄 :=
  iprop((∃ f : Buf (Elt F) ((c : Thread nD τ).loc main_v89_0), ⌜∀ u, u < 171 → Gd (Bk (adm X 0) c (Vb X c)) u f⌝ ∗ (((c : Thread nD τ).loc main_v89_0) ↦{fullShare} f))
    ∗ ptb c (Vb X c) main_arg0 ∗ ptb c (Vb X c) main_arg1 ∗ ptb c (Vb X c) main_arg2 ∗ ptb c (Vb X c) main_arg3 ∗ ptb c (Vb X c) main_arg4
    ∗ ptb c (Vb X c) main_arg5 ∗ ptb c (Vb X c) main_arg6)

theorem prefHeld_one (c : Dev nD) (v : pre0.Contents (Elt F)) :
    (Pipeline.prefHeld pre0 c (fun _ => fullShare) v : sProp 𝕄) = (((c : Thread nD τ).loc main_v19) ↦{fullShare} (show Buf (Elt F) ((c : Thread nD τ).loc main_v19) from v 0)) := by
  unfold Pipeline.prefHeld
  rw [show (Finset.univ : Finset (Fin 1)) = {0} from by decide, bigSep_singleton]
  rfl

theorem own_whole (c : Dev nD) (b : Ref sig .tc) (f : Buf (Elt F) ((c : Thread nD τ).loc b)) :
    (own c (Memref.whole b) f : sProp 𝕄) = (((c : Thread nD τ).loc b) ↦{fullShare} f) := by
  unfold own; simp only [Memref.view_whole, View.set_whole]

/-- Before the first step: the invariant, from the buffers and semaphores the call starts with. -/
theorem inv_start (c : Dev nD) (T : Buf (Elt F) (tabM.view.loc (c : Thread nD τ))) (W : Buf (Elt F) (wM.view.loc (c : Thread nD τ)) → Prop)
    (B : ℕ → (S2x4096x128.Idx → Elt F .f32) → Prop) (X9 : Buf (Elt F) ((c : Thread nD τ).loc main_v82)) (X10 : Buf (Elt F) ((c : Thread nD τ).loc main_v89_0)) :
    iprop((((c : Thread nD τ).loc main_v82) ↦{fullShare} X9) ∗ (((c : Thread nD τ).loc main_v89_0) ↦{fullShare} X10)
      ∗ (cellP c 0 ∗ cellP c 1 ∗ cellP c 2 ∗ cellP c 3 ∗ ovfP c) ∗ (((c : Thread nD τ).loc main_v19) ↦{fullShare} T)
      ∗ Pipeline.scopedRest (Ix := Unit) (Name := ℕ) (U := UU nD τ) (Lvl := ℕ) (Val := Elt F) spec0 c) ⊢ (stepI c T W B 0 : sProp 𝕄) := by
  rw [scopedRest0_eq]
  unfold stepI tabI scrI
  rw [if_pos (by omega)]
  unfold ringI
  rw [slots_start, slots_four]
  unfold freeS
  iintro ⟨H9, H10, ⟨Hc0, Hc1, Hc2, Hc3, Hc7⟩, HT, ⟨%f0, H0⟩, ⟨%f1, H1⟩, ⟨%f2, H2⟩, ⟨%f3, H3⟩, ⟨%f4, H4⟩, ⟨%f5, H5⟩⟩
  ihave Hah := (ahead_start c X10) $$ H10
  ihave H5 := (Entails.of_eq ((ring_split c f5).trans (slots_four _))) $$ H5
  icases H5 with ⟨Hs0, Hs1, Hs2, Hs3⟩
  isplitl [HT H9]
  · isplitl [HT]; · iapply (Entails.of_eq (own_whole c _ T).symm); iexact HT
    iexists X9; iexact H9
  isplitl [H0 H1 H2 H3 H4 Hc7]
  · isplitl [H0]; · iexists f0; iapply (Entails.of_eq (own_whole c _ f0).symm); iexact H0
    isplitl [H1]
    · iexists f1; isplitr; · ipureintro; intro h; exact absurd h (by omega)
      iapply (Entails.of_eq (own_whole c _ f1).symm); iexact H1
    isplitl [H2]; · iexists f2; iapply (Entails.of_eq (own_whole c _ f2).symm); iexact H2
    isplitl [H3]; · iexists f3; iapply (Entails.of_eq (own_whole c _ f3).symm); iexact H3
    isplitl [H4]; · iexists f4; iapply (Entails.of_eq (own_whole c _ f4).symm); iexact H4
    iexact Hc7
  isplitr; · iapply (behind_zero B c); iempintro
  isplitl [Hah]; · iexact Hah
  isplitl [Hs0 Hc0]
  · isplitl [Hs0]; · iexists f5; iexact Hs0
    iexact Hc0
  isplitl [Hs1 Hc1]
  · isplitl [Hs1]; · iexists f5; iexact Hs1
    iexact Hc1
  isplitl [Hs2 Hc2]
  · isplitl [Hs2]; · iexists f5; iexact Hs2
    iexact Hc2
  isplitl [Hs3]; · iexists f5; iexact Hs3
  iexact Hc3

/-- After the last step: the result whole, every block at admitted values, and what the call started with. -/
theorem inv_end (c : Dev nD) (T : Buf (Elt F) (tabM.view.loc (c : Thread nD τ))) (W : Buf (Elt F) (wM.view.loc (c : Thread nD τ)) → Prop)
    (B : ℕ → (S2x4096x128.Idx → Elt F .f32) → Prop) :
    (stepI c T W B 171 : sProp 𝕄) ⊢ iprop((∃ f : Buf (Elt F) ((c : Thread nD τ).loc main_v89_0), ⌜∀ u, u < 171 → Gd B u f⌝ ∗ (((c : Thread nD τ).loc main_v89_0) ↦{fullShare} f))
      ∗ (cellP c 0 ∗ cellP c 1 ∗ cellP c 2 ∗ cellP c 3 ∗ ovfP c)
      ∗ Pipeline.scopedRest (Ix := Unit) (Name := ℕ) (U := UU nD τ) (Lvl := ℕ) (Val := Elt F) spec0 c) := by
  rw [scopedRest0_eq]
  unfold stepI tabI scrI
  rw [if_neg (by omega)]
  unfold ringE
  rw [slots_four]
  unfold freeS
  iintro ⟨⟨HT, %X9, H9⟩, ⟨⟨%f0, H0⟩, ⟨%f1, -, H1⟩, ⟨%f2, H2⟩, ⟨%f3, H3⟩, ⟨%f4, H4⟩, Hc7⟩, Hb, ⟨⟨%g0, Hs0⟩, Hc0⟩, ⟨⟨%g1, Hs1⟩, Hc1⟩, ⟨⟨%g2, Hs2⟩, Hc2⟩, ⟨%g3, Hs3⟩, Hc3⟩
  ihave Hb := (behind_end B c) $$ Hb
  ihave Hr := (ring_join c g0 g1 g2 g3) $$ [Hs0 Hs1 Hs2 Hs3]
  · isplitl [Hs0]; · iexact Hs0
    isplitl [Hs1]; · iexact Hs1
    isplitl [Hs2]; · iexact Hs2
    iexact Hs3
  isplitl [Hb]; · iexact Hb
  isplitl [Hc0 Hc1 Hc2 Hc3 Hc7]
  · isplitl [Hc0]; · iexact Hc0
    isplitl [Hc1]; · iexact Hc1
    isplitl [Hc2]; · iexact Hc2
    isplitl [Hc3]; · iexact Hc3
    iexact Hc7
  isplitl [H0]; · iexists f0; iapply (Entails.of_eq (own_whole c _ f0)); iexact H0
  isplitl [H1]; · iexists f1; iapply (Entails.of_eq (own_whole c _ f1)); iexact H1
  isplitl [H2]; · iexists f2; iapply (Entails.of_eq (own_whole c _ f2)); iexact H2
  isplitl [H3]; · iexists f3; iapply (Entails.of_eq (own_whole c _ f3)); iexact H3
  isplitl [H4]; · iexists f4; iapply (Entails.of_eq (own_whole c _ f4)); iexact H4
  iexact Hr

set_option backward.isDefEq.respectTransparency.types false in
set_option maxRecDepth 4000 in
/-- The kernel's call. -/
def reg0 (hT : ∀ (c : Dev nD) (i : grid0.Coords), k0_chk1 i (ldT c i (Vb X c main_v19))) : Pipeline.RDat.RegionSeg (pcfgs (F := F)) (adm X) (rdats X) () defs₀ 𝒱₀ L lv 0 where
  win := (launch0 (F := F)).win.to₀
  block_pos := (launch0 (F := F)).block_pos
  stage_whole := (launch0 (F := F)).stage_whole
  K := Fin 5
  osem := osem
  ho := ownSemFacts
  hbody c := body_obligation (adm X 0) c (Vb X c) (hT c)
  hwaits := Pipeline.RDat.hwaits_of_owed_zero _ _ _ _ L lv 0 fun _ _ => rfl
  pre c := iprop(StableHlo.held (c : Thread nD τ) (ucRefs τ sig) (X c) ∗ R c)
  post c := iprop(Tₙ X c ∗ R c)
  X c := iprop(ptb c (Vb X c) main_v82 ∗ ptb c (Vb X c) main_v89_0 ∗ (cellP c 0 ∗ cellP c 1 ∗ cellP c 2 ∗ cellP c 3 ∗ ovfP c))
  Y c := iprop(∃ f : Buf (Elt F) ((c : Thread nD τ).loc main_v89_0), ⌜∀ u, u < 171 → Gd (Bk (adm X 0) c (Vb X c)) u f⌝ ∗ (((c : Thread nD τ).loc main_v89_0) ↦{fullShare} f))
  Z c := iprop(ptb c (Vb X c) main_arg0 ∗ ptb c (Vb X c) main_arg1 ∗ ptb c (Vb X c) main_arg2 ∗ ptb c (Vb X c) main_arg3 ∗ ptb c (Vb X c) main_arg4
    ∗ ptb c (Vb X c) main_arg5 ∗ ptb c (Vb X c) main_arg6)
  hentry c := by
    obtain rfl : c = 0 := Subsingleton.elim _ _
    rw [show StableHlo.held (((0 : Dev nD) : Thread nD τ)) (ucRefs τ sig) (X 0) = unscopedBufs 0 (Vb X 0) from (unscopedBufs_held (F := F) 0 (X 0)).symm,
      ownSems0_eq]
    have hsplit := (Pipeline.RDat.arrays_of_unscopedBufs (pcfgs (F := F)) (adm X) (rdats X) (launch0 (F := F)).win (launch0 (F := F)).arr_whole 0
      ((rdats X 0 0).share_full fun _ => rfl) (Vb X 0) (fun w => rd_A (F := F) (adm X 0) 0 (Vb X 0) w)).trans (sep_mono .rfl (rest_split 0 (Vb X 0)))
    iintro ⟨⟨Hub, HO⟩, Hos, -⟩
    ihave H := hsplit $$ Hub
    icases H with ⟨Ha, HT, H9, H10, HZ⟩
    imodintro
    isplitl [Ha]; · iexact Ha
    isplitl [HT]
    · iapply (Entails.of_eq (prefHeld_one 0 (adm X 0).1).symm)
      iexact HT
    isplitl [HO]
    · unfold Pipeline.RDat.owesAt Pipeline.owesWithin
      icases HO with ⟨%W, HO⟩; iexists W; isplitr; · ipureintro; exact fun _ _ => Or.inl trivial
      iexact HO
    isplitl [H9 H10 Hos]
    · isplitl [H9]; · iexact H9
      isplitl [H10]; · iexact H10
      iexact Hos
    iexact HZ
  hin c := by
    obtain rfl : c = 0 := Subsingleton.elim _ _
    rw [show (rdats X 0 0).Φ 0 = stepI 0 (Vb X 0 main_v19) (Wk (adm X 0) 0 (Vb X 0)) (Bk (adm X 0) 0 (Vb X 0)) 0 from rfl]
    iintro ⟨⟨H9, H10, Hos⟩, HT, Hr⟩
    ihave HT := (Entails.of_eq (prefHeld_one 0 (adm X 0).1)) $$ HT
    iapply (inv_start 0 (Vb X 0 main_v19) (Wk (adm X 0) 0 (Vb X 0)) (Bk (adm X 0) 0 (Vb X 0)) _ _)
    isplitl [H9]; · iexact H9
    isplitl [H10]; · iexact H10
    isplitl [Hos]; · iexact Hos
    isplitl [HT]; · iexact HT
    iexact Hr
  hout c := by
    rw [ownSems0_eq, show (rdats X 0 c).Φ (Fin.last _) = stepI c (Vb X c main_v19) (Wk (adm X 0) c (Vb X c)) (Bk (adm X 0) c (Vb X c)) grid0.N from rfl, N_0]
    exact inv_end c (Vb X c main_v19) (Wk (adm X 0) c (Vb X c)) (Bk (adm X 0) c (Vb X c))
  hexit c := by
    iintro ⟨-, HO, HY, HZ⟩
    imodintro
    isplitr [HO]
    · isplitl [HY]; · iexact HY
      iexact HZ
    · unfold Pipeline.RDat.owesAt Pipeline.owesWithin
      icases HO with ⟨%W, -, HO⟩; iexists W; iexact HO

variable (m : (ℓ : Loc nD τ sig) → Buf (Elt F) ℓ) (ρ : Dev nD → PrngReg)

/-- Every step's load of the counts is one the kernel's slots hold. -/
theorem ldT_le (c : Dev nD) (i : grid0.Coords) : k0_chk1 i (ldT c i (Vb (V13 m ρ) c main_v19)) :=
  chk_of_le i _ (V13_counts m ρ c _)

/-- The program as the list of its host operations and the call. -/
abbrev segs : List (Pipeline.RDat.Seg (pcfgs (F := F)) (adm (V13 m ρ)) (rdats (V13 m ρ)) () defs₀ 𝒱₀ L lv) :=
  [.host (hseg hostOps0 hostOps0_sub (by intro _ h; (repeat (cases h with | head => rfl | tail _ h => ?_)); exact nomatch h) (V0 m ρ)),
    .host (hseg hostOps0_1 hostOps0_1_sub (by intro _ h; (repeat (cases h with | head => rfl | tail _ h => ?_)); exact nomatch h) (V1 m ρ)),
    .host (hseg hostOps0_2 hostOps0_2_sub (by intro _ h; (repeat (cases h with | head => rfl | tail _ h => ?_)); exact nomatch h) (V2 m ρ)),
    .host (hseg hostOps0_3 hostOps0_3_sub (by intro _ h; (repeat (cases h with | head => rfl | tail _ h => ?_)); exact nomatch h) (V3 m ρ)),
    .host (hseg hostOps0_4 hostOps0_4_sub (by intro _ h; (repeat (cases h with | head => rfl | tail _ h => ?_)); exact nomatch h) (V4 m ρ)),
    .host (hseg hostOps0_5 hostOps0_5_sub (by intro _ h; (repeat (cases h with | head => rfl | tail _ h => ?_)); exact nomatch h) (V5 m ρ)),
    .host (hseg hostOps0_6 hostOps0_6_sub (by intro _ h; (repeat (cases h with | head => rfl | tail _ h => ?_)); exact nomatch h) (V6 m ρ)),
    .host (hseg hostOps0_7 hostOps0_7_sub (by intro _ h; (repeat (cases h with | head => rfl | tail _ h => ?_)); exact nomatch h) (V7 m ρ)),
    .host (hseg hostOps0_8 hostOps0_8_sub (by intro _ h; (repeat (cases h with | head => rfl | tail _ h => ?_)); exact nomatch h) (V8 m ρ)),
    .host (hseg hostOps0_9 hostOps0_9_sub (by intro _ h; (repeat (cases h with | head => rfl | tail _ h => ?_)); exact nomatch h) (V9 m ρ)),
    .host (hseg hostOps0_10 hostOps0_10_sub (by intro _ h; (repeat (cases h with | head => rfl | tail _ h => ?_)); exact nomatch h) (V10 m ρ)),
    .host (hseg hostOps0_11 hostOps0_11_sub (by intro _ h; (repeat (cases h with | head => rfl | tail _ h => ?_)); exact nomatch h) (V11 m ρ)),
    .host (hseg hostOps0_12 hostOps0_12_sub (by intro _ h; (repeat (cases h with | head => rfl | tail _ h => ?_)); exact nomatch h) (V12 m ρ)),
    .region (reg0 (V13 m ρ) (ldT_le m ρ))]

/-- A segment of host operations runs them. -/
theorem hseg_prog (a : (p : Fin 1) → (pcfgs (F := F) p).Adm) (rds : (p : Fin 1) → (c : Dev nD) → Pipeline.RDat τ (Elt F) Unit ℕ (UU nD τ) ℕ ((Pipeline.pin (pcfgs (F := F)) a p)) c)
    (ops : List (HloOp τ sig (Elt F))) (hs) (hf) (V) :
    Pipeline.RDat.Seg.prog (.host (hseg ops hs hf V) : Pipeline.RDat.Seg (pcfgs (F := F)) a rds () defs₀ 𝒱₀ L lv) = StableHlo.seq ops := rfl
/-- The call's segment enters the pipeline. -/
theorem region_prog (a : (p : Fin 1) → (pcfgs (F := F) p).Adm) (rds : (p : Fin 1) → (c : Dev nD) → Pipeline.RDat τ (Elt F) Unit ℕ (UU nD τ) ℕ ((Pipeline.pin (pcfgs (F := F)) a p)) c)
    (r : Pipeline.RDat.RegionSeg (pcfgs (F := F)) a rds () defs₀ 𝒱₀ L lv 0) :
    Pipeline.RDat.Seg.prog (.region r : Pipeline.RDat.Seg (pcfgs (F := F)) a rds () defs₀ 𝒱₀ L lv) = Prog.lift (.customCall (Pipeline.entry 0) ()) := rfl

/-- What memory holds of core `c`'s buffers at the end: the result at admitted values, the arguments as they were. -/
def QY (c : Dev nD) (s : MemSt nD τ sig (Elt F)) : Prop :=
  (∀ u, u < 171 → Gd (Bk (adm (V13 m ρ) 0) c (Vb (V13 m ρ) c)) u (s.mem ((c : Thread nD τ).loc main_v89_0)))
    ∧ s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_arg4) = m ((c : Thread nD τ).loc main_arg4) ∧ s.mem ((c : Thread nD τ).loc main_arg5) = m ((c : Thread nD τ).loc main_arg5)
    ∧ s.mem ((c : Thread nD τ).loc main_arg6) = m ((c : Thread nD τ).loc main_arg6)

/-- A buffer held beside the state is what memory holds. -/
theorem read_pt (s' : Phys nD τ sig (Elt F)) (ℓ : Loc nD τ sig) (f : Buf (Elt F) ℓ) :
    iprop((SI s' : sProp 𝕄) ∗ (ℓ ↦{fullShare} f)) ⊢ iprop(⌜s'.mem.mem ℓ = f⌝ ∗ SI s') := by
  iintro ⟨HSI, H⟩
  icombine HSI H gives %h
  isplitr; · ipureintro; exact Buf.eq_of_forall_mem_univ h
  iexact HSI

theorem fin_read (c : Dev nD) (s' : Phys nD τ sig (Elt F)) : iprop(Tₙ (V13 m ρ) c ∗ SI s') ⊢ |={Set.univ}=> iprop(⌜QY m ρ c s'.mem⌝ ∗ SI s') := by
  iintro ⟨⟨⟨%f, %hf, Hf⟩, H0, H1, H2, H3, H4, H5, H6⟩, HSI⟩
  ihave Hr := (read_pt s' _ _) $$ [HSI Hf]; · isplitl [HSI] <;> iassumption
  icases Hr with ⟨%ef, HSI⟩
  ihave Hr := (read_pt s' _ _) $$ [HSI H0]; · isplitl [HSI] <;> iassumption
  icases Hr with ⟨%e0, HSI⟩
  ihave Hr := (read_pt s' _ _) $$ [HSI H1]; · isplitl [HSI] <;> iassumption
  icases Hr with ⟨%e1, HSI⟩
  ihave Hr := (read_pt s' _ _) $$ [HSI H2]; · isplitl [HSI] <;> iassumption
  icases Hr with ⟨%e2, HSI⟩
  ihave Hr := (read_pt s' _ _) $$ [HSI H3]; · isplitl [HSI] <;> iassumption
  icases Hr with ⟨%e3, HSI⟩
  ihave Hr := (read_pt s' _ _) $$ [HSI H4]; · isplitl [HSI] <;> iassumption
  icases Hr with ⟨%e4, HSI⟩
  ihave Hr := (read_pt s' _ _) $$ [HSI H5]; · isplitl [HSI] <;> iassumption
  icases Hr with ⟨%e5, HSI⟩
  ihave Hr := (read_pt s' _ _) $$ [HSI H6]; · isplitl [HSI] <;> iassumption
  icases Hr with ⟨%e6, HSI⟩
  imodintro
  isplitr
  · ipureintro
    refine ⟨fun u hu => ef ▸ hf u hu, e0.trans (V13_kept m ρ c (by decide)), e1.trans (V13_kept m ρ c (by decide)), e2.trans (V13_kept m ρ c (by decide)), e3.trans (V13_kept m ρ c (by decide)), e4.trans (V13_kept m ρ c (by decide)), e5.trans (V13_kept m ρ c (by decide)), e6.trans (V13_kept m ρ c (by decide))⟩
  iexact HSI

set_option backward.isDefEq.respectTransparency.types false in
set_option maxRecDepth 4000 in
/-- The program ends without fault, its arguments as they were, every semaphore at zero, every block of the result at
    values its step admits. -/
theorem run_main : θ_run defs (onTc (τ := τ) (main (F := F))) ⟨m, fun _ => 0, ρ⟩ (fun r => (∀ c, QY m ρ c r.2) ∧ r.2.sem = fun _ => 0) :=
  Pipeline.RDat.θ_run_regions_kit_sems (pcfgs (F := F)) (adm (V13 m ρ)) (rdats (V13 m ρ)) () (cellOf_inj (adm (V13 m ρ))) EP defs₀ 𝒱₀ L lv m ρ main (segs m ρ)
    (fun c Q => by rw [main_chain, Pipeline.RDat.Seg.run_eq_chain]; simp only [segs, List.map_cons, List.map_nil, hseg_prog, region_prog]; exact .rfl)
    (by simp only [Pipeline.RDat.Seg.pipes_host, Pipeline.RDat.Seg.pipes_region, Pipeline.RDat.Seg.pipes_nil]; decide) (O₀ := 0) (hL := fun _ _ => rfl) (G := fun _ => iprop(emp)) (u₀ := u₀ (V13 m ρ))
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V0 m ρ c) ∗ R c)) (Tₙ := Tₙ (V13 m ρ))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (ucRefs τ sig) (V0 m ρ c) from unscopedBufs_held c (V0 m ρ c)]
      iintro ⟨⟨Hh, -, HO, -, -, -⟩, -⟩
      imodintro
      isplitl [Hh]; · iexact Hh
      iexists ∅; iexact HO)
    (QY := QY m ρ)
    (hfin := fin_read m ρ)
    (hQ := fun _ h hz => ⟨h, funext fun g => hz g (.inr (by revert g; decide))⟩)

end Cert.Kernel.Hand
end
-- ==== Proof.KernelIdeal.Names.lean ====
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.KitQuiescent
public import Idealize.ShloMosaic.Lib.Ring
public import Idealize.ShloMosaic.Lib.Affine
public import Idealize.ShloMosaic.Lib.Tactic

/-! The names the kernel's transfers go by: the four slots of the write-behind ring, their semaphores, the block of the
result each step writes, and the equations that bring the printed slices to those names. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters
abbrev 𝒱₀ : Variants := Variants.none

/-- The result in device memory, the ring, and the operands the body addresses as they stand. -/
abbrev outM : Memref sig .tc .hbm S2x700000x128 .f32 := Memref.whole main_v89_0
abbrev ringM : Memref sig .tc .vmem S4x2x4096x128 .f32 := Memref.whole cc0_scratch5
abbrev tabM : Memref sig .tc .smem S171 .i32 := Memref.whole main_v19
abbrev ovfM : Memref sig .tc .hbm S171x100x128 .i32 := Memref.whole main_v82
abbrev xfM : Memref sig .tc .vmem S96x128 .f32 := Memref.whole cc0_scratch0
abbrev wM : Memref sig .tc .vmem S208x256 .bf16 := Memref.whole cc0_scratch1
abbrev xsM : Memref sig .tc .vmem S240x256 .bf16 := Memref.whole cc0_scratch2
abbrev accM : Memref sig .tc .vmem S104x128 .f32 := Memref.whole cc0_scratch3
abbrev rowM : Memref sig .tc .vmem S1x128 .i32 := Memref.whole cc0_scratch4

/-- Where block `u` of the result starts (kept in range for every `u`). -/
abbrev dstOff (u : ℕ) : Fin 3 → Nat := ![0, min (4096 * u) 695904, 0]
theorem dstOff_inb (u : ℕ) : ∀ a, dstOff u a + S2x4096x128.size a ≤ S2x700000x128.size a := by
  intro a; fin_cases a
  · show 0 + 2 ≤ 2; omega
  · show min (4096 * u) 695904 + 4096 ≤ 700000; omega
  · show 0 + 128 ≤ 128; omega
abbrev slotOff (g : Fin 4) : Fin 4 → Nat := ![g.val, 0, 0, 0]
theorem slotOff_inb (g : Fin 4) : ∀ a, slotOff g a + S1x2x4096x128.size a ≤ S4x2x4096x128.size a := by
  have := g.isLt; intro a; fin_cases a
  · show g.val + 1 ≤ 4; omega
  · show 0 + 2 ≤ 2; omega
  · show 0 + 4096 ≤ 4096; omega
  · show 0 + 128 ≤ 128; omega
abbrev semOff (g : Fin 4) : Fin 1 → Nat := ![g.val]
theorem semOff_inb (g : Fin 4) : ∀ a, semOff g a + S1.size a ≤ S4.size a := by
  have := g.isLt; intro a; fin_cases a; show g.val + 1 ≤ 4; omega

/-- Block `u` of the result: both batches, rows `4096 u` to `4096 u + 4095`. -/
def dstM (u : ℕ) : Memref sig .tc .hbm S2x4096x128 .f32 :=
  outM.slice (Rect.unit (s := S2x700000x128) (dstOff u) S2x4096x128.size (dstOff_inb u)) (fun _ => rfl)
/-- The last, short block of the result. -/
def dstT : Memref sig .tc .hbm S2x3680x128 .f32 :=
  outM.slice (Rect.unit (s := S2x700000x128) ![0, 696320, 0] S2x3680x128.size inb_S2x700000x128_S2x3680x128_0_696320_0) (fun _ => rfl)
/-- Slot `g` of the ring. -/
def slotM (g : Fin 4) : Memref sig .tc .vmem S2x4096x128 .f32 :=
  (ringM.slice (Rect.unit (s := S4x2x4096x128) (slotOff g) S1x2x4096x128.size (slotOff_inb g)) (fun _ => rfl)).squeeze S2x4096x128 squeezes_S1x2x4096x128_S2x4096x128
/-- The part of slot 2 the last copy reads. -/
def slotT : Memref sig .tc .vmem S2x3680x128 .f32 :=
  (ringM.slice (Rect.unit (s := S4x2x4096x128) ![2, 0, 0, 0] S1x2x3680x128.size inb_S4x2x4096x128_S1x2x3680x128_2_0_0_0) (fun _ => rfl)).squeeze S2x3680x128 squeezes_S1x2x3680x128_S2x3680x128
/-- Slot `g`'s semaphore. -/
def cell (g : Fin 4) : DmaSems sig S_ :=
  (cc0_scratch6.slice (Rect.unit (s := S4) (semOff g) S1.size (semOff_inb g))).squeeze S_ squeezes_S1_S_

instance (g : Fin 4) : ClosedOff (slotOff g) := ⟨slotOff g, rfl⟩
instance (u : ℕ) : ClosedOff (dstOff u) := ⟨dstOff u, rfl⟩

/-! ## The printed offsets -/

theorem off1_eq : ∀ i : grid0.Coords, 4 ≤ (i 0).val → k0_off1 i = semOff (Ring.sl 4 (i 0).val) := by decide +kernel
theorem off2_eq : ∀ i : grid0.Coords, 4 ≤ (i 0).val → k0_off2 i = dstOff ((i 0).val - 4) := by decide +kernel
theorem off3_eq : ∀ i : grid0.Coords, 4 ≤ (i 0).val → k0_off3 i = slotOff (Ring.sl 4 (i 0).val) := by decide +kernel
theorem off4_eq : ∀ i : grid0.Coords, k0_off4 i = ![(Ring.sl 4 (i 0).val).val, 0, 0, 0] := by decide +kernel
theorem off5_eq : ∀ i : grid0.Coords, k0_off5 i = ![(Ring.sl 4 (i 0).val).val, 1, 0, 0] := by decide +kernel
theorem off7_eq : ∀ i : grid0.Coords, k0_off7 i = semOff (Ring.sl 4 (i 0).val) := by decide +kernel
theorem off8_eq : ∀ i : grid0.Coords, (i 0).val < 170 → k0_off8 i = dstOff (i 0).val := by decide +kernel
theorem off9_eq : ∀ i : grid0.Coords, k0_off9 i = slotOff (Ring.sl 4 (i 0).val) := by decide +kernel
theorem cond2_iff : ∀ i : grid0.Coords, k0_cond2 i = 1#1 ↔ 4 ≤ (i 0).val := by decide +kernel
theorem cond3_iff : ∀ i : grid0.Coords, k0_cond3 i = 1#1 ↔ (i 0).val < 170 := by decide +kernel
theorem cond4_iff : ∀ i : grid0.Coords, k0_cond4 i = 1#1 ↔ (i 0).val = 170 := by decide +kernel
theorem cond1_iff : ∀ i : grid0.Coords, Scalar.cmpi .ne (Scalar.extui (Scalar.cmpi .eq (BitVec.ofNat 32 (i 0).val) 0#32) : BitVec 32) 0#32 = 1#1 ↔ (i 0).val = 0 := by decide +kernel
theorem sl_last : ∀ i : grid0.Coords, (i 0).val = 170 → Ring.sl 4 (i 0).val = 2 := by decide +kernel

instance (i : grid0.Coords) : ClosedOff (k0_off4 i) := ⟨_, off4_eq i⟩
instance (i : grid0.Coords) : ClosedOff (k0_off5 i) := ⟨_, off5_eq i⟩

/-! ## The printed slices under their names -/

theorem cell_congr {off : Fin 1 → Nat} {g : Fin 4} (e : off = semOff g) (hh) :
    (cc0_scratch6.slice (Rect.unit (s := S4) off S1.size hh)).squeeze S_ squeezes_S1_S_ = cell g :=
  congrArg (fun A : DmaSems sig S1 => A.squeeze S_ squeezes_S1_S_) (SemArray.slice_unit_congr _ e _ _)
theorem slotM_congr {off : Fin 4 → Nat} {g : Fin 4} (e : off = slotOff g) (hh hs) :
    (ringM.slice (Rect.unit (s := S4x2x4096x128) off S1x2x4096x128.size hh) hs).squeeze S2x4096x128 squeezes_S1x2x4096x128_S2x4096x128 = slotM g :=
  congrArg (fun M : Memref sig .tc .vmem S1x2x4096x128 .f32 => M.squeeze S2x4096x128 squeezes_S1x2x4096x128_S2x4096x128) (Memref.slice_unit_congr _ e _ _ _ _)
theorem dstM_congr {off : Fin 3 → Nat} {u : ℕ} (e : off = dstOff u) (hh hs) :
    outM.slice (Rect.unit (s := S2x700000x128) off S2x4096x128.size hh) hs = dstM u :=
  Memref.slice_unit_congr _ e _ _ _ (fun _ => rfl)

section Canon
variable (i : grid0.Coords)

@[sl_canon] theorem cellW (h4 : 4 ≤ (i 0).val) (hl : (i 0).val < 170) (hh) : (cc0_scratch6.slice (Rect.unit (s := S4) (k0_off1 i) S1.size hh)).squeeze S_ squeezes_S1_S_ = cell (Ring.sl 4 (i 0).val) := cell_congr (off1_eq i h4) _
@[sl_canon] theorem cellWl (h4 : (i 0).val = 170) (hh) : (cc0_scratch6.slice (Rect.unit (s := S4) (k0_off1 i) S1.size hh)).squeeze S_ squeezes_S1_S_ = cell 2 := cell_congr ((off1_eq i (by omega)).trans (by rw [sl_last i h4])) _
@[sl_canon] theorem slotW (h4 : 4 ≤ (i 0).val) (hl : (i 0).val < 170) (hh hs) : (ringM.slice (Rect.unit (s := S4x2x4096x128) (k0_off3 i) S1x2x4096x128.size hh) hs).squeeze S2x4096x128 squeezes_S1x2x4096x128_S2x4096x128 = slotM (Ring.sl 4 (i 0).val) := slotM_congr (off3_eq i h4) _ _
@[sl_canon] theorem slotWl (h4 : (i 0).val = 170) (hh hs) : (ringM.slice (Rect.unit (s := S4x2x4096x128) (k0_off3 i) S1x2x4096x128.size hh) hs).squeeze S2x4096x128 squeezes_S1x2x4096x128_S2x4096x128 = slotM 2 := slotM_congr ((off3_eq i (by omega)).trans (by rw [sl_last i h4])) _ _
@[sl_canon] theorem dstW (h4 : 4 ≤ (i 0).val) (hl : (i 0).val < 170) (hh hs) : outM.slice (Rect.unit (s := S2x700000x128) (k0_off2 i) S2x4096x128.size hh) hs = dstM ((i 0).val - 4) := dstM_congr (off2_eq i h4) _ _
@[sl_canon] theorem dstWl (h4 : (i 0).val = 170) (hh hs) : outM.slice (Rect.unit (s := S2x700000x128) (k0_off2 i) S2x4096x128.size hh) hs = dstM 166 := dstM_congr ((off2_eq i (by omega)).trans (by rw [h4])) _ _
@[sl_canon] theorem cellI (hl : (i 0).val < 170) (hh) : (cc0_scratch6.slice (Rect.unit (s := S4) (k0_off7 i) S1.size hh)).squeeze S_ squeezes_S1_S_ = cell (Ring.sl 4 (i 0).val) := cell_congr (off7_eq i) _
@[sl_canon] theorem slotI (hl : (i 0).val < 170) (hh hs) : (ringM.slice (Rect.unit (s := S4x2x4096x128) (k0_off9 i) S1x2x4096x128.size hh) hs).squeeze S2x4096x128 squeezes_S1x2x4096x128_S2x4096x128 = slotM (Ring.sl 4 (i 0).val) := slotM_congr (off9_eq i) _ _
@[sl_canon] theorem dstI (hl : (i 0).val < 170) (hh hs) : outM.slice (Rect.unit (s := S2x700000x128) (k0_off8 i) S2x4096x128.size hh) hs = dstM (i 0).val := dstM_congr (off8_eq i hl) _ _

end Canon

@[sl_canon] theorem cellL0 (hh) : (cc0_scratch6.slice (Rect.unit (s := S4) ![0] S1.size hh)).squeeze S_ squeezes_S1_S_ = cell 0 := cell_congr (by decide) _
@[sl_canon] theorem cellL1 (hh) : (cc0_scratch6.slice (Rect.unit (s := S4) ![1] S1.size hh)).squeeze S_ squeezes_S1_S_ = cell 1 := cell_congr (by decide) _
@[sl_canon] theorem cellL2 (hh) : (cc0_scratch6.slice (Rect.unit (s := S4) ![2] S1.size hh)).squeeze S_ squeezes_S1_S_ = cell 2 := cell_congr (by decide) _
@[sl_canon] theorem cellL3 (hh) : (cc0_scratch6.slice (Rect.unit (s := S4) ![3] S1.size hh)).squeeze S_ squeezes_S1_S_ = cell 3 := cell_congr (by decide) _
@[sl_canon] theorem slotL0 (hh hs) : (ringM.slice (Rect.unit (s := S4x2x4096x128) ![0, 0, 0, 0] S1x2x4096x128.size hh) hs).squeeze S2x4096x128 squeezes_S1x2x4096x128_S2x4096x128 = slotM 0 := slotM_congr (by decide) _ _
@[sl_canon] theorem slotL1 (hh hs) : (ringM.slice (Rect.unit (s := S4x2x4096x128) ![1, 0, 0, 0] S1x2x4096x128.size hh) hs).squeeze S2x4096x128 squeezes_S1x2x4096x128_S2x4096x128 = slotM 1 := slotM_congr (by decide) _ _
@[sl_canon] theorem slotL3 (hh hs) : (ringM.slice (Rect.unit (s := S4x2x4096x128) ![3, 0, 0, 0] S1x2x4096x128.size hh) hs).squeeze S2x4096x128 squeezes_S1x2x4096x128_S2x4096x128 = slotM 3 := slotM_congr (by decide) _ _
@[sl_canon] theorem slotLT (hh hs) : (ringM.slice (Rect.unit (s := S4x2x4096x128) ![2, 0, 0, 0] S1x2x3680x128.size hh) hs).squeeze S2x3680x128 squeezes_S1x2x3680x128_S2x3680x128 = slotT := rfl
@[sl_canon] theorem dstL167 (hh hs) : outM.slice (Rect.unit (s := S2x700000x128) ![0, 684032, 0] S2x4096x128.size hh) hs = dstM 167 := dstM_congr (by decide) _ _
@[sl_canon] theorem dstL168 (hh hs) : outM.slice (Rect.unit (s := S2x700000x128) ![0, 688128, 0] S2x4096x128.size hh) hs = dstM 168 := dstM_congr (by decide) _ _
@[sl_canon] theorem dstL169 (hh hs) : outM.slice (Rect.unit (s := S2x700000x128) ![0, 692224, 0] S2x4096x128.size hh) hs = dstM 169 := dstM_congr (by decide) _ _
@[sl_canon] theorem dstLT (hh hs) : outM.slice (Rect.unit (s := S2x700000x128) ![0, 696320, 0] S2x3680x128.size hh) hs = dstT := rfl

end Cert.KernelIdeal.Hand

end
-- ==== Proof.KernelIdeal.Geo.lean ====
module

public import proofs.«01_k».proof.Proof.KernelIdeal.Names
public import Idealize.ShloMosaic.Lib.ValueIdx

/-! Where the ring's slots and the result's blocks lie, what one step's product is, and what a slot holds once the step
has stored that product in it. -/

@[expose] public section

noncomputable section

namespace Cert.KernelIdeal.Hand

open Cert.KernelIdeal Cert.KernelIdeal.Gen
open Idealize.ShloMosaic
open Idealize.ShloMosaic.TcCoe Idealize.ShloMosaic.Tactic
open Idealize.ShloMosaic.ValueIdx
open Idealize.SL Idealize.SL.RA Idealize.SL.BI

variable {F : FTy → Type} [FloatOps F]

/-! ## Element sets -/

theorem slotM_emb (g : Fin 4) (j : S2x4096x128.Idx) (a : Fin 4) :
    ((slotM g).view.emb j a).val = (![g.val, (j 0).val, (j 1).val, (j 2).val] : Fin 4 → ℕ) a := by
  have e : (slotM g).view.emb j = (Rect.unit (s := S4x2x4096x128) (slotOff g) S1x2x4096x128.size (slotOff_inb g)).emb
      (Shape.reshapeEquiv squeezes_S1x2x4096x128_S2x4096x128.numel_eq j) := rfl
  rw [e, Shape.reshapeEquiv_cons_one]
  fin_cases a
  · show g.val + 1 * 0 = g.val; omega
  · show 0 + 1 * (j 0).val = (j 0).val; omega
  · show 0 + 1 * (j 1).val = (j 1).val; omega
  · show 0 + 1 * (j 2).val = (j 2).val; omega

theorem slotT_emb (j : S2x3680x128.Idx) (a : Fin 4) :
    (slotT.view.emb j a).val = (![2, (j 0).val, (j 1).val, (j 2).val] : Fin 4 → ℕ) a := by
  have e : slotT.view.emb j = (Rect.unit (s := S4x2x4096x128) ![2, 0, 0, 0] S1x2x3680x128.size inb_S4x2x4096x128_S1x2x3680x128_2_0_0_0).emb
      (Shape.reshapeEquiv squeezes_S1x2x3680x128_S2x3680x128.numel_eq j) := rfl
  rw [e, Shape.reshapeEquiv_cons_one]
  fin_cases a
  · show 2 + 1 * 0 = 2; omega
  · show 0 + 1 * (j 0).val = (j 0).val; omega
  · show 0 + 1 * (j 1).val = (j 1).val; omega
  · show 0 + 1 * (j 2).val = (j 2).val; omega

/-- Row `r` of the short block is row `r` of a full one. -/
abbrev up (j : S2x3680x128.Idx) : S2x4096x128.Idx := ix3 (j 0) ⟨(j 1).val, by have : (j 1).val < 3680 := (j 1).isLt; omega⟩ (j 2)

theorem slotT_up (j : S2x3680x128.Idx) : slotT.view.emb j = (slotM 2).view.emb (up j) := by
  funext a; apply Fin.ext; exact (slotT_emb j a).trans (slotM_emb 2 (up j) a).symm

theorem slotT_sub : slotT.view.set ⊆ (slotM 2).view.set := by
  intro y hy
  obtain ⟨j, _, rfl⟩ := Finset.mem_map.1 hy
  rw [slotT_up]; exact View.emb_mem_set _ _

/-- Slot `g` as a set of the ring's elements. -/
theorem mem_slot (g : Fin 4) (y : S4x2x4096x128.Idx) : y ∈ (slotM g).view.set ↔ (y 0).val = g.val := by
  have e : (slotM g).view.set = (Rect.unit (s := S4x2x4096x128) (slotOff g) S1x2x4096x128.size (slotOff_inb g)).set :=
    (View.set_reshape _ _).trans (View.set_slice_whole _ _)
  have h1 : (y 1).val < 2 := (y 1).isLt
  have h2 : (y 2).val < 4096 := (y 2).isLt
  have h3 : (y 3).val < 128 := (y 3).isLt
  refine (Finset.ext_iff.1 e y).trans ((Rect.mem_set_unit ..).trans ?_)
  constructor
  · intro H; have a0 : g.val ≤ (y 0).val ∧ (y 0).val < g.val + 1 := H 0; omega
  · intro H a; fin_cases a
    · show g.val ≤ (y 0).val ∧ (y 0).val < g.val + 1; omega
    · show 0 ≤ (y 1).val ∧ (y 1).val < 0 + 2; omega
    · show 0 ≤ (y 2).val ∧ (y 2).val < 0 + 4096; omega
    · show 0 ≤ (y 3).val ∧ (y 3).val < 0 + 128; omega

/-- Block `u` of the result as a set of its elements. -/
theorem mem_dst (u : ℕ) (hu : u < 170) (y : S2x700000x128.Idx) :
    y ∈ (dstM u).view.set ↔ 4096 * u ≤ (y 1).val ∧ (y 1).val < 4096 * u + 4096 := by
  have e : (dstM u).view.set = (Rect.unit (s := S2x700000x128) (dstOff u) S2x4096x128.size (dstOff_inb u)).set := View.set_slice_whole _ _
  have h0 : (y 0).val < 2 := (y 0).isLt
  have h2 : (y 2).val < 128 := (y 2).isLt
  refine (Finset.ext_iff.1 e y).trans ((Rect.mem_set_unit ..).trans ?_)
  constructor
  · intro H; have a1 : min (4096 * u) 695904 ≤ (y 1).val ∧ (y 1).val < min (4096 * u) 695904 + 4096 := H 1; omega
  · intro H a; fin_cases a
    · show 0 ≤ (y 0).val ∧ (y 0).val < 0 + 2; omega
    · show min (4096 * u) 695904 ≤ (y 1).val ∧ (y 1).val < min (4096 * u) 695904 + 4096; omega
    · show 0 ≤ (y 2).val ∧ (y 2).val < 0 + 128; omega

/-- The last block, as a set of the result's elements. -/
theorem mem_dstT (y : S2x700000x128.Idx) : y ∈ dstT.view.set ↔ 696320 ≤ (y 1).val := by
  have e : dstT.view.set = (Rect.unit (s := S2x700000x128) ![0, 696320, 0] S2x3680x128.size inb_S2x700000x128_S2x3680x128_0_696320_0).set :=
    View.set_slice_whole _ _
  have h0 : (y 0).val < 2 := (y 0).isLt
  have h1 : (y 1).val < 700000 := (y 1).isLt
  have h2 : (y 2).val < 128 := (y 2).isLt
  refine (Finset.ext_iff.1 e y).trans ((Rect.mem_set_unit ..).trans ?_)
  constructor
  · intro H; have a1 : 696320 ≤ (y 1).val ∧ (y 1).val < 696320 + 3680 := H 1; omega
  · intro H a; fin_cases a
    · show 0 ≤ (y 0).val ∧ (y 0).val < 0 + 2; omega
    · show 696320 ≤ (y 1).val ∧ (y 1).val < 696320 + 3680; omega
    · show 0 ≤ (y 2).val ∧ (y 2).val < 0 + 128; omega

theorem dstM_emb (u : ℕ) (hu : u < 170) (j : S2x4096x128.Idx) (a : Fin 3) :
    ((dstM u).view.emb j a).val = (![(j 0).val, 4096 * u + (j 1).val, (j 2).val] : Fin 3 → ℕ) a := by
  fin_cases a
  · show 0 + 1 * (j 0).val = (j 0).val; omega
  · show min (4096 * u) 695904 + 1 * (j 1).val = 4096 * u + (j 1).val; omega
  · show 0 + 1 * (j 2).val = (j 2).val; omega
theorem dstT_emb (j : S2x3680x128.Idx) (a : Fin 3) :
    (dstT.view.emb j a).val = (![(j 0).val, 696320 + (j 1).val, (j 2).val] : Fin 3 → ℕ) a := by
  fin_cases a
  · show 0 + 1 * (j 0).val = (j 0).val; omega
  · show 696320 + 1 * (j 1).val = 696320 + (j 1).val; omega
  · show 0 + 1 * (j 2).val = (j 2).val; omega

/-! ## One step's product -/

/-- The step's product of the assembled rows with the table `w`: 4096 vectors by both batches' 128 queries. -/
def score (w : Vec F S208x256 .bf16) (cp : Vec F S48x4096 .i8) (bd st : Vec F S1x4096 .bf16) : FVec F S4096x256 .f32 :=
  k0_pay920 w (k0_pay913 (k0_pay908 cp) (k0_pay909 cp) (k0_pay910 cp) (k0_pay911 cp) (k0_pay912 cp)) (k0_pay914 st) (k0_pay915 bd)
    (k0_pay916 st) (k0_pay917 st) (k0_pay919 (k0_pay917 st) k0_pay918)

/-- The same, as the step's slot holds it: by batch, vector and query. -/
def blkOf (w : Vec F S208x256 .bf16) (cp : Vec F S48x4096 .i8) (bd st : Vec F S1x4096 .bf16) : S2x4096x128.Idx → Elt F .f32 := fun j =>
  score w cp bd st (ix2 (j 1) ⟨128 * (j 0).val + (j 2).val, by
    have h0 : (j 0).val < 2 := (j 0).isLt
    have h2 : (j 2).val < 128 := (j 2).isLt
    omega⟩)

/-- Batch 0's and batch 1's halves of the product, as they are stored. -/
abbrev half0 (w : Vec F S208x256 .bf16) (cp : Vec F S48x4096 .i8) (bd st : Vec F S1x4096 .bf16) : FVec F S1x1x4096x128 .f32 :=
  k0_pay921 w (k0_pay913 (k0_pay908 cp) (k0_pay909 cp) (k0_pay910 cp) (k0_pay911 cp) (k0_pay912 cp)) (k0_pay914 st) (k0_pay915 bd)
    (k0_pay916 st) (k0_pay917 st) (k0_pay919 (k0_pay917 st) k0_pay918)
abbrev half1 (w : Vec F S208x256 .bf16) (cp : Vec F S48x4096 .i8) (bd st : Vec F S1x4096 .bf16) : FVec F S1x1x4096x128 .f32 :=
  k0_pay923 (k0_pay922 w (k0_pay913 (k0_pay908 cp) (k0_pay909 cp) (k0_pay910 cp) (k0_pay911 cp) (k0_pay912 cp)) (k0_pay914 st) (k0_pay915 bd)
    (k0_pay916 st) (k0_pay917 st) (k0_pay919 (k0_pay917 st) k0_pay918))

theorem reshape_11 (h : S1x1x4096x128.numel = S4096x128.numel) (r : Fin 4096) (l : Fin 128) (x : Fin 1) (y : Fin 1) :
    Shape.reshapeEquiv (s := S4096x128) (s' := S1x1x4096x128) h (ix4 x y r l) = ix2 r l :=
  Shape.reshapeEquiv_eq_of_rowMajor h (by
    rw [Shape.rowMajor_val_four, Shape.rowMajor_val_two]
    show r.val * 128 + l.val = ((x.val * 1 + y.val) * 4096 + r.val) * 128 + l.val
    have := x.isLt; have := y.isLt; omega)

theorem half0_apply (w : Vec F S208x256 .bf16) (cp bd st) (r : Fin 4096) (l : Fin 128) (x y : Fin 1) :
    half0 w cp bd st (ix4 x y r l) = blkOf w cp bd st (ix3 0 r l) := by
  have e := reshape_11 shapeCasts_S4096x128_S1x1x4096x128.symm r l x y
  have h : half0 w cp bd st (ix4 x y r l) = extractStridedSlice S4096x128 ![0, 0] (score w cp bd st) slices_S4096x256_o0_0_S4096x128
      (Shape.reshapeEquiv shapeCasts_S4096x128_S1x1x4096x128 (ix4 x y r l)) := rfl
  rw [h, reshape_11]
  refine congrArg (score w cp bd st) (funext fun a => Fin.ext ?_)
  fin_cases a
  · show 0 + r.val = r.val; omega
  · show 0 + l.val = 128 * 0 + l.val; omega
theorem half1_apply (w : Vec F S208x256 .bf16) (cp bd st) (r : Fin 4096) (l : Fin 128) (x y : Fin 1) :
    half1 w cp bd st (ix4 x y r l) = blkOf w cp bd st (ix3 1 r l) := by
  have h : half1 w cp bd st (ix4 x y r l) = extractStridedSlice S4096x128 ![0, 128] (score w cp bd st) slices_S4096x256_o0_128_S4096x128
      (Shape.reshapeEquiv shapeCasts_S4096x128_S1x1x4096x128 (ix4 x y r l)) := rfl
  rw [h, reshape_11]
  refine congrArg (score w cp bd st) (funext fun a => Fin.ext ?_)
  fin_cases a
  · show 0 + r.val = r.val; omega
  · show 128 + l.val = 128 * 1 + l.val; omega

/-- The half of slot `g` that batch `b`'s store writes. -/
abbrev halfV (g : Fin 4) (b : ℕ) (h : ∀ a, (![g.val, b, 0, 0] : Fin 4 → ℕ) a + S1x1x4096x128.size a ≤ S4x2x4096x128.size a) :=
  ringM.access (Rect.unit (s := S4x2x4096x128) ![g.val, b, 0, 0] S1x1x4096x128.size h)

theorem half_emb (g : Fin 4) (b : Fin 2) (h) (r : Fin 4096) (l : Fin 128) :
    (slotM g).view.emb (ix3 b r l) = (halfV g b.val h).emb (ix4 0 0 r l) := by
  funext a; apply Fin.ext; refine (slotM_emb g _ a).trans ?_
  fin_cases a
  · show g.val = g.val + 1 * 0; omega
  · show b.val = b.val + 1 * 0; omega
  · show r.val = 0 + 1 * r.val; omega
  · show l.val = 0 + 1 * l.val; omega

/-- A store of one half, read at an index of that half, -/
theorem half_hit (g : Fin 4) (b : Fin 2) (h) (f : ringM.view.ty.Contents (Elt F)) (p : S1x1x4096x128.Idx → Elt F .f32) (r : Fin 4096) (l : Fin 128) :
    ((halfV g b.val h).write (Elt F) f p Finset.univ : S4x2x4096x128.Idx → Elt F .f32) ((slotM g).view.emb (ix3 b r l)) = p (ix4 0 0 r l) :=
  (congrArg ((halfV g b.val h).write (Elt F) f p Finset.univ : S4x2x4096x128.Idx → Elt F .f32) (half_emb g b h r l)).trans
    ((View.write_emb_of_mem (v := halfV g b.val h) f p (M := Finset.univ) (x := ix4 0 0 r l) (Finset.mem_univ _)).trans (cast_eq _ _))
/-- A slot read at an index is the ring at the index's place. -/
theorem slot_read_apply (g : Fin 4) (f : ringM.view.ty.Contents (Elt F)) (j : S2x4096x128.Idx) :
    (slotM g).view.read (Elt F) f j = (f : S4x2x4096x128.Idx → Elt F .f32) ((slotM g).view.emb j) := rfl
theorem half_not_mem (g : Fin 4) (b' : ℕ) (h) (y : S4x2x4096x128.Idx) (hy : (y 1).val ≠ b') : y ∉ (halfV g b' h).set := by
  have e : (halfV g b' h).set = (Rect.unit (s := S4x2x4096x128) ![g.val, b', 0, 0] S1x1x4096x128.size h).set := View.set_slice_whole _ _
  intro hm
  have H := (Rect.mem_set_unit ..).1 ((Finset.ext_iff.1 e y).1 hm)
  have a1 : b' ≤ (y 1).val ∧ (y 1).val < b' + 1 := H 1
  omega
/-- and off it. -/
theorem half_miss (g : Fin 4) (b' : ℕ) (h) (f : ringM.view.ty.Contents (Elt F)) (p : S1x1x4096x128.Idx → Elt F .f32) (y : S4x2x4096x128.Idx) (hy : (y 1).val ≠ b') :
    ((halfV g b' h).write (Elt F) f p Finset.univ : S4x2x4096x128.Idx → Elt F .f32) y = (f : S4x2x4096x128.Idx → Elt F .f32) y :=
  View.write_of_not_mem (v := halfV g b' h) f p Finset.univ (half_not_mem g b' h y hy)

/-- Slot `g` after stores of the two halves reads them. -/
theorem halves_read (g : Fin 4) (h0 h1) (f : ringM.view.ty.Contents (Elt F)) (p0 p1 : S1x1x4096x128.Idx → Elt F .f32) (v : S2x4096x128.Idx → Elt F .f32)
    (e0 : ∀ r l, p0 (ix4 0 0 r l) = v (ix3 0 r l)) (e1 : ∀ r l, p1 (ix4 0 0 r l) = v (ix3 1 r l)) :
    (slotM g).view.read (Elt F) ((halfV g 1 h1).write (Elt F) ((halfV g 0 h0).write (Elt F) f p0 Finset.univ) p1 Finset.univ) = v := by
  funext j
  obtain ⟨b, r, l, rfl⟩ : ∃ (b : Fin 2) (r : Fin 4096) (l : Fin 128), j = ix3 b r l := ⟨j 0, j 1, j 2, eq_ix3 j⟩
  by_cases hb : b = 1
  · subst hb
    exact (slot_read_apply g _ _).trans ((half_hit g 1 h1 _ _ r l).trans (e1 r l))
  · obtain rfl : b = 0 := by have := b.isLt; apply Fin.ext; have : b.val ≠ 1 := fun h => hb (Fin.ext h); show b.val = 0; omega
    refine (slot_read_apply g _ _).trans ((half_miss g 1 h1 _ _ _ ?_).trans ((half_hit g 0 h0 _ _ r l).trans (e0 r l)))
    rw [slotM_emb]; exact (show (0 : ℕ) ≠ 1 by decide)

/-- Slot `g` after the step's two stores holds the step's product. -/
theorem slot_read (g : Fin 4) {off0 off1 : Fin 4 → ℕ} (e0 : off0 = ![g.val, 0, 0, 0]) (e1 : off1 = ![g.val, 1, 0, 0])
    (h0 : ∀ a, off0 a + S1x1x4096x128.size a ≤ S4x2x4096x128.size a) (h1 : ∀ a, off1 a + S1x1x4096x128.size a ≤ S4x2x4096x128.size a)
    (f : ringM.view.ty.Contents (Elt F)) (w : Vec F S208x256 .bf16) (cp bd st) :
    (slotM g).view.read (Elt F)
      ((ringM.access (Rect.unit (s := S4x2x4096x128) off1 S1x1x4096x128.size h1)).write (Elt F)
        ((ringM.access (Rect.unit (s := S4x2x4096x128) off0 S1x1x4096x128.size h0)).write (Elt F) f (half0 w cp bd st) Finset.univ)
        (half1 w cp bd st) Finset.univ) = blkOf w cp bd st := by
  subst e0 e1
  exact halves_read g h0 h1 f _ _ _ (fun r l => half0_apply w cp bd st r l 0 0) (fun r l => half1_apply w cp bd st r l 0 0)

/-- A block written whole holds what was written. -/
theorem dst_read (u : ℕ) (f : (dstM u).view.ty.Contents (Elt F)) (p : S2x4096x128.Idx → Elt F .f32) :
    (dstM u).view.read (Elt F) ((dstM u).view.writes (Elt F) f [⟨Rect.whole S2x4096x128, p⟩]) = p := View.read_writes_whole _ _ _
theorem dstT_read (f : dstT.view.ty.Contents (Elt F)) (p : S2x3680x128.Idx → Elt F .f32) :
    dstT.view.read (Elt F) (dstT.view.writes (Elt F) f [⟨Rect.whole S2x3680x128, p⟩]) = p := View.read_writes_whole _ _ _
/-- The short block read from slot 2 is the block's first 3680 rows. -/
theorem slotT_read (f : ringM.view.ty.Contents (Elt F)) (j : S2x3680x128.Idx) :
    slotT.view.read (Elt F) f j = (slotM 2).view.read (Elt F) f (up j) :=
  congrArg (f : S4x2x4096x128.Idx → Elt F .f32) (slotT_up j)
end Cert.KernelIdeal.Hand
end
-- ==== Proof.KernelIdeal.BodyDefs.lean ====
module

public import proofs.«01_k».proof.Proof.KernelIdeal.Geo

/-! What the body holds before and after a step: its windows and tables, the ring's slots, the copies in flight. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- The last grid point. -/
def lastPt : grid0.Coords := fun a => ⟨170, by fin_cases a; decide⟩
theorem lastPt_val : (lastPt 0).val = 170 := rfl
instance (priority := 2000) : ClosedOff (k0_off4 lastPt) := ⟨![2, 0, 0, 0], (off4_eq lastPt).trans (by rw [sl_last _ lastPt_val]; rfl)⟩
instance (priority := 2000) : ClosedOff (k0_off5 lastPt) := ⟨![2, 1, 0, 0], (off5_eq lastPt).trans (by rw [sl_last _ lastPt_val]; rfl)⟩

section Body
variable (c : Dev nD) (i : grid0.Coords)
  (arg2 : Memref sig .tc .vmem S2x96x128 .bf16) (harg2 : arg2.IsWhole) (arg3 : Memref sig .tc .vmem S1x96 .f32) (harg3 : arg3.IsWhole)
  (arg4 : Memref sig .tc .vmem S48x4096 .i8) (harg4 : arg4.IsWhole) (arg5 : Memref sig .tc .vmem S96x4096 .i8) (harg5 : arg5.IsWhole)
  (arg6 : Memref sig .tc .vmem S1x4096 .bf16) (harg6 : arg6.IsWhole) (arg7 : Memref sig .tc .vmem S1x4096 .bf16) (harg7 : arg7.IsWhole)
  (arg8 : Memref sig .tc .vmem S176x128 .i32) (harg8 : arg8.IsWhole) (arg11 : Memref sig .tc .vmem S50x2x128 .f32) (harg11 : arg11.IsWhole)

/-- The kernel's body at a grid point, over its own tables, ring and result. -/
abbrev bodyG : Prog (TpuEff nD τ sig (Elt F) Λ₀ .tc) PUnit :=
  cc0_lvq_scores i tabM (Memref.isWhole_whole _) arg2 harg2 arg3 harg3 arg4 harg4 arg5 harg5 arg6 harg6 arg7 harg7 arg8 harg8 ovfM (Memref.isWhole_whole _) outM (Memref.isWhole_whole _)
    arg11 harg11 xfM (Memref.isWhole_whole _) wM (Memref.isWhole_whole _) xsM (Memref.isWhole_whole _) accM (Memref.isWhole_whole _) rowM (Memref.isWhole_whole _) ringM (Memref.isWhole_whole _) cc0_scratch6 cc0_scratch7

/-- The view `a`, at contents `f`. -/
abbrev own {sp : Space} {s : Shape} {e : EltTy} (a : Memref sig .tc sp s e) (f : Buf (Elt F) (a.view.loc (c : Thread nD τ))) : sProp 𝕄 :=
  a.view.loc (c : Thread nD τ) ↦[a.view.set]{fullShare} f
/-- Slot `g`'s semaphore at zero. -/
abbrev cellP (g : Fin 4) : sProp 𝕄 := semVal ((c : Thread nD τ), SemLoc.dma (cell g).sem) 0
/-- The overflow copies' semaphore at zero. -/
abbrev ovfP : sProp 𝕄 := semVal ((c : Thread nD τ), SemLoc.dma cc0_scratch7.sem) 0
/-- A copy of slot `g` into block `u` in flight: when it lands, the block is held at `fd` and the slot at `fs`. -/
abbrev flt (g : Fin 4) (u : ℕ) (fd : Buf (Elt F) ((dstM u).view.loc (c : Thread nD τ))) (fs : Buf (Elt F) ((slotM g).view.loc (c : Thread nD τ))) : sProp 𝕄 :=
  Transfers.Flight countersEmb (c : Thread nD τ) (SemLoc.dma (cell g).sem) () 131072 iprop(own c (dstM u) fd ∗ own c (slotM g) fs)

/-- The step's words, as the body loads them. -/
abbrev ldT (T : Buf (Elt F) (tabM.view.loc (c : Thread nD τ))) : BitVec 32 :=
  tabM.view.readAt (Elt F) (Rect.unit (s := S171) (k0_off10 i) S1.size (k0_off10_inb i)).toLoadRect T (Shape.Idx.first (by show 0 < Shape.numel (⟨1, S1.size⟩ : Shape); decide))
abbrev ldW (f : Buf (Elt F) (wM.view.loc (c : Thread nD τ))) : Vec F S208x256 .bf16 :=
  wM.view.readAt (Elt F) (Rect.unit (s := S208x256) ![0, 0] S208x256.size inb_S208x256_S208x256_0_0).toLoadRect f
abbrev ldCP (f : Buf (Elt F) (arg4.view.loc (c : Thread nD τ))) : Vec F S48x4096 .i8 :=
  arg4.view.readAt (Elt F) (Rect.unit (s := S48x4096) ![0, 0] S48x4096.size inb_S48x4096_S48x4096_0_0).toLoadRect f
abbrev ldRow (a : Memref sig .tc .vmem S1x4096 .bf16) (f : Buf (Elt F) (a.view.loc (c : Thread nD τ))) : Vec F S1x4096 .bf16 :=
  a.view.readAt (Elt F) (Rect.unit (s := S1x4096) ![0, 0] S1x4096.size inb_S1x4096_S1x4096_0_0).toLoadRect f

/-- The step's block: what its slot holds and its copy writes. -/
abbrev stepBlk (f13 : Buf (Elt F) (wM.view.loc (c : Thread nD τ))) (f4 : Buf (Elt F) (arg4.view.loc (c : Thread nD τ))) (f6 : Buf (Elt F) (arg6.view.loc (c : Thread nD τ)))
    (f7 : Buf (Elt F) (arg7.view.loc (c : Thread nD τ))) : S2x4096x128.Idx → Elt F .f32 :=
  blkOf (ldW c f13) (ldCP c arg4 f4) (ldRow c arg6 f6) (ldRow c arg7 f7)

/-- Slot 2 is the part the last copy reads and the rest, -/
theorem slot2_split (f : Buf (Elt F) ((slotM 2).view.loc (c : Thread nD τ))) :
    own c (slotM 2) f ⊢ iprop(own c slotT f ∗ ((slotM 2).view.loc (c : Thread nD τ) ↦[(slotM 2).view.set \ slotT.view.set]{fullShare} f)) :=
  (pointsTo_split_subset (ℓ := (slotM 2).view.loc (c : Thread nD τ)) slotT_sub).1
/-- and back. -/
theorem slot2_join (f : Buf (Elt F) ((slotM 2).view.loc (c : Thread nD τ))) :
    iprop(own c slotT f ∗ ((slotM 2).view.loc (c : Thread nD τ) ↦[(slotM 2).view.set \ slotT.view.set]{fullShare} f)) ⊢ own c (slotM 2) f :=
  (pointsTo_split_subset (ℓ := (slotM 2).view.loc (c : Thread nD τ)) slotT_sub).2

end Body
end Cert.KernelIdeal.Hand
end
-- ==== Proof.KernelIdeal.Tabs.lean ====
module

public import proofs.«01_k».proof.Proof.KernelIdeal.BodyDefs

/-! The first step's tables: the run of the part that fills them names what each of them holds. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body
variable (c : Dev nD) (i : grid0.Coords)
  (arg2 : Memref sig .tc .vmem S2x96x128 .bf16) (harg2 : arg2.IsWhole) (arg3 : Memref sig .tc .vmem S1x96 .f32) (harg3 : arg3.IsWhole)
  (arg4 : Memref sig .tc .vmem S48x4096 .i8) (harg4 : arg4.IsWhole) (arg5 : Memref sig .tc .vmem S96x4096 .i8) (harg5 : arg5.IsWhole)
  (arg6 : Memref sig .tc .vmem S1x4096 .bf16) (harg6 : arg6.IsWhole) (arg7 : Memref sig .tc .vmem S1x4096 .bf16) (harg7 : arg7.IsWhole)
  (arg8 : Memref sig .tc .vmem S176x128 .i32) (harg8 : arg8.IsWhole) (arg11 : Memref sig .tc .vmem S50x2x128 .f32) (harg11 : arg11.IsWhole)

/-- The first step's opening part runs, over the centroid, the queries and the tables alone. -/
theorem tabs (h0 : (i 0).val = 0) (f2 f3 f4 f12 f13 f14 f15 W) :
    iprop(own c arg2 f2 ∗ own c arg3 f3 ∗ own c arg4 f4 ∗ own c xfM f12 ∗ own c wM f13 ∗ own c xsM f14 ∗ own c accM f15 ∗ owes (c : Thread nD τ) 0 W)
      ⊢ wp frame (wpE (defs₀ (F := F)) 𝒱₀ (c : Thread nD τ) none) Set.univ
        (k0_part115 i tabM (Memref.isWhole_whole _) arg2 harg2 arg3 harg3 arg4 harg4 arg5 harg5 arg6 harg6 arg7 harg7 arg8 harg8 ovfM (Memref.isWhole_whole _) outM (Memref.isWhole_whole _)
    arg11 harg11 xfM (Memref.isWhole_whole _) wM (Memref.isWhole_whole _) xsM (Memref.isWhole_whole _) accM (Memref.isWhole_whole _) rowM (Memref.isWhole_whole _) ringM (Memref.isWhole_whole _) cc0_scratch6 cc0_scratch7)
        (fun _ => iprop(∃ f, own c wM f)) := by
  have hc1 : Scalar.cmpi .ne (Scalar.extui (Scalar.cmpi .eq (BitVec.ofNat 32 (i 0).val) 0#32) : BitVec 32) 0#32 = 1#1 := (cond1_iff i).2 h0
  have hc2 : ¬ (k0_cond2 i = 1#1) := fun h => by have := (cond2_iff i).1 h; omega
  iintro ⟨H2, H3, H4, H12, H13, H14, H15, HW⟩
  rw [k0_part115_eq_skeleton]
  sl_exec_parts
  sl_step
  iexists _; iexact H13
end Body
end Cert.KernelIdeal.Hand
end
-- ==== Proof.KernelIdeal.BodyA.lean ====
module

public import proofs.«01_k».proof.Proof.KernelIdeal.Tabs

/-! The first step: it fills the tables, stores its block in slot 0 and starts the copy. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body
variable (c : Dev nD) (i : grid0.Coords)
  (arg2 : Memref sig .tc .vmem S2x96x128 .bf16) (harg2 : arg2.IsWhole) (arg3 : Memref sig .tc .vmem S1x96 .f32) (harg3 : arg3.IsWhole)
  (arg4 : Memref sig .tc .vmem S48x4096 .i8) (harg4 : arg4.IsWhole) (arg5 : Memref sig .tc .vmem S96x4096 .i8) (harg5 : arg5.IsWhole)
  (arg6 : Memref sig .tc .vmem S1x4096 .bf16) (harg6 : arg6.IsWhole) (arg7 : Memref sig .tc .vmem S1x4096 .bf16) (harg7 : arg7.IsWhole)
  (arg8 : Memref sig .tc .vmem S176x128 .i32) (harg8 : arg8.IsWhole) (arg11 : Memref sig .tc .vmem S50x2x128 .f32) (harg11 : arg11.IsWhole)

/-- The first step fills the tables from the queries and the centroid, and leaves its block on the way to the result. -/
theorem bodyA (h0 : (i 0).val = 0) (hl : (i 0).val < 170) (T : Buf (Elt F) (tabM.view.loc (c : Thread nD τ))) (hchk : k0_chk1 i (ldT c i T))
    (X9 f2 f3 f4 f5 f6 f7 f8 f11 f12 f13 f14 f15 f16 fs fo W) (Q : PUnit → sProp 𝕄) :
    iprop((own c tabM T ∗ (ovfM.view.loc (c : Thread nD τ) ↦{fullShare} X9)
      ∗ own c arg2 f2 ∗ own c arg3 f3 ∗ own c arg4 f4 ∗ own c arg5 f5 ∗ own c arg6 f6 ∗ own c arg7 f7 ∗ own c arg8 f8 ∗ own c arg11 f11
      ∗ own c xfM f12 ∗ own c wM f13 ∗ own c xsM f14 ∗ own c accM f15 ∗ own c rowM f16
      ∗ own c (slotM (Ring.sl 4 (i 0).val)) fs ∗ cellP c (Ring.sl 4 (i 0).val) ∗ own c (dstM (i 0).val) fo ∗ ovfP c ∗ owes (c : Thread nD τ) 0 W)
      ∗ ((own c tabM T ∗ (ovfM.view.loc (c : Thread nD τ) ↦{fullShare} X9)
        ∗ own c arg2 f2 ∗ own c arg3 f3 ∗ own c arg4 f4 ∗ own c arg5 f5 ∗ own c arg6 f6 ∗ own c arg7 f7 ∗ own c arg8 f8 ∗ own c arg11 f11
        ∗ (∃ f, own c xfM f) ∗ own c wM (wM.view.writes (Elt F) wM.view.junk (tabs.sl.H13_6 c arg2 arg3 f2 f3)) ∗ (∃ f, own c xsM f) ∗ (∃ f, own c accM f) ∗ (∃ f, own c rowM f)
        ∗ (∃ fd fs, ⌜(dstM (i 0).val).view.read (Elt F) fd = stepBlk c arg4 arg6 arg7 (wM.view.writes (Elt F) wM.view.junk (tabs.sl.H13_6 c arg2 arg3 f2 f3)) f4 f6 f7⌝ ∗ flt c (Ring.sl 4 (i 0).val) (i 0).val fd fs) ∗ ovfP c ∗ (∃ W, owes (c : Thread nD τ) 0 W)) -∗ Q ⟨⟩))
      ⊢ wp frame (wpE (defs₀ (F := F)) 𝒱₀ (c : Thread nD τ) none) Set.univ (bodyG i arg2 harg2 arg3 harg3 arg4 harg4 arg5 harg5 arg6 harg6 arg7 harg7 arg8 harg8 arg11 harg11) Q := by
  have hc1 : Scalar.cmpi .ne (Scalar.extui (Scalar.cmpi .eq (BitVec.ofNat 32 (i 0).val) 0#32) : BitVec 32) 0#32 = 1#1 := (cond1_iff i).2 (by omega)
  have hc2 : ¬ (k0_cond2 i = 1#1) := fun h => by have := (cond2_iff i).1 h; omega
  have hc3 : k0_cond3 i = 1#1 := (cond3_iff i).2 (by omega)
  have hc4 : ¬ (k0_cond4 i = 1#1) := fun h => by have := (cond4_iff i).1 h; omega
  iintro ⟨⟨HT, H9, H2, H3, H4, H5, H6, H7, H8, H11, H12, H13, H14, H15, H16, Hs, Hc, Ho, Hc7, HW⟩, Hk⟩
  dsimp only [bodyG]
  rw [cc0_lvq_scores_eq_skeleton]
  sl_exec_parts
  sl_step
  iapply Hk
  isplitl [HT]; · iexact HT
  isplitl [H9]; · iexact H9
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H11]; · iexact H11
  isplitl [H12]; · iexists _; iexact H12
  isplitl [H13]; · iexact H13
  isplitl [H14]; · iexists _; iexact H14
  isplitl [H15]; · iexists _; iexact H15
  isplitl [H16]; · iexists _; iexact H16
  isplitl [Hc]
  · iexists _, _
    isplitr [Hc]; swap; · iexact Hc
    ipureintro
    exact (dst_read _ _ _).trans (slot_read (Ring.sl 4 (i 0).val) (off4_eq i) (off5_eq i) _ _ _ _ _ _ _)
  isplitl [Hc7]; · iexact Hc7
  iexists _; iexact HW
end Body
end Cert.KernelIdeal.Hand
end
-- ==== Proof.KernelIdeal.BodyB.lean ====
module

public import proofs.«01_k».proof.Proof.KernelIdeal.BodyDefs

/-! The second to fourth steps: a slot not used before takes the block. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body
variable (c : Dev nD) (i : grid0.Coords)
  (arg2 : Memref sig .tc .vmem S2x96x128 .bf16) (harg2 : arg2.IsWhole) (arg3 : Memref sig .tc .vmem S1x96 .f32) (harg3 : arg3.IsWhole)
  (arg4 : Memref sig .tc .vmem S48x4096 .i8) (harg4 : arg4.IsWhole) (arg5 : Memref sig .tc .vmem S96x4096 .i8) (harg5 : arg5.IsWhole)
  (arg6 : Memref sig .tc .vmem S1x4096 .bf16) (harg6 : arg6.IsWhole) (arg7 : Memref sig .tc .vmem S1x4096 .bf16) (harg7 : arg7.IsWhole)
  (arg8 : Memref sig .tc .vmem S176x128 .i32) (harg8 : arg8.IsWhole) (arg11 : Memref sig .tc .vmem S50x2x128 .f32) (harg11 : arg11.IsWhole)

/-- A step before the ring wraps stores its block in a fresh slot and starts the copy. -/
theorem bodyB (h0 : 1 ≤ (i 0).val) (hl : (i 0).val < 4) (T : Buf (Elt F) (tabM.view.loc (c : Thread nD τ))) (hchk : k0_chk1 i (ldT c i T))
    (X9 f2 f3 f4 f5 f6 f7 f8 f11 f12 f13 f14 f15 f16 fs fo W) (Q : PUnit → sProp 𝕄) :
    iprop((own c tabM T ∗ (ovfM.view.loc (c : Thread nD τ) ↦{fullShare} X9)
      ∗ own c arg2 f2 ∗ own c arg3 f3 ∗ own c arg4 f4 ∗ own c arg5 f5 ∗ own c arg6 f6 ∗ own c arg7 f7 ∗ own c arg8 f8 ∗ own c arg11 f11
      ∗ own c xfM f12 ∗ own c wM f13 ∗ own c xsM f14 ∗ own c accM f15 ∗ own c rowM f16
      ∗ own c (slotM (Ring.sl 4 (i 0).val)) fs ∗ cellP c (Ring.sl 4 (i 0).val) ∗ own c (dstM (i 0).val) fo ∗ ovfP c ∗ owes (c : Thread nD τ) 0 W)
      ∗ ((own c tabM T ∗ (ovfM.view.loc (c : Thread nD τ) ↦{fullShare} X9)
        ∗ own c arg2 f2 ∗ own c arg3 f3 ∗ own c arg4 f4 ∗ own c arg5 f5 ∗ own c arg6 f6 ∗ own c arg7 f7 ∗ own c arg8 f8 ∗ own c arg11 f11
        ∗ own c xfM f12 ∗ own c wM f13 ∗ own c xsM f14 ∗ (∃ f, own c accM f) ∗ (∃ f, own c rowM f)
        ∗ (∃ fd fs, ⌜(dstM (i 0).val).view.read (Elt F) fd = stepBlk c arg4 arg6 arg7 f13 f4 f6 f7⌝ ∗ flt c (Ring.sl 4 (i 0).val) (i 0).val fd fs) ∗ ovfP c ∗ (∃ W, owes (c : Thread nD τ) 0 W)) -∗ Q ⟨⟩))
      ⊢ wp frame (wpE (defs₀ (F := F)) 𝒱₀ (c : Thread nD τ) none) Set.univ (bodyG i arg2 harg2 arg3 harg3 arg4 harg4 arg5 harg5 arg6 harg6 arg7 harg7 arg8 harg8 arg11 harg11) Q := by
  have hc1 : ¬ (Scalar.cmpi .ne (Scalar.extui (Scalar.cmpi .eq (BitVec.ofNat 32 (i 0).val) 0#32) : BitVec 32) 0#32 = 1#1) := fun h => by have := (cond1_iff i).1 h; omega
  have hc2 : ¬ (k0_cond2 i = 1#1) := fun h => by have := (cond2_iff i).1 h; omega
  have hc3 : k0_cond3 i = 1#1 := (cond3_iff i).2 (by omega)
  have hc4 : ¬ (k0_cond4 i = 1#1) := fun h => by have := (cond4_iff i).1 h; omega
  iintro ⟨⟨HT, H9, H2, H3, H4, H5, H6, H7, H8, H11, H12, H13, H14, H15, H16, Hs, Hc, Ho, Hc7, HW⟩, Hk⟩
  dsimp only [bodyG]
  rw [cc0_lvq_scores_eq_skeleton]
  sl_exec_parts
  sl_step
  iapply Hk
  isplitl [HT]; · iexact HT
  isplitl [H9]; · iexact H9
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H11]; · iexact H11
  isplitl [H12]; · iexact H12
  isplitl [H13]; · iexact H13
  isplitl [H14]; · iexact H14
  isplitl [H15]; · iexists _; iexact H15
  isplitl [H16]; · iexists _; iexact H16
  isplitl [Hc]
  · iexists _, _
    isplitr [Hc]; swap; · iexact Hc
    ipureintro
    exact (dst_read _ _ _).trans (slot_read (Ring.sl 4 (i 0).val) (off4_eq i) (off5_eq i) _ _ _ _ _ _ _)
  isplitl [Hc7]; · iexact Hc7
  iexists _; iexact HW
end Body
end Cert.KernelIdeal.Hand
end
-- ==== Proof.KernelIdeal.BodyC.lean ====
module

public import proofs.«01_k».proof.Proof.KernelIdeal.BodyDefs

/-! A step once the ring has wrapped: it waits for the copy of four steps before. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body
variable (c : Dev nD) (i : grid0.Coords)
  (arg2 : Memref sig .tc .vmem S2x96x128 .bf16) (harg2 : arg2.IsWhole) (arg3 : Memref sig .tc .vmem S1x96 .f32) (harg3 : arg3.IsWhole)
  (arg4 : Memref sig .tc .vmem S48x4096 .i8) (harg4 : arg4.IsWhole) (arg5 : Memref sig .tc .vmem S96x4096 .i8) (harg5 : arg5.IsWhole)
  (arg6 : Memref sig .tc .vmem S1x4096 .bf16) (harg6 : arg6.IsWhole) (arg7 : Memref sig .tc .vmem S1x4096 .bf16) (harg7 : arg7.IsWhole)
  (arg8 : Memref sig .tc .vmem S176x128 .i32) (harg8 : arg8.IsWhole) (arg11 : Memref sig .tc .vmem S50x2x128 .f32) (harg11 : arg11.IsWhole)

/-- A step of the main run waits for the copy of four steps before, takes its slot, and starts its own copy. -/
theorem bodyC (h0 : 4 ≤ (i 0).val) (hl : (i 0).val < 170) (T : Buf (Elt F) (tabM.view.loc (c : Thread nD τ))) (hchk : k0_chk1 i (ldT c i T))
    (X9 f2 f3 f4 f5 f6 f7 f8 f11 f12 f13 f14 f15 f16 fd fs fo W) (Q : PUnit → sProp 𝕄) :
    iprop((own c tabM T ∗ (ovfM.view.loc (c : Thread nD τ) ↦{fullShare} X9)
      ∗ own c arg2 f2 ∗ own c arg3 f3 ∗ own c arg4 f4 ∗ own c arg5 f5 ∗ own c arg6 f6 ∗ own c arg7 f7 ∗ own c arg8 f8 ∗ own c arg11 f11
      ∗ own c xfM f12 ∗ own c wM f13 ∗ own c xsM f14 ∗ own c accM f15 ∗ own c rowM f16
      ∗ flt c (Ring.sl 4 (i 0).val) ((i 0).val - 4) fd fs ∗ own c (dstM (i 0).val) fo ∗ ovfP c ∗ owes (c : Thread nD τ) 0 W)
      ∗ ((own c tabM T ∗ (ovfM.view.loc (c : Thread nD τ) ↦{fullShare} X9)
        ∗ own c arg2 f2 ∗ own c arg3 f3 ∗ own c arg4 f4 ∗ own c arg5 f5 ∗ own c arg6 f6 ∗ own c arg7 f7 ∗ own c arg8 f8 ∗ own c arg11 f11
        ∗ own c xfM f12 ∗ own c wM f13 ∗ own c xsM f14 ∗ (∃ f, own c accM f) ∗ (∃ f, own c rowM f)
        ∗ (∃ fd fs, ⌜(dstM (i 0).val).view.read (Elt F) fd = stepBlk c arg4 arg6 arg7 f13 f4 f6 f7⌝ ∗ flt c (Ring.sl 4 (i 0).val) (i 0).val fd fs) ∗ own c (dstM ((i 0).val - 4)) fd ∗ ovfP c ∗ (∃ W, owes (c : Thread nD τ) 0 W)) -∗ Q ⟨⟩))
      ⊢ wp frame (wpE (defs₀ (F := F)) 𝒱₀ (c : Thread nD τ) none) Set.univ (bodyG i arg2 harg2 arg3 harg3 arg4 harg4 arg5 harg5 arg6 harg6 arg7 harg7 arg8 harg8 arg11 harg11) Q := by
  have hc1 : ¬ (Scalar.cmpi .ne (Scalar.extui (Scalar.cmpi .eq (BitVec.ofNat 32 (i 0).val) 0#32) : BitVec 32) 0#32 = 1#1) := fun h => by have := (cond1_iff i).1 h; omega
  have hc2 : k0_cond2 i = 1#1 := (cond2_iff i).2 (by omega)
  have hc3 : k0_cond3 i = 1#1 := (cond3_iff i).2 (by omega)
  have hc4 : ¬ (k0_cond4 i = 1#1) := fun h => by have := (cond4_iff i).1 h; omega
  iintro ⟨⟨HT, H9, H2, H3, H4, H5, H6, H7, H8, H11, H12, H13, H14, H15, H16, Hf, Ho, Hc7, HW⟩, Hk⟩
  dsimp only [bodyG]
  rw [cc0_lvq_scores_eq_skeleton]
  sl_exec_parts
  sl_step
  iapply Hk
  isplitl [HT]; · iexact HT
  isplitl [H9]; · iexact H9
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H11]; · iexact H11
  isplitl [H12]; · iexact H12
  isplitl [H13]; · iexact H13
  isplitl [H14]; · iexact H14
  isplitl [H15]; · iexists _; iexact H15
  isplitl [H16]; · iexists _; iexact H16
  isplitl [Hf]
  · iexists _, _
    isplitr [Hf]; swap; · iexact Hf
    ipureintro
    exact (dst_read _ _ _).trans (slot_read (Ring.sl 4 (i 0).val) (off4_eq i) (off5_eq i) _ _ _ _ _ _ _)
  isplitl [Hf_dst]; · iexact Hf_dst
  isplitl [Hc7]; · iexact Hc7
  iexists _; iexact HW
end Body
end Cert.KernelIdeal.Hand
end
-- ==== Proof.KernelIdeal.BodyD.lean ====
module

public import proofs.«01_k».proof.Proof.KernelIdeal.BodyDefs

/-! The last step: it stores the short block, copies it, writes the refined scores and waits for every copy. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body
variable (c : Dev nD) (i : grid0.Coords)
  (arg2 : Memref sig .tc .vmem S2x96x128 .bf16) (harg2 : arg2.IsWhole) (arg3 : Memref sig .tc .vmem S1x96 .f32) (harg3 : arg3.IsWhole)
  (arg4 : Memref sig .tc .vmem S48x4096 .i8) (harg4 : arg4.IsWhole) (arg5 : Memref sig .tc .vmem S96x4096 .i8) (harg5 : arg5.IsWhole)
  (arg6 : Memref sig .tc .vmem S1x4096 .bf16) (harg6 : arg6.IsWhole) (arg7 : Memref sig .tc .vmem S1x4096 .bf16) (harg7 : arg7.IsWhole)
  (arg8 : Memref sig .tc .vmem S176x128 .i32) (harg8 : arg8.IsWhole) (arg11 : Memref sig .tc .vmem S50x2x128 .f32) (harg11 : arg11.IsWhole)

/-- The last step waits for all the copies, its own included. -/
theorem bodyD (hl : (lastPt 0).val = 170) (T : Buf (Elt F) (tabM.view.loc (c : Thread nD τ))) (hchk : k0_chk1 lastPt (ldT c lastPt T))
    (X9 f2 f3 f4 f5 f6 f7 f8 f11 f12 f13 f14 f15 f16 fd fs fd3 fs3 fd0 fs0 fd1 fs1 fo W) (Q : PUnit → sProp 𝕄) :
    iprop((own c tabM T ∗ (ovfM.view.loc (c : Thread nD τ) ↦{fullShare} X9)
      ∗ own c arg2 f2 ∗ own c arg3 f3 ∗ own c arg4 f4 ∗ own c arg5 f5 ∗ own c arg6 f6 ∗ own c arg7 f7 ∗ own c arg8 f8 ∗ own c arg11 f11
      ∗ own c xfM f12 ∗ own c wM f13 ∗ own c xsM f14 ∗ own c accM f15 ∗ own c rowM f16
      ∗ flt c 2 166 fd fs ∗ flt c 3 167 fd3 fs3 ∗ flt c 0 168 fd0 fs0 ∗ flt c 1 169 fd1 fs1 ∗ own c dstT fo ∗ ovfP c ∗ owes (c : Thread nD τ) 0 W)
      ∗ ((own c tabM T ∗ (ovfM.view.loc (c : Thread nD τ) ↦{fullShare} X9)
        ∗ own c arg2 f2 ∗ own c arg3 f3 ∗ own c arg4 f4 ∗ own c arg5 f5 ∗ own c arg6 f6 ∗ own c arg7 f7 ∗ own c arg8 f8 ∗ (∃ f, own c arg11 f)
        ∗ own c xfM f12 ∗ own c wM f13 ∗ own c xsM f14 ∗ (∃ f, own c accM f) ∗ (∃ f, own c rowM f)
        ∗ (own c (dstM 166) fd ∗ own c (dstM 167) fd3 ∗ own c (dstM 168) fd0 ∗ own c (dstM 169) fd1) ∗ (∃ fo, ⌜dstT.view.read (Elt F) fo = fun j => stepBlk c arg4 arg6 arg7 f13 f4 f6 f7 (up j)⌝ ∗ own c dstT fo) ∗ (∃ f, own c (slotM 0) f) ∗ (∃ f, own c (slotM 1) f) ∗ (∃ f, own c (slotM 2) f) ∗ (∃ f, own c (slotM 3) f) ∗ (cellP c 0 ∗ cellP c 1 ∗ cellP c 2 ∗ cellP c 3) ∗ ovfP c ∗ (∃ W, owes (c : Thread nD τ) 0 W)) -∗ Q ⟨⟩))
      ⊢ wp frame (wpE (defs₀ (F := F)) 𝒱₀ (c : Thread nD τ) none) Set.univ (bodyG lastPt arg2 harg2 arg3 harg3 arg4 harg4 arg5 harg5 arg6 harg6 arg7 harg7 arg8 harg8 arg11 harg11) Q := by
  have hc1 : ¬ (Scalar.cmpi .ne (Scalar.extui (Scalar.cmpi .eq (BitVec.ofNat 32 (lastPt 0).val) 0#32) : BitVec 32) 0#32 = 1#1) := fun h => by have := (cond1_iff lastPt).1 h; omega
  have hc2 : k0_cond2 lastPt = 1#1 := (cond2_iff lastPt).2 (by omega)
  have hc3 : ¬ (k0_cond3 lastPt = 1#1) := fun h => by have := (cond3_iff lastPt).1 h; omega
  have hc4 : k0_cond4 lastPt = 1#1 := (cond4_iff lastPt).2 (by omega)
  iintro ⟨⟨HT, H9, H2, H3, H4, H5, H6, H7, H8, H11, H12, H13, H14, H15, H16, Hf, Hf3, Hf0, Hf1, Ho, Hc7, HW⟩, Hk⟩
  dsimp only [bodyG]
  rw [cc0_lvq_scores_eq_skeleton]
  sl_exec_parts
  ihave Hsp := (slot2_split c (bodyD.sl.Hf_src_w2 c arg4 arg6 arg7 f4 f6 f7 f13 fs)) $$ Hf_src
  icases Hsp with ⟨Hst, Hsr⟩
  sl_exec_parts
  sl_step
  iapply Hk
  isplitl [HT]; · iexact HT
  isplitl [H9]; · iexact H9
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H11]; · iexists _; iexact H11
  isplitl [H12]; · iexact H12
  isplitl [H13]; · iexact H13
  isplitl [H14]; · iexact H14
  isplitl [H15]; · iexists _; iexact H15
  isplitl [H16]; · iexists _; iexact H16
  isplitl [Hf_dst Hf3_dst Hf0_dst Hf1_dst]
  · isplitl [Hf_dst]; · iexact Hf_dst
    isplitl [Hf3_dst]; · iexact Hf3_dst
    isplitl [Hf0_dst]; · iexact Hf0_dst
    iexact Hf1_dst
  isplitl [Ho]
  · iexists _
    isplitr [Ho]; swap; · iexact Ho
    ipureintro
    refine (dstT_read _ _).trans (funext fun j => ?_)
    refine (slotT_read _ j).trans ?_
    exact congrFun (slot_read 2 ((off4_eq lastPt).trans (by rw [sl_last lastPt hl])) ((off5_eq lastPt).trans (by rw [sl_last lastPt hl])) _ _ _ _ _ _ _) (up j)
  isplitl [Hf0_src]; · iexists _; iexact Hf0_src
  isplitl [Hf1_src]; · iexists _; iexact Hf1_src
  isplitl [Hst Hsr]
  · iexists (bodyD.sl.Hf_src_w2 c arg4 arg6 arg7 f4 f6 f7 f13 fs)
    iapply (slot2_join c (bodyD.sl.Hf_src_w2 c arg4 arg6 arg7 f4 f6 f7 f13 fs))
    isplitl [Hst]; · iexact Hst
    iexact Hsr
  isplitl [Hf3_src]; · iexists _; iexact Hf3_src
  isplitl [Hf0 Hf1 Hf Hf3]
  · isplitl [Hf0]; · iexact Hf0
    isplitl [Hf1]; · iexact Hf1
    isplitl [Hf]; · iexact Hf
    iexact Hf3
  isplitl [Hc7]; · iexact Hc7
  iexists _; iexact HW
end Body
end Cert.KernelIdeal.Hand
end
-- ==== Proof.KernelIdeal.RingInv.lean ====
module

public import proofs.«01_k».proof.Proof.KernelIdeal.BodyDefs
public import Idealize.ShloMosaic.Lib.Ring.WriteBehind

/-! The result and the ring between two steps: the blocks that have landed, the blocks still to come, and the slots, of
which each is free or has a copy in flight. -/

@[expose] public section

noncomputable section

namespace Cert.KernelIdeal.Hand

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- The result's rows before `n`, and from `n` on. -/
def rowsLt (n : ℕ) : Finset S2x700000x128.Idx := Finset.univ.filter fun y => (y 1).val < n
def rowsGe (n : ℕ) : Finset S2x700000x128.Idx := Finset.univ.filter fun y => n ≤ (y 1).val
theorem mem_rowsLt {n : ℕ} {y : S2x700000x128.Idx} : y ∈ rowsLt n ↔ (y 1).val < n := by simp [rowsLt]
theorem mem_rowsGe {n : ℕ} {y : S2x700000x128.Idx} : y ∈ rowsGe n ↔ n ≤ (y 1).val := by simp [rowsGe]

/-- An index of the result as an index of its block. -/
def blkIx (y : S2x700000x128.Idx) : S2x4096x128.Idx := ix3 (y 0) ⟨(y 1).val % 4096, Nat.mod_lt _ (by decide)⟩ (y 2)

/-- The contents `f` hold, at block `u`, values that `Bk u` admits. -/
def Gd (Bk : ℕ → (S2x4096x128.Idx → Elt F .f32) → Prop) (u : ℕ) (f : S2x700000x128.Idx → Elt F .f32) : Prop :=
  ∃ v, Bk u v ∧ ∀ y : S2x700000x128.Idx, 4096 * u ≤ (y 1).val → (y 1).val < 4096 * u + 4096 → f y = v (blkIx y)

variable {Bk : ℕ → (S2x4096x128.Idx → Elt F .f32) → Prop}

theorem Gd.congr {u : ℕ} {f g : S2x700000x128.Idx → Elt F .f32} (h : Gd Bk u f)
    (e : ∀ y : S2x700000x128.Idx, 4096 * u ≤ (y 1).val → (y 1).val < 4096 * u + 4096 → g y = f y) : Gd Bk u g := by
  obtain ⟨v, hv, hf⟩ := h
  exact ⟨v, hv, fun y h1 h2 => (e y h1 h2).trans (hf y h1 h2)⟩

theorem dstM_at (u : ℕ) (hu : u < 170) (j : S2x4096x128.Idx) (y : S2x700000x128.Idx) (h0 : (j 0).val = (y 0).val)
    (h1 : 4096 * u + (j 1).val = (y 1).val) (h2 : (j 2).val = (y 2).val) : (dstM u).view.emb j = y := by
  funext a; apply Fin.ext; refine (dstM_emb u hu _ a).trans ?_
  fin_cases a
  · exact h0
  · exact h1
  · exact h2
theorem blkIx_row (y : S2x700000x128.Idx) : (blkIx y 1).val = (y 1).val % 4096 := rfl
theorem dstM_blk (u : ℕ) (hu : u < 170) (y : S2x700000x128.Idx) (h1 : 4096 * u ≤ (y 1).val) (h2 : (y 1).val < 4096 * u + 4096) :
    (dstM u).view.emb (blkIx y) = y :=
  dstM_at u hu _ y rfl (by rw [blkIx_row]; omega) rfl

theorem Gd.of_read {u : ℕ} (hu : u < 170) {v : S2x4096x128.Idx → Elt F .f32} (hv : Bk u v) (f : outM.view.ty.Contents (Elt F))
    (h : (dstM u).view.read (Elt F) f = v) : Gd Bk u f :=
  ⟨v, hv, fun y h1 h2 => ((congrArg (f : S2x700000x128.Idx → Elt F .f32) (dstM_blk u hu y h1 h2)).symm).trans (congrFun h (blkIx y))⟩

/-- An index of the last block as an index of the short block. -/
def blkT (y : S2x700000x128.Idx) : S2x3680x128.Idx :=
  ix3 (y 0) ⟨(y 1).val - 696320, by have : (y 1).val < 700000 := (y 1).isLt; omega⟩ (y 2)
theorem dstT_at (j : S2x3680x128.Idx) (y : S2x700000x128.Idx) (h0 : (j 0).val = (y 0).val)
    (h1 : 696320 + (j 1).val = (y 1).val) (h2 : (j 2).val = (y 2).val) : dstT.view.emb j = y := by
  funext a; apply Fin.ext; refine (dstT_emb _ a).trans ?_
  fin_cases a
  · exact h0
  · exact h1
  · exact h2
theorem blkT_row (y : S2x700000x128.Idx) : (blkT y 1).val = (y 1).val - 696320 := rfl
theorem dstT_blk (y : S2x700000x128.Idx) (h1 : 696320 ≤ (y 1).val) : dstT.view.emb (blkT y) = y :=
  dstT_at _ y rfl (by rw [blkT_row]; omega) rfl
theorem up_at (j : S2x3680x128.Idx) (j' : S2x4096x128.Idx) (h0 : (j 0).val = (j' 0).val) (h1 : (j 1).val = (j' 1).val)
    (h2 : (j 2).val = (j' 2).val) : up j = j' := by
  funext a; apply Fin.ext
  fin_cases a
  · exact h0
  · exact h1
  · exact h2
theorem up_blkT (y : S2x700000x128.Idx) (h1 : 696320 ≤ (y 1).val) : up (blkT y) = blkIx y :=
  up_at _ _ rfl (by rw [blkT_row, blkIx_row]; have : (y 1).val < 700000 := (y 1).isLt; omega) rfl

theorem Gd.of_readT {v : S2x4096x128.Idx → Elt F .f32} (hv : Bk 170 v) (f : outM.view.ty.Contents (Elt F))
    (h : dstT.view.read (Elt F) f = fun j => v (up j)) : Gd Bk 170 f :=
  ⟨v, hv, fun y h1 _ => ((congrArg (f : S2x700000x128.Idx → Elt F .f32) (dstT_blk y h1)).symm).trans
    ((congrFun h (blkT y)).trans (congrArg v (up_blkT y h1)))⟩

variable (Bk) (c : Dev nD)

/-- The first `j` blocks have landed. -/
def behind (j : ℕ) : sProp 𝕄 :=
  iprop(∃ f : Buf (Elt F) (outM.view.loc (c : Thread nD τ)), ⌜∀ u, u < j → Gd Bk u f⌝ ∗ (outM.view.loc (c : Thread nD τ) ↦[rowsLt (4096 * j)]{fullShare} f))
/-- The blocks from `j` on are still to be written. -/
def ahead (j : ℕ) : sProp 𝕄 :=
  iprop(∃ f : Buf (Elt F) (outM.view.loc (c : Thread nD τ)), (outM.view.loc (c : Thread nD τ) ↦[rowsGe (4096 * j)]{fullShare} f))

/-- The elements of a block of the result, and of a slot of the ring. -/
def dstS (u : ℕ) : Finset S2x700000x128.Idx := (dstM u).view.set
def dstTS : Finset S2x700000x128.Idx := dstT.view.set
def slotS (g : Fin 4) : Finset S4x2x4096x128.Idx := (slotM g).view.set
theorem mem_dstS (u : ℕ) (hu : u < 170) (y : S2x700000x128.Idx) : y ∈ dstS u ↔ 4096 * u ≤ (y 1).val ∧ (y 1).val < 4096 * u + 4096 := mem_dst u hu y
theorem mem_dstTS (y : S2x700000x128.Idx) : y ∈ dstTS ↔ 696320 ≤ (y 1).val := mem_dstT y
theorem mem_slotS (g : Fin 4) (y : S4x2x4096x128.Idx) : y ∈ slotS g ↔ (y 0).val = g.val := mem_slot g y
theorem own_dst (u : ℕ) (f : Buf (Elt F) (outM.view.loc (c : Thread nD τ))) :
    (own c (dstM u) f : sProp 𝕄) = (outM.view.loc (c : Thread nD τ) ↦[dstS u]{fullShare} f) := rfl
theorem own_dstT (f : Buf (Elt F) (outM.view.loc (c : Thread nD τ))) :
    (own c dstT f : sProp 𝕄) = (outM.view.loc (c : Thread nD τ) ↦[dstTS]{fullShare} f) := rfl
theorem own_slot (g : Fin 4) (f : Buf (Elt F) (ringM.view.loc (c : Thread nD τ))) :
    (own c (slotM g) f : sProp 𝕄) = (ringM.view.loc (c : Thread nD τ) ↦[slotS g]{fullShare} f) := rfl
theorem dst_eq (u : ℕ) (hu : u < 170) : rowsGe (4096 * u) \ rowsGe (4096 * (u + 1)) = dstS u := by
  ext y; rw [mem_dstS u hu, Finset.mem_sdiff, mem_rowsGe, mem_rowsGe]; omega
theorem dst_sub (u : ℕ) (hu : u < 170) : rowsGe (4096 * (u + 1)) ⊆ rowsGe (4096 * u) := by
  intro y; rw [mem_rowsGe, mem_rowsGe]; omega

/-- The next block is taken from those to come. -/
theorem ahead_open (u : ℕ) (hu : u < 170) : (ahead c u : sProp 𝕄) ⊢ iprop((∃ fo, own c (dstM u) fo) ∗ ahead c (u + 1)) := by
  unfold ahead
  iintro ⟨%f, H⟩
  ihave H := (pointsTo_split_subset (ℓ := outM.view.loc (c : Thread nD τ)) (dst_sub u hu)).1 $$ H
  icases H with ⟨H1, H2⟩
  isplitl [H2]
  · iexists f
    rw [own_dst, ← dst_eq u hu]
    iexact H2
  · iexists f; iexact H1
/-- The last one is what is left. -/
theorem ahead_last : (ahead c 170 : sProp 𝕄) ⊢ iprop(∃ fo, own c dstT fo) := by
  unfold ahead
  iintro ⟨%f, H⟩
  iexists f
  rw [own_dstT, show dstTS = rowsGe (4096 * 170) from by ext y; rw [mem_dstTS, mem_rowsGe]]
  iexact H
/-- At first every block is to come, -/
theorem ahead_start (f : Buf (Elt F) (outM.view.loc (c : Thread nD τ))) : ((outM.view.loc (c : Thread nD τ)) ↦{fullShare} f : sProp 𝕄) ⊢ ahead c 0 := by
  unfold ahead
  iintro H; iexists f
  rw [show rowsGe (4096 * 0) = Finset.univ from by ext y; rw [mem_rowsGe]; simp]
  iexact H
/-- and none has landed. -/
theorem behind_zero : (BI.emp : sProp 𝕄) ⊢ behind Bk c 0 := by
  unfold behind
  iintro -
  iexists outM.view.junk
  rw [show rowsLt (4096 * 0) = ∅ from by ext y; rw [mem_rowsLt]; simp]
  isplitr
  · ipureintro; intro u hu; omega
  · rw [show (outM.view.loc (c : Thread nD τ) ↦[(∅ : Finset S2x700000x128.Idx)]{fullShare} outM.view.junk : sProp 𝕄) = BI.emp from pointsTo_empty]
    iempintro

theorem behind_join {j n : ℕ} (I : Finset S2x700000x128.Idx) (hI : ∀ y : S2x700000x128.Idx, y ∈ I ↔ (4096 * j ≤ (y 1).val ∧ (y 1).val < n))
    (hn : n ≤ 4096 * (j + 1)) (hn' : rowsLt n = rowsLt (4096 * (j + 1))) (g : Buf (Elt F) (outM.view.loc (c : Thread nD τ))) (hg : Gd Bk j g) (hjn : 4096 * j ≤ n) :
    iprop(behind Bk c j ∗ (outM.view.loc (c : Thread nD τ) ↦[I]{fullShare} g)) ⊢ (behind Bk c (j + 1) : sProp 𝕄) := by
  unfold behind
  iintro ⟨⟨%f, %hf, H⟩, Hg⟩
  have hd : Disjoint (rowsLt (4096 * j)) I := by
    rw [Finset.disjoint_left]; intro y; rw [mem_rowsLt, hI]; omega
  ihave H := (pointsTo_join (ℓ := outM.view.loc (c : Thread nD τ)) hd) $$ [H Hg]
  · isplitl [H] <;> iassumption
  have e : rowsLt (4096 * j) ∪ I = rowsLt (4096 * (j + 1)) := by
    rw [← hn']; ext y; rw [Finset.mem_union, mem_rowsLt, mem_rowsLt, hI]; omega
  iexists (I.piecewise g f)
  isplitr
  · ipureintro
    intro u hu
    by_cases hj : u = j
    · subst hj
      refine hg.congr fun y h1 h2 => ?_
      have hy : y ∈ I := (hI y).2 ⟨h1, by
        have : y ∈ rowsLt n := by rw [hn', mem_rowsLt]; omega
        exact mem_rowsLt.1 this⟩
      exact Finset.piecewise_eq_of_mem _ _ _ hy
    · refine (hf u (by omega)).congr fun y h1 h2 => ?_
      have hy : y ∉ I := fun h => by have := (hI y).1 h; omega
      exact Finset.piecewise_eq_of_notMem _ _ _ hy
  · rw [← e]; iexact H

/-- A block lands next to those that have landed. -/
theorem behind_land (j : ℕ) (hj : j < 170) (g : Buf (Elt F) (outM.view.loc (c : Thread nD τ))) (hg : Gd Bk j g) :
    iprop(behind Bk c j ∗ own c (dstM j) g) ⊢ (behind Bk c (j + 1) : sProp 𝕄) :=
  behind_join Bk c (dstS j) (fun y => (mem_dstS j hj y).trans (by omega)) (n := 4096 * (j + 1)) le_rfl rfl g hg (by omega)
/-- The last one too. -/
theorem behind_last (g : Buf (Elt F) (outM.view.loc (c : Thread nD τ))) (hg : Gd Bk 170 g) :
    iprop(behind Bk c 170 ∗ own c dstT g) ⊢ (behind Bk c 171 : sProp 𝕄) :=
  behind_join Bk c dstTS (fun y => (mem_dstTS y).trans (by have : (y 1).val < 700000 := (y 1).isLt; omega)) (n := 700000) (by omega)
    (by ext y; rw [mem_rowsLt, mem_rowsLt]; have : (y 1).val < 700000 := (y 1).isLt; omega) g hg (by omega)
/-- At the end the whole result is held, every block at admitted values. -/
theorem behind_end : (behind Bk c 171 : sProp 𝕄)
    ⊢ iprop(∃ f : Buf (Elt F) (outM.view.loc (c : Thread nD τ)), ⌜∀ u, u < 171 → Gd Bk u f⌝ ∗ ((outM.view.loc (c : Thread nD τ)) ↦{fullShare} f)) := by
  unfold behind
  rw [show rowsLt (4096 * 171) = Finset.univ from by ext y; rw [mem_rowsLt]; have : (y 1).val < 700000 := (y 1).isLt; simp; omega]

/-! ## The slots -/

/-- Slot `g` holds a copy of block `u` in flight, of admitted values; or it is free. -/
def infl (g : Fin 4) (u : ℕ) : sProp 𝕄 :=
  iprop(∃ (fd : Buf (Elt F) (outM.view.loc (c : Thread nD τ))) (fs : Buf (Elt F) (ringM.view.loc (c : Thread nD τ))), ⌜Gd Bk u fd⌝ ∗ flt c g u fd fs)
def freeS (g : Fin 4) : sProp 𝕄 :=
  iprop((∃ fs : Buf (Elt F) (ringM.view.loc (c : Thread nD τ)), own c (slotM g) fs) ∗ cellP c g)
/-- The last step before `k` that used slot `g`. -/
def lastU (k : ℕ) (g : Fin 4) : ℕ := k - 1 - (k - 1 - g.val) % 4
/-- Slot `g` before step `k`. -/
def slotAt (k : ℕ) (g : Fin 4) : sProp 𝕄 := if g.val < k then infl Bk c g (lastU k g) else freeS c g

theorem sl_mod (k : ℕ) : (Ring.sl 4 k).val = k % 4 := by simp [Ring.sl, Fin.ofNat]
theorem slotAt_next (k : ℕ) (g : Fin 4) (hg : g ≠ Ring.sl 4 k) : (slotAt Bk c k g : sProp 𝕄) = slotAt Bk c (k + 1) g := by
  have h : g.val ≠ k % 4 := fun e => hg (Fin.ext (e.trans (sl_mod k).symm))
  have h4 := g.isLt
  unfold slotAt
  by_cases hk : g.val < k
  · rw [if_pos hk, if_pos (by omega), show lastU k g = lastU (k + 1) g from by unfold lastU; omega]
  · rw [if_neg hk, if_neg (by omega)]

theorem slots_rest (k : ℕ) : (bigSep (Finset.univ.erase (Ring.sl 4 k)) (slotAt Bk c k) : sProp 𝕄)
    = bigSep (Finset.univ.erase (Ring.sl 4 k)) (slotAt Bk c (k + 1)) :=
  bigSep_congr fun g hg => slotAt_next Bk c k g (Finset.ne_of_mem_erase hg)

/-- Step `k < 4` takes a free slot, -/
theorem slots_boot (k : ℕ) (hk : k < 4) : (bigSep Finset.univ (slotAt Bk c k) : sProp 𝕄)
    = iprop(freeS c (Ring.sl 4 k) ∗ bigSep (Finset.univ.erase (Ring.sl 4 k)) (slotAt Bk c (k + 1))) := by
  rw [Ring.bigSep_take (Finset.mem_univ (Ring.sl 4 k)), slots_rest]
  unfold slotAt
  rw [if_neg (by rw [sl_mod]; omega)]
/-- a later one the slot of four steps before, -/
theorem slots_take (k : ℕ) (hk : 4 ≤ k) : (bigSep Finset.univ (slotAt Bk c k) : sProp 𝕄)
    = iprop(infl Bk c (Ring.sl 4 k) (k - 4) ∗ bigSep (Finset.univ.erase (Ring.sl 4 k)) (slotAt Bk c (k + 1))) := by
  rw [Ring.bigSep_take (Finset.mem_univ (Ring.sl 4 k)), slots_rest]
  have e : lastU k (Ring.sl 4 k) = k - 4 := by unfold lastU; rw [sl_mod]; omega
  have e' : slotAt Bk c k (Ring.sl 4 k) = (infl Bk c (Ring.sl 4 k) (k - 4) : sProp 𝕄) := by
    unfold slotAt
    rw [if_pos (by rw [sl_mod]; omega), e]
  rw [e']
/-- and each leaves its own copy in flight. -/
theorem slots_put (k : ℕ) : (bigSep Finset.univ (slotAt Bk c (k + 1)) : sProp 𝕄)
    = iprop(infl Bk c (Ring.sl 4 k) k ∗ bigSep (Finset.univ.erase (Ring.sl 4 k)) (slotAt Bk c (k + 1))) := by
  rw [Ring.bigSep_take (Finset.mem_univ (Ring.sl 4 k))]
  have e : lastU (k + 1) (Ring.sl 4 k) = k := by unfold lastU; rw [sl_mod]; omega
  have e' : slotAt Bk c (k + 1) (Ring.sl 4 k) = (infl Bk c (Ring.sl 4 k) k : sProp 𝕄) := by
    unfold slotAt
    rw [if_pos (by rw [sl_mod]; omega), e]
  rw [e']
theorem slots_four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ
/-- The last step finds the copies of the four steps before. -/
theorem slots_last : (bigSep Finset.univ (slotAt Bk c 170) : sProp 𝕄)
    = iprop(infl Bk c 0 168 ∗ infl Bk c 1 169 ∗ infl Bk c 2 166 ∗ infl Bk c 3 167) := by
  rw [slots_four]; rfl
theorem slots_start : (bigSep Finset.univ (slotAt Bk c 0) : sProp 𝕄) = bigSep Finset.univ (freeS c) :=
  bigSep_congr fun g _ => by unfold slotAt; rw [if_neg (by omega)]

/-- The ring's buffer is its four slots, -/
theorem slot_disj : ∀ g ∈ (Finset.univ : Finset (Fin 4)), ∀ g' ∈ (Finset.univ : Finset (Fin 4)), g ≠ g' → Disjoint (slotS g) (slotS g') := by
  intro g _ g' _ h
  rw [Finset.disjoint_left]; intro y h1 h2
  exact h (Fin.ext (((mem_slotS g y).1 h1).symm.trans ((mem_slotS g' y).1 h2)))
theorem slot_cover : (Finset.univ : Finset (Fin 4)).biUnion slotS = (Finset.univ : Finset S4x2x4096x128.Idx) := by
  ext y; rw [Finset.mem_biUnion]
  exact ⟨fun _ => Finset.mem_univ _, fun _ => ⟨y 0, Finset.mem_univ _, (mem_slotS (y 0) y).2 rfl⟩⟩

theorem ring_split (f : Buf (Elt F) (ringM.view.loc (c : Thread nD τ))) : ((ringM.view.loc (c : Thread nD τ)) ↦{fullShare} f : sProp 𝕄)
    = bigSep Finset.univ fun g : Fin 4 => own c (slotM g) f :=
  (congrArg (fun I : Finset S4x2x4096x128.Idx => (ringM.view.loc (c : Thread nD τ) ↦[I]{fullShare} f : sProp 𝕄)) slot_cover.symm).trans
    (pointsTo_biUnion (ℓ := ringM.view.loc (c : Thread nD τ)) Finset.univ slotS slot_disj)
/-- and back. -/
theorem ring_join (f0 f1 f2 f3 : Buf (Elt F) (ringM.view.loc (c : Thread nD τ))) :
    iprop(own c (slotM 0) f0 ∗ own c (slotM 1) f1 ∗ own c (slotM 2) f2 ∗ own c (slotM 3) f3) ⊢ iprop(∃ f, ((ringM.view.loc (c : Thread nD τ)) ↦{fullShare} f : sProp 𝕄)) := by
  have h := pointsTo_biUnion_join (ℓ := ringM.view.loc (c : Thread nD τ)) (q := fullShare) (Ix := Unit) (Name := ℕ) (U := UU nD τ) (Lvl := ℕ) Finset.univ slotS
    (![f0, f1, f2, f3]) f0 slot_disj
  rw [slots_four] at h
  refine (show _ ⊢ _ from h).trans ?_
  iintro ⟨%g, -, H⟩
  iexists g
  have e := congrArg (fun I : Finset S4x2x4096x128.Idx => (ringM.view.loc (c : Thread nD τ) ↦[I]{fullShare} g : sProp 𝕄)) slot_cover
  iapply (Entails.of_eq e)
  iexact H
end Cert.KernelIdeal.Hand
end
-- ==== Proof.KernelIdeal.Step.lean ====
module

public import proofs.«01_k».proof.Proof.KernelIdeal.BodyA
public import proofs.«01_k».proof.Proof.KernelIdeal.BodyB
public import proofs.«01_k».proof.Proof.KernelIdeal.BodyC
public import proofs.«01_k».proof.Proof.KernelIdeal.BodyD
public import proofs.«01_k».proof.Proof.KernelIdeal.RingInv

/-! One step of the kernel, whichever it is: from the invariant before it to the invariant after it. The invariant says
what the tables hold (`Wk`) and which values each block of the result already written may hold (`Bk`). -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Step
variable (c : Dev nD) (T : Buf (Elt F) (tabM.view.loc (c : Thread nD τ)))
  (Wk : Buf (Elt F) (wM.view.loc (c : Thread nD τ)) → Prop)
  (Bk : ℕ → (S2x4096x128.Idx → Elt F .f32) → Prop)

/-- The counts and the overflow table, -/
def tabI : sProp 𝕄 := iprop(own c tabM T ∗ ∃ X, (ovfM.view.loc (c : Thread nD τ) ↦{fullShare} X))
/-- the scratch buffers before step `k`, -/
def scrI (k : ℕ) : sProp 𝕄 :=
  iprop((∃ f, own c xfM f) ∗ (∃ f, ⌜0 < k → Wk f⌝ ∗ own c wM f) ∗ (∃ f, own c xsM f) ∗ (∃ f, own c accM f) ∗ (∃ f, own c rowM f) ∗ ovfP c)
/-- the result and the ring before step `k ≤ 170`, -/
def ringI (k : ℕ) : sProp 𝕄 := iprop(behind Bk c (k - 4) ∗ ahead c k ∗ bigSep Finset.univ (slotAt Bk c k))
/-- and after the last step. -/
def ringE : sProp 𝕄 := iprop(behind Bk c 171 ∗ bigSep Finset.univ (freeS c))
/-- The invariant before step `k` (at 171: after the last). -/
def stepI (k : ℕ) : sProp 𝕄 := iprop(tabI c T ∗ scrI c Wk k ∗ if k ≤ 170 then ringI c Bk k else ringE c Bk)

variable (i : grid0.Coords)
  (arg2 : Memref sig .tc .vmem S2x96x128 .bf16) (harg2 : arg2.IsWhole) (arg3 : Memref sig .tc .vmem S1x96 .f32) (harg3 : arg3.IsWhole)
  (arg4 : Memref sig .tc .vmem S48x4096 .i8) (harg4 : arg4.IsWhole) (arg5 : Memref sig .tc .vmem S96x4096 .i8) (harg5 : arg5.IsWhole)
  (arg6 : Memref sig .tc .vmem S1x4096 .bf16) (harg6 : arg6.IsWhole) (arg7 : Memref sig .tc .vmem S1x4096 .bf16) (harg7 : arg7.IsWhole)
  (arg8 : Memref sig .tc .vmem S176x128 .i32) (harg8 : arg8.IsWhole) (arg11 : Memref sig .tc .vmem S50x2x128 .f32) (harg11 : arg11.IsWhole)

/-- The tables the first step makes of the queries and the centroid. -/
abbrev firstW (f2 : Buf (Elt F) (arg2.view.loc (c : Thread nD τ))) (f3 : Buf (Elt F) (arg3.view.loc (c : Thread nD τ))) : Buf (Elt F) (wM.view.loc (c : Thread nD τ)) :=
  wM.view.writes (Elt F) wM.view.junk (tabs.sl.H13_6 c arg2 arg3 f2 f3)

variable (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))
  (f6 : Buf (Elt F) (arg6.view.loc (c : Thread nD τ))) (f7 : Buf (Elt F) (arg7.view.loc (c : Thread nD τ)))
  (f8 : Buf (Elt F) (arg8.view.loc (c : Thread nD τ))) (f11 : Buf (Elt F) (arg11.view.loc (c : Thread nD τ)))

/-- The windows a step reads. -/
def winI : sProp 𝕄 := iprop(own c arg2 f2 ∗ own c arg3 f3 ∗ own c arg4 f4 ∗ own c arg5 f5 ∗ own c arg6 f6 ∗ own c arg7 f7 ∗ own c arg8 f8)

/-- What a step leaves. -/
def postI (k : ℕ) : sProp 𝕄 :=
  iprop(stepI c T Wk Bk k ∗ (∃ W, owes (c : Thread nD τ) 0 W) ∗ winI c arg2 arg3 arg4 arg5 arg6 arg7 arg8 f2 f3 f4 f5 f6 f7 f8 ∗ ∃ f, own c arg11 f)

variable (hT : ∀ i : grid0.Coords, k0_chk1 i (ldT c i T))
  (hB : ∀ f13, Wk f13 → Bk (i 0).val (stepBlk c arg4 arg6 arg7 f13 f4 f6 f7))

include hT hB in
/-- The first step. -/
theorem stepA (h0 : (i 0).val = 0) (hW : Wk (firstW c arg2 arg3 f2 f3)) :
    iprop(stepI c T Wk Bk (i 0).val ∗ (∃ W, owes (c : Thread nD τ) 0 W) ∗ winI c arg2 arg3 arg4 arg5 arg6 arg7 arg8 f2 f3 f4 f5 f6 f7 f8 ∗ own c arg11 f11)
      ⊢ wp frame (wpE (defs₀ (F := F)) 𝒱₀ (c : Thread nD τ) none) Set.univ (bodyG i arg2 harg2 arg3 harg3 arg4 harg4 arg5 harg5 arg6 harg6 arg7 harg7 arg8 harg8 arg11 harg11)
          fun _ => postI c T Wk Bk arg2 arg3 arg4 arg5 arg6 arg7 arg8 arg11 f2 f3 f4 f5 f6 f7 f8 ((i 0).val + 1) := by
  unfold stepI postI winI stepI tabI scrI
  rw [if_pos (by omega), if_pos (by omega)]
  unfold ringI
  rw [slots_boot Bk c (i 0).val (by omega), slots_put Bk c (i 0).val]
  unfold freeS
  iintro ⟨⟨⟨HT, %X9, H9⟩, ⟨⟨%f12, H12⟩, ⟨%f13, %hf13, H13⟩, ⟨%f14, H14⟩, ⟨%f15, H15⟩, ⟨%f16, H16⟩, Hc7⟩, ⟨Hbe, Hah, ⟨⟨%fs, Hs⟩, Hc⟩, Hrest⟩⟩, ⟨%W, HW⟩, ⟨H2, H3, H4, H5, H6, H7, H8⟩, H11⟩
  ihave Hah := (ahead_open c (i 0).val (by omega)) $$ Hah
  icases Hah with ⟨⟨%fo, Ho⟩, Hah⟩
  iapply (bodyA c i arg2 harg2 arg3 harg3 arg4 harg4 arg5 harg5 arg6 harg6 arg7 harg7 arg8 harg8 arg11 harg11 h0 (by omega) T (hT i) X9 f2 f3 f4 f5 f6 f7 f8 f11 f12 f13 f14 f15 f16 fs fo W)
  isplitl [HT H9 H2 H3 H4 H5 H6 H7 H8 H11 H12 H13 H14 H15 H16 Hs Hc Ho Hc7 HW]
  · iframe
  iintro ⟨HT, H9, H2, H3, H4, H5, H6, H7, H8, H11, H12, H13, H14, H15, H16, ⟨%fd, %fs', %hfd, Hf⟩, Hc7, HW⟩
  rw [show (i 0).val + 1 - 4 = (i 0).val - 4 from by omega]
  isplitl [HT H9 H12 H13 H14 H15 H16 Hc7 Hbe Hah Hf Hrest]
  · isplitl [HT H9]
    · isplitl [HT]; · iexact HT
      iexists _; iexact H9
    isplitl [H12 H13 H14 H15 H16 Hc7]
    · isplitl [H12]; · iexact H12
      isplitl [H13]
      · iexists _; isplitr; · ipureintro; exact fun _ => hW
        iexact H13
      iframe
    isplitl [Hbe]; · iexact Hbe
    isplitl [Hah]; · iexact Hah
    isplitl [Hf]
    · unfold infl; iexists _, _; isplitr [Hf]; swap; · iexact Hf
      ipureintro; exact Gd.of_read (by omega) (hB _ hW) fd hfd
    iexact Hrest
  isplitl [HW]; · iexact HW
  isplitl [H2 H3 H4 H5 H6 H7 H8]; · iframe
  iexists _; iexact H11

include hT hB in
/-- A step before the ring wraps. -/
theorem stepB (h0 : 1 ≤ (i 0).val) (hl : (i 0).val < 4) :
    iprop(stepI c T Wk Bk (i 0).val ∗ (∃ W, owes (c : Thread nD τ) 0 W) ∗ winI c arg2 arg3 arg4 arg5 arg6 arg7 arg8 f2 f3 f4 f5 f6 f7 f8 ∗ own c arg11 f11)
      ⊢ wp frame (wpE (defs₀ (F := F)) 𝒱₀ (c : Thread nD τ) none) Set.univ (bodyG i arg2 harg2 arg3 harg3 arg4 harg4 arg5 harg5 arg6 harg6 arg7 harg7 arg8 harg8 arg11 harg11)
          fun _ => postI c T Wk Bk arg2 arg3 arg4 arg5 arg6 arg7 arg8 arg11 f2 f3 f4 f5 f6 f7 f8 ((i 0).val + 1) := by
  unfold stepI postI winI stepI tabI scrI
  rw [if_pos (by omega), if_pos (by omega)]
  unfold ringI
  rw [slots_boot Bk c (i 0).val (by omega), slots_put Bk c (i 0).val]
  unfold freeS
  iintro ⟨⟨⟨HT, %X9, H9⟩, ⟨⟨%f12, H12⟩, ⟨%f13, %hf13, H13⟩, ⟨%f14, H14⟩, ⟨%f15, H15⟩, ⟨%f16, H16⟩, Hc7⟩, ⟨Hbe, Hah, ⟨⟨%fs, Hs⟩, Hc⟩, Hrest⟩⟩, ⟨%W, HW⟩, ⟨H2, H3, H4, H5, H6, H7, H8⟩, H11⟩
  ihave Hah := (ahead_open c (i 0).val (by omega)) $$ Hah
  icases Hah with ⟨⟨%fo, Ho⟩, Hah⟩
  iapply (bodyB c i arg2 harg2 arg3 harg3 arg4 harg4 arg5 harg5 arg6 harg6 arg7 harg7 arg8 harg8 arg11 harg11 h0 hl T (hT i) X9 f2 f3 f4 f5 f6 f7 f8 f11 f12 f13 f14 f15 f16 fs fo W)
  isplitl [HT H9 H2 H3 H4 H5 H6 H7 H8 H11 H12 H13 H14 H15 H16 Hs Hc Ho Hc7 HW]
  · iframe
  iintro ⟨HT, H9, H2, H3, H4, H5, H6, H7, H8, H11, H12, H13, H14, H15, H16, ⟨%fd, %fs', %hfd, Hf⟩, Hc7, HW⟩
  rw [show (i 0).val + 1 - 4 = (i 0).val - 4 from by omega]
  isplitl [HT H9 H12 H13 H14 H15 H16 Hc7 Hbe Hah Hf Hrest]
  · isplitl [HT H9]
    · isplitl [HT]; · iexact HT
      iexists _; iexact H9
    isplitl [H12 H13 H14 H15 H16 Hc7]
    · isplitl [H12]; · iexists _; iexact H12
      isplitl [H13]
      · iexists _; isplitr; · ipureintro; exact fun _ => hf13 (by omega)
        iexact H13
      isplitl [H14]; · iexists _; iexact H14
      iframe
    isplitl [Hbe]; · iexact Hbe
    isplitl [Hah]; · iexact Hah
    isplitl [Hf]
    · unfold infl; iexists _, _; isplitr [Hf]; swap; · iexact Hf
      ipureintro; exact Gd.of_read (by omega) (hB _ (hf13 (by omega))) fd hfd
    iexact Hrest
  isplitl [HW]; · iexact HW
  isplitl [H2 H3 H4 H5 H6 H7 H8]; · iframe
  iexists _; iexact H11

include hT hB in
/-- A step of the main run. -/
theorem stepC (h0 : 4 ≤ (i 0).val) (hl : (i 0).val < 170) :
    iprop(stepI c T Wk Bk (i 0).val ∗ (∃ W, owes (c : Thread nD τ) 0 W) ∗ winI c arg2 arg3 arg4 arg5 arg6 arg7 arg8 f2 f3 f4 f5 f6 f7 f8 ∗ own c arg11 f11)
      ⊢ wp frame (wpE (defs₀ (F := F)) 𝒱₀ (c : Thread nD τ) none) Set.univ (bodyG i arg2 harg2 arg3 harg3 arg4 harg4 arg5 harg5 arg6 harg6 arg7 harg7 arg8 harg8 arg11 harg11)
          fun _ => postI c T Wk Bk arg2 arg3 arg4 arg5 arg6 arg7 arg8 arg11 f2 f3 f4 f5 f6 f7 f8 ((i 0).val + 1) := by
  unfold stepI postI winI stepI tabI scrI
  rw [if_pos (by omega), if_pos (by omega)]
  unfold ringI
  rw [slots_take Bk c (i 0).val h0, slots_put Bk c (i 0).val]
  iintro ⟨⟨⟨HT, %X9, H9⟩, ⟨⟨%f12, H12⟩, ⟨%f13, %hf13, H13⟩, ⟨%f14, H14⟩, ⟨%f15, H15⟩, ⟨%f16, H16⟩, Hc7⟩, ⟨Hbe, Hah, Hin, Hrest⟩⟩, ⟨%W, HW⟩, ⟨H2, H3, H4, H5, H6, H7, H8⟩, H11⟩
  ihave Hah := (ahead_open c (i 0).val (by omega)) $$ Hah
  icases Hah with ⟨⟨%fo, Ho⟩, Hah⟩
  unfold infl
  icases Hin with ⟨%fd0, %fs0, %hfd0, Hf⟩
  iapply (bodyC c i arg2 harg2 arg3 harg3 arg4 harg4 arg5 harg5 arg6 harg6 arg7 harg7 arg8 harg8 arg11 harg11 h0 hl T (hT i) X9 f2 f3 f4 f5 f6 f7 f8 f11 f12 f13 f14 f15 f16 fd0 fs0 fo W)
  isplitl [HT H9 H2 H3 H4 H5 H6 H7 H8 H11 H12 H13 H14 H15 H16 Hf Ho Hc7 HW]
  · iframe
  iintro ⟨HT, H9, H2, H3, H4, H5, H6, H7, H8, H11, H12, H13, H14, H15, H16, ⟨%fd, %fs', %hfd, Hf⟩, Hdn, Hc7, HW⟩
  ihave Hbe := (behind_land Bk c ((i 0).val - 4) (by omega) fd0 hfd0) $$ [Hbe Hdn]
  · iframe
  rw [show (i 0).val + 1 - 4 = (i 0).val - 4 + 1 from by omega]
  isplitl [HT H9 H12 H13 H14 H15 H16 Hc7 Hbe Hah Hf Hrest]
  · isplitl [HT H9]
    · isplitl [HT]; · iexact HT
      iexists _; iexact H9
    isplitl [H12 H13 H14 H15 H16 Hc7]
    · isplitl [H12]; · iexists _; iexact H12
      isplitl [H13]
      · iexists _; isplitr; · ipureintro; exact fun _ => hf13 (by omega)
        iexact H13
      isplitl [H14]; · iexists _; iexact H14
      iframe
    isplitl [Hbe]; · iexact Hbe
    isplitl [Hah]; · iexact Hah
    isplitl [Hf]
    · iexists _, _; isplitr [Hf]; swap; · iexact Hf
      ipureintro; exact Gd.of_read (by omega) (hB _ (hf13 (by omega))) fd hfd
    iexact Hrest
  isplitl [HW]; · iexact HW
  isplitl [H2 H3 H4 H5 H6 H7 H8]; · iframe
  iexists _; iexact H11

include hT hB in
/-- The last step. -/
theorem stepD (h0 : (i 0).val = 170) :
    iprop(stepI c T Wk Bk (i 0).val ∗ (∃ W, owes (c : Thread nD τ) 0 W) ∗ winI c arg2 arg3 arg4 arg5 arg6 arg7 arg8 f2 f3 f4 f5 f6 f7 f8 ∗ own c arg11 f11)
      ⊢ wp frame (wpE (defs₀ (F := F)) 𝒱₀ (c : Thread nD τ) none) Set.univ (bodyG i arg2 harg2 arg3 harg3 arg4 harg4 arg5 harg5 arg6 harg6 arg7 harg7 arg8 harg8 arg11 harg11)
          fun _ => postI c T Wk Bk arg2 arg3 arg4 arg5 arg6 arg7 arg8 arg11 f2 f3 f4 f5 f6 f7 f8 ((i 0).val + 1) := by
  obtain rfl : i = lastPt := by funext a; fin_cases a; exact Fin.ext h0
  rw [h0] at hB ⊢
  unfold stepI postI winI stepI tabI scrI
  rw [if_pos (by omega), if_neg (by omega)]
  unfold ringI ringE
  rw [slots_last Bk c, slots_four]
  unfold infl freeS
  iintro ⟨⟨⟨HT, %X9, H9⟩, ⟨⟨%f12, H12⟩, ⟨%f13, %hf13, H13⟩, ⟨%f14, H14⟩, ⟨%f15, H15⟩, ⟨%f16, H16⟩, Hc7⟩, ⟨Hbe, Hah, ⟨%fd0, %fs0, %hfd0, Hf0⟩, ⟨%fd1, %fs1, %hfd1, Hf1⟩, ⟨%fd2, %fs2, %hfd2, Hf2⟩, ⟨%fd3, %fs3, %hfd3, Hf3⟩⟩⟩, ⟨%W, HW⟩, ⟨H2, H3, H4, H5, H6, H7, H8⟩, H11⟩
  ihave Hah := (ahead_last c) $$ Hah
  icases Hah with ⟨%fo, Ho⟩
  iapply (bodyD c arg2 harg2 arg3 harg3 arg4 harg4 arg5 harg5 arg6 harg6 arg7 harg7 arg8 harg8 arg11 harg11 lastPt_val T (hT lastPt) X9 f2 f3 f4 f5 f6 f7 f8 f11 f12 f13 f14 f15 f16 fd2 fs2 fd3 fs3 fd0 fs0 fd1 fs1 fo W)
  isplitl [HT H9 H2 H3 H4 H5 H6 H7 H8 H11 H12 H13 H14 H15 H16 Hf0 Hf1 Hf2 Hf3 Ho Hc7 HW]
  · iframe
  iintro ⟨HT, H9, H2, H3, H4, H5, H6, H7, H8, H11, H12, H13, H14, H15, H16, ⟨Hd2, Hd3, Hd0, Hd1⟩, ⟨%fo', %hfo, Ho⟩, Hs0, Hs1, Hs2, Hs3, ⟨Hk0, Hk1, Hk2, Hk3⟩, Hc7, HW⟩
  ihave Hbe := (behind_land Bk c 166 (by omega) fd2 hfd2) $$ [Hbe Hd2]
  · iframe
  ihave Hbe := (behind_land Bk c 167 (by omega) fd3 hfd3) $$ [Hbe Hd3]
  · iframe
  ihave Hbe := (behind_land Bk c 168 (by omega) fd0 hfd0) $$ [Hbe Hd0]
  · iframe
  ihave Hbe := (behind_land Bk c 169 (by omega) fd1 hfd1) $$ [Hbe Hd1]
  · iframe
  ihave Hbe := (behind_last Bk c fo' (Gd.of_readT (hB _ (hf13 (by omega))) fo' hfo)) $$ [Hbe Ho]
  · iframe
  isplitl [HT H9 H12 H13 H14 H15 H16 Hc7 Hbe Hs0 Hs1 Hs2 Hs3 Hk0 Hk1 Hk2 Hk3]
  · isplitl [HT H9]
    · isplitl [HT]; · iexact HT
      iexists _; iexact H9
    isplitl [H12 H13 H14 H15 H16 Hc7]
    · isplitl [H12]; · iexists _; iexact H12
      isplitl [H13]
      · iexists _; isplitr; · ipureintro; exact fun _ => hf13 (by omega)
        iexact H13
      isplitl [H14]; · iexists _; iexact H14
      iframe
    isplitl [Hbe]; · iexact Hbe
    isplitl [Hs0 Hk0]
    · icases Hs0 with ⟨%g0, Hs0⟩
      isplitl [Hs0]
      · iexists g0; iexact Hs0
      · iexact Hk0
    isplitl [Hs1 Hk1]
    · icases Hs1 with ⟨%g1, Hs1⟩
      isplitl [Hs1]
      · iexists g1; iexact Hs1
      · iexact Hk1
    isplitl [Hs2 Hk2]
    · icases Hs2 with ⟨%g2, Hs2⟩
      isplitl [Hs2]
      · iexists g2; iexact Hs2
      · iexact Hk2
    icases Hs3 with ⟨%g3, Hs3⟩
    isplitl [Hs3]
    · iexists g3; iexact Hs3
    · iexact Hk3
  isplitl [HW]; · iexact HW
  isplitl [H2 H3 H4 H5 H6 H7 H8]; · iframe
  iexact H11

include hT hB in
/-- Any step. -/
theorem step (hW : (i 0).val = 0 → Wk (firstW c arg2 arg3 f2 f3)) :
    iprop(stepI c T Wk Bk (i 0).val ∗ (∃ W, owes (c : Thread nD τ) 0 W) ∗ winI c arg2 arg3 arg4 arg5 arg6 arg7 arg8 f2 f3 f4 f5 f6 f7 f8 ∗ own c arg11 f11)
      ⊢ wp frame (wpE (defs₀ (F := F)) 𝒱₀ (c : Thread nD τ) none) Set.univ (bodyG i arg2 harg2 arg3 harg3 arg4 harg4 arg5 harg5 arg6 harg6 arg7 harg7 arg8 harg8 arg11 harg11)
          fun _ => postI c T Wk Bk arg2 arg3 arg4 arg5 arg6 arg7 arg8 arg11 f2 f3 f4 f5 f6 f7 f8 ((i 0).val + 1) := by
  have hi : (i 0).val < 171 := (i 0).isLt
  by_cases h0 : (i 0).val = 0
  · exact stepA c T Wk Bk i arg2 harg2 arg3 harg3 arg4 harg4 arg5 harg5 arg6 harg6 arg7 harg7 arg8 harg8 arg11 harg11 f2 f3 f4 f5 f6 f7 f8 f11 hT hB h0 (hW h0)
  by_cases h4 : (i 0).val < 4
  · exact stepB c T Wk Bk i arg2 harg2 arg3 harg3 arg4 harg4 arg5 harg5 arg6 harg6 arg7 harg7 arg8 harg8 arg11 harg11 f2 f3 f4 f5 f6 f7 f8 f11 hT hB (by omega) h4
  by_cases hl : (i 0).val < 170
  · exact stepC c T Wk Bk i arg2 harg2 arg3 harg3 arg4 harg4 arg5 harg5 arg6 harg6 arg7 harg7 arg8 harg8 arg11 harg11 f2 f3 f4 f5 f6 f7 f8 f11 hT hB (by omega) hl
  · exact stepD c T Wk Bk i arg2 harg2 arg3 harg3 arg4 harg4 arg5 harg5 arg6 harg6 arg7 harg7 arg8 harg8 arg11 harg11 f2 f3 f4 f5 f6 f7 f8 f11 hT hB (by omega)

end Step
end Cert.KernelIdeal.Hand
end
-- ==== Proof.KernelIdeal.Data.lean ====
module

public import proofs.«01_k».proof.Proof.KernelIdeal.Step
public import proofs.«01_k».proof.Proof.Gen.KernelIdeal.Launch
public import Idealize.ShloMosaic.Lib.Pipeline.Regions

/-! The kernel's call as proof data: what its windows' arrays hold when it starts, which values each block of the
result may then get, and every step kept within the invariant. -/

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (a : (pcfg0 (F := F)).Adm) (c : Dev nD) (X : (b : Ref sig .tc) → Buf (Elt F) ((c : Thread nD τ).loc b))

/-- What a fetch of window `w` at step `t` leaves in a staging buffer that held `d`. -/
def fetchedAt (w : Fin (cfg0 a).W) (t : Fin (cfg0 a).N) (d : ((cfg0 a).win w).block.Idx → Elt F ((cfg0 a).win w).elt) :
    ((cfg0 a).win w).block.Idx → Elt F ((cfg0 a).win w).elt :=
  ((cfg0 a).win w).fill ((cfg0 a).grid.coords t) d ((((cfg0 a).win w).blk t).view.read (Elt F) (X (Pipeline.arrRef spec0 w)))

/-- The first step. -/
def t0 : Fin (cfg0 a).N := ⟨0, by show 0 < grid0.N; rw [N_0]; omega⟩

/-- The tables the first step may make. -/
def Wk (f13 : Buf (Elt F) (wM.view.loc (c : Thread nD τ))) : Prop :=
  ∃ (arg2 : Memref sig .tc .vmem S2x96x128 .bf16) (_ : arg2.IsWhole) (arg3 : Memref sig .tc .vmem S1x96 .f32) (_ : arg3.IsWhole)
    (f2 : Buf (Elt F) (arg2.view.loc (c : Thread nD τ))) (f3 : Buf (Elt F) (arg3.view.loc (c : Thread nD τ))),
    (∃ d, arg2.view.read (Elt F) f2 = fetchedAt a c X 0 (t0 a) d) ∧ (∃ d, arg3.view.read (Elt F) f3 = fetchedAt a c X 1 (t0 a) d)
      ∧ f13 = firstW c arg2 arg3 f2 f3

/-- The values step `u` may give its block. -/
def Bk (u : ℕ) (v : S2x4096x128.Idx → Elt F .f32) : Prop :=
  ∃ (f13 : Buf (Elt F) (wM.view.loc (c : Thread nD τ))) (t : Fin (cfg0 a).N)
    (arg4 : Memref sig .tc .vmem S48x4096 .i8) (_ : arg4.IsWhole) (arg6 : Memref sig .tc .vmem S1x4096 .bf16) (_ : arg6.IsWhole)
    (arg7 : Memref sig .tc .vmem S1x4096 .bf16) (_ : arg7.IsWhole) (f4 : Buf (Elt F) (arg4.view.loc (c : Thread nD τ)))
    (f6 : Buf (Elt F) (arg6.view.loc (c : Thread nD τ))) (f7 : Buf (Elt F) (arg7.view.loc (c : Thread nD τ))),
    Wk a c X f13 ∧ t.val = u ∧ (∃ d, arg4.view.read (Elt F) f4 = fetchedAt a c X 2 t d) ∧ (∃ d, arg6.view.read (Elt F) f6 = fetchedAt a c X 4 t d)
      ∧ (∃ d, arg7.view.read (Elt F) f7 = fetchedAt a c X 5 t d) ∧ v = stepBlk c arg4 arg6 arg7 f13 f4 f6 f7

/-- The call's proof data. -/
def rd : Pipeline.RDat τ (Elt F) Unit ℕ (UU nD τ) ℕ (cfg0 a) c where
  A w := X (Pipeline.arrRef spec0 w)
  after _ _ _ _ := True
  Φ k := stepI c (X main_v19) (Wk a c X) (Bk a c X) k.val
  q _ := fullShare
  owed _ := 0

theorem rd_A (w : Fin (cfg0 a).W) : (rd a c X).A w = X (Pipeline.arrRef spec0 w) := rfl

theorem coords_val : ∀ t : Fin grid0.N, (grid0.coords t 0).val = t.val := by decide +kernel
theorem fetch0 (t : Fin (cfg0 a).N) (h : t.val = 0) : ((cfg0 a).win 0).fetch t = true := by
  obtain rfl : t = t0 a := Fin.ext h
  rfl
theorem fetch1 (t : Fin (cfg0 a).N) (h : t.val = 0) : ((cfg0 a).win 1).fetch t = true := by
  obtain rfl : t = t0 a := Fin.ext h
  rfl
theorem tr2 : ∀ t : Fin grid0.N, cc0_transform_2 (grid0.coords t) 1 = t.val := by decide +kernel
theorem tr4 : ∀ t : Fin grid0.N, cc0_transform_4 (grid0.coords t) 1 = t.val := by decide +kernel
theorem tr5 : ∀ t : Fin grid0.N, cc0_transform_5 (grid0.coords t) 1 = t.val := by decide +kernel
/-- A window whose block changes with every step is fetched at every step. -/
theorem fetch_of {G : Pipeline.Grid} (w : Pipeline.Window sig G) (ho : w.isOut = false) (t : Fin G.N) (ha : 0 < t.val → w.index t ≠ w.index ⟨t.val - 1, by omega⟩) :
    w.fetch t = true := by
  unfold Pipeline.Window.fetch
  rw [ho]
  rcases Nat.eq_zero_or_pos t.val with h | h
  · simp [h]
  · simp [h, ha h]
theorem fetch2 (t : Fin (cfg0 a).N) : ((cfg0 a).win 2).fetch t = true := fetch_of _ rfl t fun h e => by
  have := (tr2 t).symm.trans ((congrFun e (1 : Fin 2)).trans (tr2 _)); simp at this; omega
theorem fetch4 (t : Fin (cfg0 a).N) : ((cfg0 a).win 4).fetch t = true := fetch_of _ rfl t fun h e => by
  have := (tr4 t).symm.trans ((congrFun e (1 : Fin 2)).trans (tr4 _)); simp at this; omega
theorem fetch5 (t : Fin (cfg0 a).N) : ((cfg0 a).win 5).fetch t = true := fetch_of _ rfl t fun h e => by
  have := (tr5 t).symm.trans ((congrFun e (1 : Fin 2)).trans (tr5 _)); simp at this; omega

/-- A staging buffer at given contents, opened and closed. -/
theorem owns_open {sp : Space} {s : Shape} {e : EltTy} (M : Memref sig .tc sp s e) (Y : s.Idx → Elt F e) :
    (owns (c : Thread nD τ) M fullShare Y : sProp 𝕄) ⊢ iprop(∃ f, ⌜M.view.read (Elt F) f = Y⌝ ∗ own c M f) := .rfl
theorem owns_close {sp : Space} {s : Shape} {e : EltTy} (M : Memref sig .tc sp s e) (f : Buf (Elt F) (M.view.loc (c : Thread nD τ))) :
    (own c M f : sProp 𝕄) ⊢ iprop(∃ Y, ⌜True⌝ ∗ owns (c : Thread nD τ) M fullShare Y) := by
  unfold owns
  iintro H
  iexists M.view.read (Elt F) f
  isplitr; · ipureintro; trivial
  iexists f
  isplitr; · ipureintro; rfl
  iexact H

/-- What a step leaves, as the pipeline wants it. -/
theorem post_close (T : Buf (Elt F) (tabM.view.loc (c : Thread nD τ))) (W : Buf (Elt F) (wM.view.loc (c : Thread nD τ)) → Prop)
    (B : ℕ → (S2x4096x128.Idx → Elt F .f32) → Prop) (arg2 : Memref sig .tc .vmem S2x96x128 .bf16) (arg3 : Memref sig .tc .vmem S1x96 .f32)
    (arg4 : Memref sig .tc .vmem S48x4096 .i8) (arg5 : Memref sig .tc .vmem S96x4096 .i8) (arg6 : Memref sig .tc .vmem S1x4096 .bf16)
    (arg7 : Memref sig .tc .vmem S1x4096 .bf16) (arg8 : Memref sig .tc .vmem S176x128 .i32) (arg11 : Memref sig .tc .vmem S50x2x128 .f32) (f2 f3 f4 f5 f6 f7 f8) (k : ℕ)
    (S : Set (SemLoc sig × Unit)) (hS : ∀ x, x ∈ S) :
    (postI c T W B arg2 arg3 arg4 arg5 arg6 arg7 arg8 arg11 f2 f3 f4 f5 f6 f7 f8 k : sProp 𝕄)
      ⊢ iprop(stepI c T W B k ∗ Pipeline.owesWithin c (0 : CellTallies nD τ sig Unit) S
        ∗ (∃ Y, ⌜True⌝ ∗ owns (c : Thread nD τ) arg2 fullShare Y) ∗ (∃ Y, ⌜True⌝ ∗ owns (c : Thread nD τ) arg3 fullShare Y)
        ∗ (∃ Y, ⌜True⌝ ∗ owns (c : Thread nD τ) arg4 fullShare Y) ∗ (∃ Y, ⌜True⌝ ∗ owns (c : Thread nD τ) arg5 fullShare Y)
        ∗ (∃ Y, ⌜True⌝ ∗ owns (c : Thread nD τ) arg6 fullShare Y) ∗ (∃ Y, ⌜True⌝ ∗ owns (c : Thread nD τ) arg7 fullShare Y)
        ∗ (∃ Y, ⌜True⌝ ∗ owns (c : Thread nD τ) arg8 fullShare Y) ∗ ∃ Y, ⌜True⌝ ∗ owns (c : Thread nD τ) arg11 fullShare Y) := by
  unfold postI winI Pipeline.owesWithin
  iintro ⟨HI, ⟨%W, HO⟩, ⟨H2, H3, H4, H5, H6, H7, H8⟩, ⟨%f11, H11⟩⟩
  isplitl [HI]; · iexact HI
  isplitl [HO]
  · iexists W; isplitr; · ipureintro; exact fun _ _ => hS _
    iexact HO
  isplitl [H2]; · iapply (owns_close c _ f2); iexact H2
  isplitl [H3]; · iapply (owns_close c _ f3); iexact H3
  isplitl [H4]; · iapply (owns_close c _ f4); iexact H4
  isplitl [H5]; · iapply (owns_close c _ f5); iexact H5
  isplitl [H6]; · iapply (owns_close c _ f6); iexact H6
  isplitl [H7]; · iapply (owns_close c _ f7); iexact H7
  isplitl [H8]; · iapply (owns_close c _ f8); iexact H8
  iapply (owns_close c _ f11); iexact H11

theorem body_obligation (hT : ∀ i : grid0.Coords, k0_chk1 i (ldT c i (X main_v19))) :
    (rd a c X).BodyObligation (defs₀ (F := F)) 𝒱₀ () Set.univ := fun t Y hY => by
  rw [bigSep_W0, bigSep_W0]
  unfold defs₀
  rw [Defs.onTc_tc]
  rw [show (rd a c X).Φ t.castSucc = stepI c (X main_v19) (Wk a c X) (Bk a c X) (grid0.coords t 0).val from by rw [coords_val]; rfl,
    show (rd a c X).Φ t.succ = stepI c (X main_v19) (Wk a c X) (Bk a c X) ((grid0.coords t 0).val + 1) from by rw [coords_val]; rfl]
  unfold Pipeline.RDat.owesAt Pipeline.owesWithin
  rw [show (rd a c X).owed t.castSucc = 0 from rfl, show (rd a c X).owed t.succ = 0 from rfl]
  simp only [owns]
  iintro ⟨HI, ⟨%W, -, HO⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f11, %h11, H11⟩⟩
  have h := step c (X main_v19) (Wk a c X) (Bk a c X) (grid0.coords t)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (spec0_5.stage ((cfg0 a).slots t 5)) (hstage0_5 (((cfg0 a).slots t 5).cast nbuf0_5))
    (spec0_6.stage ((cfg0 a).slots t 6)) (hstage0_6 (((cfg0 a).slots t 6).cast nbuf0_6))
    (spec0_7.stage ((cfg0 a).slots t 7)) (hstage0_7 (((cfg0 a).slots t 7).cast nbuf0_7)) f2 f3 f4 f5 f6 f7 f8 f11 hT
    (fun f13 h13 => ⟨f13, t, _, hstage0_2 (((cfg0 a).slots t 2).cast nbuf0_2), _, hstage0_4 (((cfg0 a).slots t 4).cast nbuf0_4), _, hstage0_5 (((cfg0 a).slots t 5).cast nbuf0_5), f4, f6, f7, h13, (coords_val t).symm,
      (((rd a c X).finds_of_fetch (fetch2 a t) _).1 (hY 2)).imp fun d e => h4.trans e,
      (((rd a c X).finds_of_fetch (fetch4 a t) _).1 (hY 4)).imp fun d e => h6.trans e,
      (((rd a c X).finds_of_fetch (fetch5 a t) _).1 (hY 5)).imp fun d e => h7.trans e, rfl⟩)
    (fun h0 => by
      obtain rfl : t = t0 a := Fin.ext ((coords_val t).symm.trans h0)
      exact ⟨_, hstage0_0 (((cfg0 a).slots (t0 a) 0).cast nbuf0_0), _, hstage0_1 (((cfg0 a).slots (t0 a) 1).cast nbuf0_1), f2, f3,
        (((rd a c X).finds_of_fetch (fetch0 a _ rfl) _).1 (hY 0)).imp fun d e => h2.trans e,
        (((rd a c X).finds_of_fetch (fetch1 a _ rfl) _).1 (hY 1)).imp fun d e => h3.trans e, rfl⟩)
  ihave Hw := (h.trans (Idealize.SL.Sem.wp_mono _ _ _ fun _ => post_close c _ _ _ _ _ _ _ _ _ _ _ _ _ _ _ _ _ _ _ ((rd a c X).bound () t.succ) fun _ => Or.inl trivial)) $$ [HI HO H2 H3 H4 H5 H6 H7 H8 H11]
  · isplitl [HI]; · iexact HI
    isplitl [HO]; · iexists W; iexact HO
    isplitl [H2 H3 H4 H5 H6 H7 H8]
    · unfold winI
      isplitl [H2]; · iexact H2
      isplitl [H3]; · iexact H3
      isplitl [H4]; · iexact H4
      isplitl [H5]; · iexact H5
      isplitl [H6]; · iexact H6
      isplitl [H7]; · iexact H7
      iexact H8
    iexact H11
  iexact Hw

end Cert.KernelIdeal.Hand
end
-- ==== Proof.KernelIdeal.Kept.lean ====
module

public import proofs.«01_k».proof.Proof.Gen.KernelIdeal.Launch

/-! Which buffer each host operation before the kernel's call writes: never an argument, and after the counts never the
counts. -/

@[expose] public section

noncomputable section

namespace Cert.KernelIdeal.Hand

open Cert.KernelIdeal Cert.KernelIdeal.Gen
open Idealize.ShloMosaic
open Idealize.ShloMosaic.TcCoe

variable {F : FTy → Type} [FloatOps F]

/-- The arguments. -/
def kept : List (Ref sig .tc) := [main_arg0, main_arg1, main_arg2, main_arg3, main_arg4, main_arg5, main_arg6]

/-- A list of operations that write the buffers `l`, in order, leaves every other buffer as it was. -/
theorem after_other {ops : List (HloOp τ sig (Elt F))} {l : List (Ref sig .tc)} (hw : ops.map HloOp.writes = l.map fun r => {Proc.devRef .tc r})
    (X : Valuation τ sig (Elt F)) {b : Ref sig .tc} (hb : b ∉ l) : StableHlo.after ops X (Proc.devRef .tc b) = X (Proc.devRef .tc b) := by
  refine StableHlo.after_of_forall_not_mem (b := Proc.devRef .tc b) ops X fun op hop hmem => ?_
  have h1 : op.writes ∈ l.map fun r => ({Proc.devRef .tc r} : Finset (DevRef τ sig)) := hw ▸ List.mem_map_of_mem hop
  obtain ⟨r, hr, e⟩ := List.mem_map.mp h1
  rw [← e, Finset.mem_singleton] at hmem
  exact hb (Proc.devRef_injective _ hmem ▸ hr)

/-- The buffers list 0 writes. -/
def outs0 : List (Ref sig .tc) :=
  [main_v0, main_v1]
theorem writes0 : (hostOps0 : List (HloOp τ sig (Elt F))).map HloOp.writes = outs0.map fun r => {Proc.devRef .tc r} := rfl
theorem kept_0 : ∀ b ∈ kept, b ∉ outs0 := by decide +kernel

/-- The buffers list 1 writes. -/
def outs1 : List (Ref sig .tc) :=
  [main_call0_v0, main_call0_v1_0, main_v2]
theorem writes1 : (hostOps0_1 : List (HloOp τ sig (Elt F))).map HloOp.writes = outs1.map fun r => {Proc.devRef .tc r} := rfl
theorem kept_1 : ∀ b ∈ kept, b ∉ outs1 := by decide +kernel

/-- The buffers list 2 writes. -/
def outs2 : List (Ref sig .tc) :=
  [main_c, main_v3, main_v4, main_c_0, main_v5, main_v6, main_v7, main_v8, main_v9, main_c_1]
theorem writes2 : (hostOps0_2 : List (HloOp τ sig (Elt F))).map HloOp.writes = outs2.map fun r => {Proc.devRef .tc r} := rfl
theorem kept_2 : ∀ b ∈ kept, b ∉ outs2 := by decide +kernel

/-- The buffers list 3 writes. -/
def outs3 : List (Ref sig .tc) :=
  [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v10]
theorem writes3 : (hostOps0_3 : List (HloOp τ sig (Elt F))).map HloOp.writes = outs3.map fun r => {Proc.devRef .tc r} := rfl
theorem kept_3 : ∀ b ∈ kept, b ∉ outs3 := by decide +kernel

/-- The buffers list 4 writes. -/
def outs4 : List (Ref sig .tc) :=
  [main_c_2, main_v11, main_c_3, main_v12, main_v13, main_c_4, main_v14, main_v15, main_v16, main_v17, main_c_5, main_v18, main_v19]
theorem writes4 : (hostOps0_4 : List (HloOp τ sig (Elt F))).map HloOp.writes = outs4.map fun r => {Proc.devRef .tc r} := rfl
theorem kept_4 : ∀ b ∈ kept, b ∉ outs4 := by decide +kernel

/-- The buffers list 5 writes. -/
def outs5 : List (Ref sig .tc) :=
  [main_call2_call0_c, main_call2_call0_v0, main_v20]
theorem writes5 : (hostOps0_5 : List (HloOp τ sig (Elt F))).map HloOp.writes = outs5.map fun r => {Proc.devRef .tc r} := rfl
theorem kept_5 : ∀ b ∈ kept, b ∉ outs5 := by decide +kernel
theorem counts_5 : main_v19 ∉ outs5 := by decide +kernel

/-- The buffers list 6 writes. -/
def outs6 : List (Ref sig .tc) :=
  [main_v21, main_v22, main_c_6, main_v23, main_v24, main_c_7, main_v25, main_v26, main_v27, main_v28, main_v29, main_v30, main_c_8, main_v31, main_v32, main_c_9]
theorem writes6 : (hostOps0_6 : List (HloOp τ sig (Elt F))).map HloOp.writes = outs6.map fun r => {Proc.devRef .tc r} := rfl
theorem kept_6 : ∀ b ∈ kept, b ∉ outs6 := by decide +kernel
theorem counts_6 : main_v19 ∉ outs6 := by decide +kernel

/-- The buffers list 7 writes. -/
def outs7 : List (Ref sig .tc) :=
  [main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v33]
theorem writes7 : (hostOps0_7 : List (HloOp τ sig (Elt F))).map HloOp.writes = outs7.map fun r => {Proc.devRef .tc r} := rfl
theorem kept_7 : ∀ b ∈ kept, b ∉ outs7 := by decide +kernel
theorem counts_7 : main_v19 ∉ outs7 := by decide +kernel

/-- The buffers list 8 writes. -/
def outs8 : List (Ref sig .tc) :=
  [main_v34, main_c_10, main_v35, main_c_11, main_v36, main_v37, main_c_12]
theorem writes8 : (hostOps0_8 : List (HloOp τ sig (Elt F))).map HloOp.writes = outs8.map fun r => {Proc.devRef .tc r} := rfl
theorem kept_8 : ∀ b ∈ kept, b ∉ outs8 := by decide +kernel
theorem counts_8 : main_v19 ∉ outs8 := by decide +kernel

/-- The buffers list 9 writes. -/
def outs9 : List (Ref sig .tc) :=
  [main_call4_v0, main_call4_v1, main_v38]
theorem writes9 : (hostOps0_9 : List (HloOp τ sig (Elt F))).map HloOp.writes = outs9.map fun r => {Proc.devRef .tc r} := rfl
theorem kept_9 : ∀ b ∈ kept, b ∉ outs9 := by decide +kernel
theorem counts_9 : main_v19 ∉ outs9 := by decide +kernel

/-- The buffers list 10 writes. -/
def outs10 : List (Ref sig .tc) :=
  [main_c_13, main_v39, main_v40, main_c_14, main_v41, main_v42, main_v43, main_c_15, main_v44, main_v45, main_c_16, main_v46, main_v47, main_v48, main_v49, main_v50, main_v51, main_v52, main_c_17, main_v53, main_c_18, main_v54, main_v55, main_c_19, main_v56, main_v57, main_c_20, main_v58, main_v59, main_c_21]
theorem writes10 : (hostOps0_10 : List (HloOp τ sig (Elt F))).map HloOp.writes = outs10.map fun r => {Proc.devRef .tc r} := rfl
theorem kept_10 : ∀ b ∈ kept, b ∉ outs10 := by decide +kernel
theorem counts_10 : main_v19 ∉ outs10 := by decide +kernel

/-- The buffers list 11 writes. -/
def outs11 : List (Ref sig .tc) :=
  [main_call5_v0, main_call5_v1, main_v60]
theorem writes11 : (hostOps0_11 : List (HloOp τ sig (Elt F))).map HloOp.writes = outs11.map fun r => {Proc.devRef .tc r} := rfl
theorem kept_11 : ∀ b ∈ kept, b ∉ outs11 := by decide +kernel
theorem counts_11 : main_v19 ∉ outs11 := by decide +kernel

/-- The buffers list 12 writes. -/
def outs12 : List (Ref sig .tc) :=
  [main_c_22, main_v61, main_v62, main_c_23, main_v63, main_v64, main_c_24, main_v65, main_v66, main_v67, main_c_25, main_v68, main_v69, main_c_26, main_v70, main_v71, main_v72, main_c_27, main_v73, main_v74, main_c_28, main_v75, main_v76, main_v77, main_v78, main_v79, main_v80, main_v81, main_v82, main_v83, main_v84, main_v85, main_v86, main_v87, main_v88]
theorem writes12 : (hostOps0_12 : List (HloOp τ sig (Elt F))).map HloOp.writes = outs12.map fun r => {Proc.devRef .tc r} := rfl
theorem kept_12 : ∀ b ∈ kept, b ∉ outs12 := by decide +kernel
theorem counts_12 : main_v19 ∉ outs12 := by decide +kernel

end Cert.KernelIdeal.Hand
end
-- ==== Proof.KernelIdeal.Host.lean ====
module

public import proofs.«01_k».proof.Proof.KernelIdeal.Kept
public import proofs.«01_k».proof.Proof.KernelIdeal.BodyDefs
public import Idealize.ShloMosaic.Lib.Routing.OpsOrder
public import Idealize.ShloMosaic.Lib.WordArith.Masks
public import Idealize.ShloMosaic.Lib.Pipeline.Regions
public import Idealize.ShloMosaic.Lib.Claim

/-! The host operations before the kernel's call: the buffers they hand on, the arguments untouched, and the range of
the counts they prefetch. -/

@[expose] public section

noncomputable section

namespace Cert.KernelIdeal.Hand

open Cert.KernelIdeal Cert.KernelIdeal.Gen
open Idealize.ShloMosaic
open Idealize.ShloMosaic.TcCoe
open Idealize.SL Idealize.SL.Sem

variable {F : FTy → Type} [FloatOps F]

/-! ## The overflow loops' bounds, from the range of a count -/

/-- The number of full groups of 128 below a count of at most 12800, less one: -1 to 99. -/
theorem groups (v : BitVec 32) (h : v.toNat ≤ 12800) :
    ∃ n : Fin 101, Scalar.shrsi (Scalar.subi v 1#32) 7#32 = BitVec.ofNat 32 n.val - 1#32 := by
  show ∃ n : Fin 101, (v - 1#32).sshiftRight' 7#32 = BitVec.ofNat 32 n.val - 1#32
  rcases Nat.eq_zero_or_pos v.toNat with h0 | h0
  · obtain rfl : v = 0#32 := BitVec.eq_of_toNat_eq h0
    exact ⟨0, by decide⟩
  · have hs : (v - 1#32).toNat = v.toNat - 1 := by
      rw [BitVec.toNat_sub]; show (2 ^ 32 - 1 + v.toNat) % 2 ^ 32 = _; omega
    refine ⟨⟨(v.toNat - 1) / 128 + 1, by omega⟩, BitVec.eq_of_toNat_eq ?_⟩
    rw [show (v - 1#32).sshiftRight' 7#32 = (v - 1#32).sshiftRight 7 from rfl,
      BitVec.sshiftRight_eq_of_msb_false (by rw [BitVec.msb_eq_false_iff_two_mul_lt, hs]; omega), BitVec.toNat_ushiftRight, hs,
      Nat.shiftRight_eq_div_pow, BitVec.toNat_sub]
    show _ = (2 ^ 32 - 1 + ((v.toNat - 1) / 128 + 1) % 2 ^ 32) % 2 ^ 32
    omega

/-- The first overflow loop, from its number of groups; -/
def L1 (w : BitVec 32) : Scf.Loop 32 := ⟨0#32, Scalar.addi 0#32 (Scalar.muli (Scalar.divsi (Scalar.subi w 0#32) 1#32) 1#32), 1#32⟩
/-- the second. -/
def L2 (w : BitVec 32) : Scf.Loop 32 :=
  ⟨Scalar.addi 0#32 (Scalar.muli (Scalar.divsi (Scalar.subi w 0#32) 1#32) 1#32), Scalar.addi 0#32 (Scalar.subi w 0#32), 1#32⟩

theorem L1_range : ∀ n : Fin 101, (L1 (BitVec.ofNat 32 n.val - 1#32)).OK ∧ (L1 (BitVec.ofNat 32 n.val - 1#32)).trips ≤ 99 := by decide +kernel
theorem L2_range : ∀ n : Fin 101, (L2 (BitVec.ofNat 32 n.val - 1#32)).OK ∧ (L2 (BitVec.ofNat 32 n.val - 1#32)).trips = 0 := by decide +kernel

/-- A count of at most 12800 meets the body's side condition. -/
theorem chk_of_le (i : grid0.Coords) (v : BitVec 32) (h : v.toNat ≤ 12800) : k0_chk1 i v := by
  obtain ⟨n, hn⟩ := groups v h
  have e1 : k0_t1_loop v = L1 (BitVec.ofNat 32 n.val - 1#32) := by rw [← hn]; rfl
  have e2 : k0_t2_loop v = L2 (BitVec.ofNat 32 n.val - 1#32) := by rw [← hn]; rfl
  have hi : (i 0).val < 171 := (i 0).isLt
  unfold k0_chk1
  refine ⟨by rw [e1]; exact (L1_range n).1, fun t a => ?_, by rw [e2]; exact (L2_range n).1, fun t => ?_⟩
  · have ht : t.val < 99 := lt_of_lt_of_le t.isLt (by rw [e1]; exact (L1_range n).2)
    have hi' : (BitVec.ofNat 32 (i 0).val).toNat = (i 0).val := by rw [BitVec.toNat_ofNat]; omega
    fin_cases a
    · show (BitVec.ofNat 32 (i 0).val).toNat + 1 ≤ 171; omega
    · show (Scf.iv 0#32 1#32 t.val).toNat + 1 ≤ 100
      rw [WordArith.toNat_iv_zero_one _ (by omega)]; omega
    · show 0 + 128 ≤ 128; omega
  · exact absurd (lt_of_lt_of_eq t.isLt (by rw [e2]; exact (L2_range n).2)) (Nat.not_lt_zero _)

/-! ## The counts -/

/-- Adding ones to zeros by any scatter counts at most the updates. -/
theorem scatter_ones_le {s si u : Shape} {w : Nat} (d : ScatterDims s si u) (idx : IVec si w) (hu : u.numel < 2 ^ 32) (j : s.Idx) :
    (Host.scatter d IntOp.addi (fun _ => 0#32) idx (fun _ => 1#32) j).toNat ≤ u.numel := by
  rw [← Routing.scatterIn_finRange, Routing.scatterIn_at]
  have key : ∀ (L : List (Fin u.numel)) (a : BitVec 32), a.toNat + L.length < 2 ^ 32 →
      (L.foldl (fun a n => if d.resultIdx? (u.rowMajor.symm n) idx = some j then IntOp.addi a 1#32 else a) a).toNat ≤ a.toNat + L.length := by
    intro L
    induction L with
    | nil => intro a _; exact le_refl _
    | cons n l ih =>
      intro a ha
      rw [List.length_cons] at ha ⊢
      rw [List.foldl_cons]
      split
      · have h1 : (IntOp.addi a 1#32).toNat = a.toNat + 1 := by
          show (a + 1#32).toNat = _
          rw [BitVec.toNat_add]; show (a.toNat + 1) % 2 ^ 32 = _; omega
        have := ih (IntOp.addi a 1#32) (by omega)
        omega
      · have := ih a (by omega)
        omega
  have := key (List.finRange u.numel) 0#32 (by rw [List.length_finRange]; show 0 + _ < _; omega)
  rw [List.length_finRange] at this
  exact this.trans (by show 0 + _ ≤ _; omega)

/-- The counts, after the operations that make them: each is at most 12800. -/
theorem counts_le4 (X : Valuation τ sig (Elt F)) (j : S171.Idx) :
    ((StableHlo.after hostOps0_4 X (Proc.devRef .tc main_v19) : S171.Idx → BitVec 32) j).toNat ≤ 12800 := by
  have e : (StableHlo.after hostOps0_4 X (Proc.devRef .tc main_v19) : S171.Idx → BitVec 32)
      = Host.scatter scatter_S171_S12800x1_S12800_n_0_0_1 IntOp.addi (fun _ => 0#32)
          (StableHlo.after hostOps0_4 X (Proc.devRef .tc main_v17) : S12800x1.Idx → BitVec 32) (fun _ => 1#32) := by
    unfold_abbrev_sides
    after_results
    rfl
  rw [e]
  exact (scatter_ones_le _ _ (by decide) j).trans (by decide)

/-! ## The buffers at each line -/

variable (m : (ℓ : Loc nD τ sig) → Buf (Elt F) ℓ) (ρ : Dev nD → PrngReg)

/-- Core `c`'s buffers at launch, -/
def V0 (c : Dev nD) : Valuation τ sig (Elt F) := fun b => (⟨m, fun _ => 0, ρ⟩ : MemSt nD τ sig (Elt F)).mem ((c : Dev nD), b)
/-- after list 0, -/
def V1 (c : Dev nD) : Valuation τ sig (Elt F) := StableHlo.after hostOps0 (V0 m ρ c)
/-- after list 1, -/
def V2 (c : Dev nD) : Valuation τ sig (Elt F) := StableHlo.after hostOps0_1 (V1 m ρ c)
/-- after list 2, -/
def V3 (c : Dev nD) : Valuation τ sig (Elt F) := StableHlo.after hostOps0_2 (V2 m ρ c)
/-- after list 3, -/
def V4 (c : Dev nD) : Valuation τ sig (Elt F) := StableHlo.after hostOps0_3 (V3 m ρ c)
/-- after list 4, -/
def V5 (c : Dev nD) : Valuation τ sig (Elt F) := StableHlo.after hostOps0_4 (V4 m ρ c)
/-- after list 5, -/
def V6 (c : Dev nD) : Valuation τ sig (Elt F) := StableHlo.after hostOps0_5 (V5 m ρ c)
/-- after list 6, -/
def V7 (c : Dev nD) : Valuation τ sig (Elt F) := StableHlo.after hostOps0_6 (V6 m ρ c)
/-- after list 7, -/
def V8 (c : Dev nD) : Valuation τ sig (Elt F) := StableHlo.after hostOps0_7 (V7 m ρ c)
/-- after list 8, -/
def V9 (c : Dev nD) : Valuation τ sig (Elt F) := StableHlo.after hostOps0_8 (V8 m ρ c)
/-- after list 9, -/
def V10 (c : Dev nD) : Valuation τ sig (Elt F) := StableHlo.after hostOps0_9 (V9 m ρ c)
/-- after list 10, -/
def V11 (c : Dev nD) : Valuation τ sig (Elt F) := StableHlo.after hostOps0_10 (V10 m ρ c)
/-- after list 11, -/
def V12 (c : Dev nD) : Valuation τ sig (Elt F) := StableHlo.after hostOps0_11 (V11 m ρ c)
/-- after list 12: when the kernel is called. -/
def V13 (c : Dev nD) : Valuation τ sig (Elt F) := StableHlo.after hostOps0_12 (V12 m ρ c)

/-- The arguments reach the kernel as launched. -/
theorem V13_kept (c : Dev nD) {b : Ref sig .tc} (hb : b ∈ kept) : V13 m ρ c (Proc.devRef .tc b) = m ((c : Thread nD τ).loc b) :=
  (after_other writes12 (V12 m ρ c) (kept_12 b hb)).trans <|
  (after_other writes11 (V11 m ρ c) (kept_11 b hb)).trans <|
  (after_other writes10 (V10 m ρ c) (kept_10 b hb)).trans <|
  (after_other writes9 (V9 m ρ c) (kept_9 b hb)).trans <|
  (after_other writes8 (V8 m ρ c) (kept_8 b hb)).trans <|
  (after_other writes7 (V7 m ρ c) (kept_7 b hb)).trans <|
  (after_other writes6 (V6 m ρ c) (kept_6 b hb)).trans <|
  (after_other writes5 (V5 m ρ c) (kept_5 b hb)).trans <|
  (after_other writes4 (V4 m ρ c) (kept_4 b hb)).trans <|
  (after_other writes3 (V3 m ρ c) (kept_3 b hb)).trans <|
  (after_other writes2 (V2 m ρ c) (kept_2 b hb)).trans <|
  (after_other writes1 (V1 m ρ c) (kept_1 b hb)).trans <|
  (after_other writes0 (V0 m ρ c) (kept_0 b hb))

/-- The counts the kernel prefetches. -/
theorem V13_counts (c : Dev nD) (j : S171.Idx) : ((V13 m ρ c (Proc.devRef .tc main_v19) : S171.Idx → BitVec 32) j).toNat ≤ 12800 := by
  have e : V13 m ρ c (Proc.devRef .tc main_v19) = V5 m ρ c (Proc.devRef .tc main_v19) :=
    (after_other writes12 (V12 m ρ c) counts_12).trans <|
    (after_other writes11 (V11 m ρ c) counts_11).trans <|
    (after_other writes10 (V10 m ρ c) counts_10).trans <|
    (after_other writes9 (V9 m ρ c) counts_9).trans <|
    (after_other writes8 (V8 m ρ c) counts_8).trans <|
    (after_other writes7 (V7 m ρ c) counts_7).trans <|
    (after_other writes6 (V6 m ρ c) counts_6).trans <|
    (after_other writes5 (V5 m ρ c) counts_5)
  rw [e]
  exact counts_le4 (V4 m ρ c) j

end Cert.KernelIdeal.Hand
end
-- ==== Proof.KernelIdeal.Run.lean ====
module

public import proofs.«01_k».proof.Proof.KernelIdeal.Data
public import proofs.«01_k».proof.Proof.KernelIdeal.Host

/-! The program's run: the host operations, the kernel's call, and what memory holds at the end. -/

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs)

variable {F : FTy → Type} [FloatOps F]
local notation "𝕄" => MT nD τ sig Unit (Elt F) ℕ (UU nD τ) ℕ

/-- The pipeline library's algebra is the left component. -/
abbrev EP : Emb (UR sig nD τ) (MT nD τ sig Unit (Elt F) ℕ (UU nD τ) ℕ) := embL

variable (X : (c : Dev nD) → Valuation τ sig (Elt F))

/-- What core `c`'s buffers hold when the call starts, at a valuation `X` of them. -/
abbrev Vb (c : Dev nD) (b : Ref sig .tc) : Buf (Elt F) ((c : Thread nD τ).loc b) := X c (Proc.devRef .tc b)

/-- The table of counts as the call finds it. -/
def adm : (p : Fin 1) → (pcfgs (F := F) p).Adm := fun _ => ⟨fun k => Vb X 0 (pre0.ref k), trivial⟩

/-- The call's proof data. -/
def rdats (_ : Fin 1) (c : Dev nD) : Pipeline.RDat τ (Elt F) Unit ℕ (UU nD τ) ℕ (cfg0 (adm X 0)) c := rd (adm X 0) c (Vb X c)

/-- The buffers the call uses that are no window's array: the counts, the overflow table, the result; the arguments. -/
def restL : List (Ref sig .tc) := [main_v19, main_v82, main_v89_0, main_arg0, main_arg1, main_arg2, main_arg3, main_arg4, main_arg5, main_arg6]

theorem restL_sub : restL.toFinset ⊆ (Finset.univ.filter fun b : Ref sig .tc => ¬ b.isScoped) \ Finset.univ.image (Pipeline.arrRef spec0) := by
  intro b hb
  rw [List.mem_toFinset] at hb
  rw [Finset.mem_sdiff, Finset.mem_filter, Finset.mem_image]
  have h1 : ∀ b ∈ restL, b.isScoped = false := by decide
  have h2 : ∀ b ∈ restL, ∀ w, Pipeline.arrRef spec0 w ≠ b := by decide
  exact ⟨⟨Finset.mem_univ _, by rw [h1 b hb]; exact Bool.false_ne_true⟩, fun ⟨w, _, e⟩ => h2 b hb w e⟩

/-- A whole buffer at its contents. -/
abbrev ptb (c : Dev nD) (V : (b : Ref sig .tc) → Buf (Elt F) ((c : Thread nD τ).loc b)) (b : Ref sig .tc) : sProp 𝕄 := ((c : Thread nD τ).loc b) ↦{fullShare} V b

omit [FloatOps F] in
theorem restL_eq (c : Dev nD) (V : (b : Ref sig .tc) → Buf (Elt F) ((c : Thread nD τ).loc b)) :
    (bigSep restL.toFinset (fun b => ptb c V b) : sProp 𝕄) = iprop(ptb c V main_v19 ∗ ptb c V main_v82 ∗ ptb c V main_v89_0 ∗ ptb c V main_arg0 ∗ ptb c V main_arg1
      ∗ ptb c V main_arg2 ∗ ptb c V main_arg3 ∗ ptb c V main_arg4 ∗ ptb c V main_arg5 ∗ ptb c V main_arg6) :=
  bigSep_eq_bigSepL restL (by decide) _
omit [FloatOps F] in
/-- They are taken out of the buffers that are no window's array. -/
theorem rest_split (c : Dev nD) (V : (b : Ref sig .tc) → Buf (Elt F) ((c : Thread nD τ).loc b)) :
    (Pipeline.unscopedRest spec0 c V : sProp 𝕄) ⊢ iprop(ptb c V main_v19 ∗ ptb c V main_v82 ∗ ptb c V main_v89_0 ∗ ptb c V main_arg0 ∗ ptb c V main_arg1
      ∗ ptb c V main_arg2 ∗ ptb c V main_arg3 ∗ ptb c V main_arg4 ∗ ptb c V main_arg5 ∗ ptb c V main_arg6) :=
  (show _ ⊢ _ from bigSep_subset restL_sub).trans (Entails.of_eq (restL_eq c V))

/-- The kernel's own semaphores. -/
abbrev osem : Fin 5 → SemLoc sig := fun | 0 => .dma (cell 0).sem | 1 => .dma (cell 1).sem | 2 => .dma (cell 2).sem | 3 => .dma (cell 3).sem | 4 => .dma cc0_scratch7.sem
theorem ownSemFacts : Pipeline.OwnSemFacts spec0 osem := by decide
omit [FloatOps F] in
theorem ownSems0_eq (c : Dev nD) :
    (Pipeline.ownSems0 (Ix := Unit) (Name := ℕ) (U := UU nD τ) (Lvl := ℕ) (Val := Elt F) (τ := τ) osem c : sProp 𝕄)
      = iprop(cellP c 0 ∗ cellP c 1 ∗ cellP c 2 ∗ cellP c 3 ∗ ovfP c) :=
  Pipeline.ownSems0_eq_of_list c osem [0, 1, 2, 3, 4] (by decide) (by decide)

/-- The launch element. -/
def u₀ : UU nD τ := (initOf (Pipeline.cells (Pipeline.pin (pcfgs (F := F)) (adm X)) (cellOf_inj (adm X))) (Pipeline.launchToks (Pipeline.pin (pcfgs (F := F)) (adm X)) (cellOf_inj (adm X))), 1)

abbrev L : GSem nD τ sig → Finset Unit := fun _ => ∅
abbrev lv : GSem nD τ sig → Unit → ℕ := fun _ _ => 0
/-- What rides beside the buffers through the host operations. -/
abbrev R (c : Dev nD) : sProp 𝕄 := iprop(∃ W, owes (c : Thread nD τ) (0 : CellTallies nD τ sig Unit) W)

omit [FloatOps F] in
theorem unscopedBufs_held (c : Dev nD) (W : Valuation τ sig (Elt F)) :
    (unscopedBufs c (fun b => W b) : sProp 𝕄) = StableHlo.held (c : Thread nD τ) (ucRefs τ sig) W := by
  unfold unscopedBufs StableHlo.held ucRefs StableHlo.tcRefs
  rw [Finset.filter_map, bigSep_map]
  rfl
omit [FloatOps F] in
theorem sub_ucRefs (op : HloOp τ sig (Elt F)) (h : op.bufs ⊆ StableHlo.tcRefs τ sig) : op.bufs ⊆ ucRefs τ sig := fun b hb =>
  Finset.mem_filter.mpr ⟨h hb, fun h' => Bool.false_ne_true ((op.no_scoped b hb).symm.trans h')⟩

/-- A run of host operations over the unscoped buffers. -/
def hseg (ops : List (HloOp τ sig (Elt F))) (hs : ops.Forall fun op => op.bufs ⊆ StableHlo.tcRefs τ sig) (hf : ∀ op ∈ ops, op.fresh = ∅)
    (V : (c : Dev nD) → Valuation τ sig (Elt F)) : Pipeline.HostSeg (Name := ℕ) (U := UU nD τ) (pcfgs (F := F)) defs₀ 𝒱₀ L lv :=
  Pipeline.HostSeg.ofOps _ _ _ _ _ (ucRefs τ sig) ops (fun op h => sub_ucRefs op ((List.forall_iff_forall_mem.mp hs) op h)) hf V R

/-- What the call leaves for the end: the result, every block at admitted values, and the arguments. -/
abbrev Tₙ (c : Dev nD) : sProp 𝕄 :=
  iprop((∃ f : Buf (Elt F) ((c : Thread nD τ).loc main_v89_0), ⌜∀ u, u < 171 → Gd (Bk (adm X 0) c (Vb X c)) u f⌝ ∗ (((c : Thread nD τ).loc main_v89_0) ↦{fullShare} f))
    ∗ ptb c (Vb X c) main_arg0 ∗ ptb c (Vb X c) main_arg1 ∗ ptb c (Vb X c) main_arg2 ∗ ptb c (Vb X c) main_arg3 ∗ ptb c (Vb X c) main_arg4
    ∗ ptb c (Vb X c) main_arg5 ∗ ptb c (Vb X c) main_arg6)

theorem prefHeld_one (c : Dev nD) (v : pre0.Contents (Elt F)) :
    (Pipeline.prefHeld pre0 c (fun _ => fullShare) v : sProp 𝕄) = (((c : Thread nD τ).loc main_v19) ↦{fullShare} (show Buf (Elt F) ((c : Thread nD τ).loc main_v19) from v 0)) := by
  unfold Pipeline.prefHeld
  rw [show (Finset.univ : Finset (Fin 1)) = {0} from by decide, bigSep_singleton]
  rfl

theorem own_whole (c : Dev nD) (b : Ref sig .tc) (f : Buf (Elt F) ((c : Thread nD τ).loc b)) :
    (own c (Memref.whole b) f : sProp 𝕄) = (((c : Thread nD τ).loc b) ↦{fullShare} f) := by
  unfold own; simp only [Memref.view_whole, View.set_whole]

/-- Before the first step: the invariant, from the buffers and semaphores the call starts with. -/
theorem inv_start (c : Dev nD) (T : Buf (Elt F) (tabM.view.loc (c : Thread nD τ))) (W : Buf (Elt F) (wM.view.loc (c : Thread nD τ)) → Prop)
    (B : ℕ → (S2x4096x128.Idx → Elt F .f32) → Prop) (X9 : Buf (Elt F) ((c : Thread nD τ).loc main_v82)) (X10 : Buf (Elt F) ((c : Thread nD τ).loc main_v89_0)) :
    iprop((((c : Thread nD τ).loc main_v82) ↦{fullShare} X9) ∗ (((c : Thread nD τ).loc main_v89_0) ↦{fullShare} X10)
      ∗ (cellP c 0 ∗ cellP c 1 ∗ cellP c 2 ∗ cellP c 3 ∗ ovfP c) ∗ (((c : Thread nD τ).loc main_v19) ↦{fullShare} T)
      ∗ Pipeline.scopedRest (Ix := Unit) (Name := ℕ) (U := UU nD τ) (Lvl := ℕ) (Val := Elt F) spec0 c) ⊢ (stepI c T W B 0 : sProp 𝕄) := by
  rw [scopedRest0_eq]
  unfold stepI tabI scrI
  rw [if_pos (by omega)]
  unfold ringI
  rw [slots_start, slots_four]
  unfold freeS
  iintro ⟨H9, H10, ⟨Hc0, Hc1, Hc2, Hc3, Hc7⟩, HT, ⟨%f0, H0⟩, ⟨%f1, H1⟩, ⟨%f2, H2⟩, ⟨%f3, H3⟩, ⟨%f4, H4⟩, ⟨%f5, H5⟩⟩
  ihave Hah := (ahead_start c X10) $$ H10
  ihave H5 := (Entails.of_eq ((ring_split c f5).trans (slots_four _))) $$ H5
  icases H5 with ⟨Hs0, Hs1, Hs2, Hs3⟩
  isplitl [HT H9]
  · isplitl [HT]; · iapply (Entails.of_eq (own_whole c _ T).symm); iexact HT
    iexists X9; iexact H9
  isplitl [H0 H1 H2 H3 H4 Hc7]
  · isplitl [H0]; · iexists f0; iapply (Entails.of_eq (own_whole c _ f0).symm); iexact H0
    isplitl [H1]
    · iexists f1; isplitr; · ipureintro; intro h; exact absurd h (by omega)
      iapply (Entails.of_eq (own_whole c _ f1).symm); iexact H1
    isplitl [H2]; · iexists f2; iapply (Entails.of_eq (own_whole c _ f2).symm); iexact H2
    isplitl [H3]; · iexists f3; iapply (Entails.of_eq (own_whole c _ f3).symm); iexact H3
    isplitl [H4]; · iexists f4; iapply (Entails.of_eq (own_whole c _ f4).symm); iexact H4
    iexact Hc7
  isplitr; · iapply (behind_zero B c); iempintro
  isplitl [Hah]; · iexact Hah
  isplitl [Hs0 Hc0]
  · isplitl [Hs0]; · iexists f5; iexact Hs0
    iexact Hc0
  isplitl [Hs1 Hc1]
  · isplitl [Hs1]; · iexists f5; iexact Hs1
    iexact Hc1
  isplitl [Hs2 Hc2]
  · isplitl [Hs2]; · iexists f5; iexact Hs2
    iexact Hc2
  isplitl [Hs3]; · iexists f5; iexact Hs3
  iexact Hc3

/-- After the last step: the result whole, every block at admitted values, and what the call started with. -/
theorem inv_end (c : Dev nD) (T : Buf (Elt F) (tabM.view.loc (c : Thread nD τ))) (W : Buf (Elt F) (wM.view.loc (c : Thread nD τ)) → Prop)
    (B : ℕ → (S2x4096x128.Idx → Elt F .f32) → Prop) :
    (stepI c T W B 171 : sProp 𝕄) ⊢ iprop((∃ f : Buf (Elt F) ((c : Thread nD τ).loc main_v89_0), ⌜∀ u, u < 171 → Gd B u f⌝ ∗ (((c : Thread nD τ).loc main_v89_0) ↦{fullShare} f))
      ∗ (cellP c 0 ∗ cellP c 1 ∗ cellP c 2 ∗ cellP c 3 ∗ ovfP c)
      ∗ Pipeline.scopedRest (Ix := Unit) (Name := ℕ) (U := UU nD τ) (Lvl := ℕ) (Val := Elt F) spec0 c) := by
  rw [scopedRest0_eq]
  unfold stepI tabI scrI
  rw [if_neg (by omega)]
  unfold ringE
  rw [slots_four]
  unfold freeS
  iintro ⟨⟨HT, %X9, H9⟩, ⟨⟨%f0, H0⟩, ⟨%f1, -, H1⟩, ⟨%f2, H2⟩, ⟨%f3, H3⟩, ⟨%f4, H4⟩, Hc7⟩, Hb, ⟨⟨%g0, Hs0⟩, Hc0⟩, ⟨⟨%g1, Hs1⟩, Hc1⟩, ⟨⟨%g2, Hs2⟩, Hc2⟩, ⟨%g3, Hs3⟩, Hc3⟩
  ihave Hb := (behind_end B c) $$ Hb
  ihave Hr := (ring_join c g0 g1 g2 g3) $$ [Hs0 Hs1 Hs2 Hs3]
  · isplitl [Hs0]; · iexact Hs0
    isplitl [Hs1]; · iexact Hs1
    isplitl [Hs2]; · iexact Hs2
    iexact Hs3
  isplitl [Hb]; · iexact Hb
  isplitl [Hc0 Hc1 Hc2 Hc3 Hc7]
  · isplitl [Hc0]; · iexact Hc0
    isplitl [Hc1]; · iexact Hc1
    isplitl [Hc2]; · iexact Hc2
    isplitl [Hc3]; · iexact Hc3
    iexact Hc7
  isplitl [H0]; · iexists f0; iapply (Entails.of_eq (own_whole c _ f0)); iexact H0
  isplitl [H1]; · iexists f1; iapply (Entails.of_eq (own_whole c _ f1)); iexact H1
  isplitl [H2]; · iexists f2; iapply (Entails.of_eq (own_whole c _ f2)); iexact H2
  isplitl [H3]; · iexists f3; iapply (Entails.of_eq (own_whole c _ f3)); iexact H3
  isplitl [H4]; · iexists f4; iapply (Entails.of_eq (own_whole c _ f4)); iexact H4
  iexact Hr

set_option backward.isDefEq.respectTransparency.types false in
set_option maxRecDepth 4000 in
/-- The kernel's call. -/
def reg0 (hT : ∀ (c : Dev nD) (i : grid0.Coords), k0_chk1 i (ldT c i (Vb X c main_v19))) : Pipeline.RDat.RegionSeg (pcfgs (F := F)) (adm X) (rdats X) () defs₀ 𝒱₀ L lv 0 where
  win := (launch0 (F := F)).win.to₀
  block_pos := (launch0 (F := F)).block_pos
  stage_whole := (launch0 (F := F)).stage_whole
  K := Fin 5
  osem := osem
  ho := ownSemFacts
  hbody c := body_obligation (adm X 0) c (Vb X c) (hT c)
  hwaits := Pipeline.RDat.hwaits_of_owed_zero _ _ _ _ L lv 0 fun _ _ => rfl
  pre c := iprop(StableHlo.held (c : Thread nD τ) (ucRefs τ sig) (X c) ∗ R c)
  post c := iprop(Tₙ X c ∗ R c)
  X c := iprop(ptb c (Vb X c) main_v82 ∗ ptb c (Vb X c) main_v89_0 ∗ (cellP c 0 ∗ cellP c 1 ∗ cellP c 2 ∗ cellP c 3 ∗ ovfP c))
  Y c := iprop(∃ f : Buf (Elt F) ((c : Thread nD τ).loc main_v89_0), ⌜∀ u, u < 171 → Gd (Bk (adm X 0) c (Vb X c)) u f⌝ ∗ (((c : Thread nD τ).loc main_v89_0) ↦{fullShare} f))
  Z c := iprop(ptb c (Vb X c) main_arg0 ∗ ptb c (Vb X c) main_arg1 ∗ ptb c (Vb X c) main_arg2 ∗ ptb c (Vb X c) main_arg3 ∗ ptb c (Vb X c) main_arg4
    ∗ ptb c (Vb X c) main_arg5 ∗ ptb c (Vb X c) main_arg6)
  hentry c := by
    obtain rfl : c = 0 := Subsingleton.elim _ _
    rw [show StableHlo.held (((0 : Dev nD) : Thread nD τ)) (ucRefs τ sig) (X 0) = unscopedBufs 0 (Vb X 0) from (unscopedBufs_held (F := F) 0 (X 0)).symm,
      ownSems0_eq]
    have hsplit := (Pipeline.RDat.arrays_of_unscopedBufs (pcfgs (F := F)) (adm X) (rdats X) (launch0 (F := F)).win (launch0 (F := F)).arr_whole 0
      ((rdats X 0 0).share_full fun _ => rfl) (Vb X 0) (fun w => rd_A (F := F) (adm X 0) 0 (Vb X 0) w)).trans (sep_mono .rfl (rest_split 0 (Vb X 0)))
    iintro ⟨⟨Hub, HO⟩, Hos, -⟩
    ihave H := hsplit $$ Hub
    icases H with ⟨Ha, HT, H9, H10, HZ⟩
    imodintro
    isplitl [Ha]; · iexact Ha
    isplitl [HT]
    · iapply (Entails.of_eq (prefHeld_one 0 (adm X 0).1).symm)
      iexact HT
    isplitl [HO]
    · unfold Pipeline.RDat.owesAt Pipeline.owesWithin
      icases HO with ⟨%W, HO⟩; iexists W; isplitr; · ipureintro; exact fun _ _ => Or.inl trivial
      iexact HO
    isplitl [H9 H10 Hos]
    · isplitl [H9]; · iexact H9
      isplitl [H10]; · iexact H10
      iexact Hos
    iexact HZ
  hin c := by
    obtain rfl : c = 0 := Subsingleton.elim _ _
    rw [show (rdats X 0 0).Φ 0 = stepI 0 (Vb X 0 main_v19) (Wk (adm X 0) 0 (Vb X 0)) (Bk (adm X 0) 0 (Vb X 0)) 0 from rfl]
    iintro ⟨⟨H9, H10, Hos⟩, HT, Hr⟩
    ihave HT := (Entails.of_eq (prefHeld_one 0 (adm X 0).1)) $$ HT
    iapply (inv_start 0 (Vb X 0 main_v19) (Wk (adm X 0) 0 (Vb X 0)) (Bk (adm X 0) 0 (Vb X 0)) _ _)
    isplitl [H9]; · iexact H9
    isplitl [H10]; · iexact H10
    isplitl [Hos]; · iexact Hos
    isplitl [HT]; · iexact HT
    iexact Hr
  hout c := by
    rw [ownSems0_eq, show (rdats X 0 c).Φ (Fin.last _) = stepI c (Vb X c main_v19) (Wk (adm X 0) c (Vb X c)) (Bk (adm X 0) c (Vb X c)) grid0.N from rfl, N_0]
    exact inv_end c (Vb X c main_v19) (Wk (adm X 0) c (Vb X c)) (Bk (adm X 0) c (Vb X c))
  hexit c := by
    iintro ⟨-, HO, HY, HZ⟩
    imodintro
    isplitr [HO]
    · isplitl [HY]; · iexact HY
      iexact HZ
    · unfold Pipeline.RDat.owesAt Pipeline.owesWithin
      icases HO with ⟨%W, -, HO⟩; iexists W; iexact HO

variable (m : (ℓ : Loc nD τ sig) → Buf (Elt F) ℓ) (ρ : Dev nD → PrngReg)

/-- Every step's load of the counts is one the kernel's slots hold. -/
theorem ldT_le (c : Dev nD) (i : grid0.Coords) : k0_chk1 i (ldT c i (Vb (V13 m ρ) c main_v19)) :=
  chk_of_le i _ (V13_counts m ρ c _)

/-- The program as the list of its host operations and the call. -/
abbrev segs : List (Pipeline.RDat.Seg (pcfgs (F := F)) (adm (V13 m ρ)) (rdats (V13 m ρ)) () defs₀ 𝒱₀ L lv) :=
  [.host (hseg hostOps0 hostOps0_sub (by intro _ h; (repeat (cases h with | head => rfl | tail _ h => ?_)); exact nomatch h) (V0 m ρ)),
    .host (hseg hostOps0_1 hostOps0_1_sub (by intro _ h; (repeat (cases h with | head => rfl | tail _ h => ?_)); exact nomatch h) (V1 m ρ)),
    .host (hseg hostOps0_2 hostOps0_2_sub (by intro _ h; (repeat (cases h with | head => rfl | tail _ h => ?_)); exact nomatch h) (V2 m ρ)),
    .host (hseg hostOps0_3 hostOps0_3_sub (by intro _ h; (repeat (cases h with | head => rfl | tail _ h => ?_)); exact nomatch h) (V3 m ρ)),
    .host (hseg hostOps0_4 hostOps0_4_sub (by intro _ h; (repeat (cases h with | head => rfl | tail _ h => ?_)); exact nomatch h) (V4 m ρ)),
    .host (hseg hostOps0_5 hostOps0_5_sub (by intro _ h; (repeat (cases h with | head => rfl | tail _ h => ?_)); exact nomatch h) (V5 m ρ)),
    .host (hseg hostOps0_6 hostOps0_6_sub (by intro _ h; (repeat (cases h with | head => rfl | tail _ h => ?_)); exact nomatch h) (V6 m ρ)),
    .host (hseg hostOps0_7 hostOps0_7_sub (by intro _ h; (repeat (cases h with | head => rfl | tail _ h => ?_)); exact nomatch h) (V7 m ρ)),
    .host (hseg hostOps0_8 hostOps0_8_sub (by intro _ h; (repeat (cases h with | head => rfl | tail _ h => ?_)); exact nomatch h) (V8 m ρ)),
    .host (hseg hostOps0_9 hostOps0_9_sub (by intro _ h; (repeat (cases h with | head => rfl | tail _ h => ?_)); exact nomatch h) (V9 m ρ)),
    .host (hseg hostOps0_10 hostOps0_10_sub (by intro _ h; (repeat (cases h with | head => rfl | tail _ h => ?_)); exact nomatch h) (V10 m ρ)),
    .host (hseg hostOps0_11 hostOps0_11_sub (by intro _ h; (repeat (cases h with | head => rfl | tail _ h => ?_)); exact nomatch h) (V11 m ρ)),
    .host (hseg hostOps0_12 hostOps0_12_sub (by intro _ h; (repeat (cases h with | head => rfl | tail _ h => ?_)); exact nomatch h) (V12 m ρ)),
    .region (reg0 (V13 m ρ) (ldT_le m ρ))]

/-- A segment of host operations runs them. -/
theorem hseg_prog (a : (p : Fin 1) → (pcfgs (F := F) p).Adm) (rds : (p : Fin 1) → (c : Dev nD) → Pipeline.RDat τ (Elt F) Unit ℕ (UU nD τ) ℕ ((Pipeline.pin (pcfgs (F := F)) a p)) c)
    (ops : List (HloOp τ sig (Elt F))) (hs) (hf) (V) :
    Pipeline.RDat.Seg.prog (.host (hseg ops hs hf V) : Pipeline.RDat.Seg (pcfgs (F := F)) a rds () defs₀ 𝒱₀ L lv) = StableHlo.seq ops := rfl
/-- The call's segment enters the pipeline. -/
theorem region_prog (a : (p : Fin 1) → (pcfgs (F := F) p).Adm) (rds : (p : Fin 1) → (c : Dev nD) → Pipeline.RDat τ (Elt F) Unit ℕ (UU nD τ) ℕ ((Pipeline.pin (pcfgs (F := F)) a p)) c)
    (r : Pipeline.RDat.RegionSeg (pcfgs (F := F)) a rds () defs₀ 𝒱₀ L lv 0) :
    Pipeline.RDat.Seg.prog (.region r : Pipeline.RDat.Seg (pcfgs (F := F)) a rds () defs₀ 𝒱₀ L lv) = Prog.lift (.customCall (Pipeline.entry 0) ()) := rfl

/-- What memory holds of core `c`'s buffers at the end: the result at admitted values, the arguments as they were. -/
def QY (c : Dev nD) (s : MemSt nD τ sig (Elt F)) : Prop :=
  (∀ u, u < 171 → Gd (Bk (adm (V13 m ρ) 0) c (Vb (V13 m ρ) c)) u (s.mem ((c : Thread nD τ).loc main_v89_0)))
    ∧ s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_arg4) = m ((c : Thread nD τ).loc main_arg4) ∧ s.mem ((c : Thread nD τ).loc main_arg5) = m ((c : Thread nD τ).loc main_arg5)
    ∧ s.mem ((c : Thread nD τ).loc main_arg6) = m ((c : Thread nD τ).loc main_arg6)

/-- A buffer held beside the state is what memory holds. -/
theorem read_pt (s' : Phys nD τ sig (Elt F)) (ℓ : Loc nD τ sig) (f : Buf (Elt F) ℓ) :
    iprop((SI s' : sProp 𝕄) ∗ (ℓ ↦{fullShare} f)) ⊢ iprop(⌜s'.mem.mem ℓ = f⌝ ∗ SI s') := by
  iintro ⟨HSI, H⟩
  icombine HSI H gives %h
  isplitr; · ipureintro; exact Buf.eq_of_forall_mem_univ h
  iexact HSI

theorem fin_read (c : Dev nD) (s' : Phys nD τ sig (Elt F)) : iprop(Tₙ (V13 m ρ) c ∗ SI s') ⊢ |={Set.univ}=> iprop(⌜QY m ρ c s'.mem⌝ ∗ SI s') := by
  iintro ⟨⟨⟨%f, %hf, Hf⟩, H0, H1, H2, H3, H4, H5, H6⟩, HSI⟩
  ihave Hr := (read_pt s' _ _) $$ [HSI Hf]; · isplitl [HSI] <;> iassumption
  icases Hr with ⟨%ef, HSI⟩
  ihave Hr := (read_pt s' _ _) $$ [HSI H0]; · isplitl [HSI] <;> iassumption
  icases Hr with ⟨%e0, HSI⟩
  ihave Hr := (read_pt s' _ _) $$ [HSI H1]; · isplitl [HSI] <;> iassumption
  icases Hr with ⟨%e1, HSI⟩
  ihave Hr := (read_pt s' _ _) $$ [HSI H2]; · isplitl [HSI] <;> iassumption
  icases Hr with ⟨%e2, HSI⟩
  ihave Hr := (read_pt s' _ _) $$ [HSI H3]; · isplitl [HSI] <;> iassumption
  icases Hr with ⟨%e3, HSI⟩
  ihave Hr := (read_pt s' _ _) $$ [HSI H4]; · isplitl [HSI] <;> iassumption
  icases Hr with ⟨%e4, HSI⟩
  ihave Hr := (read_pt s' _ _) $$ [HSI H5]; · isplitl [HSI] <;> iassumption
  icases Hr with ⟨%e5, HSI⟩
  ihave Hr := (read_pt s' _ _) $$ [HSI H6]; · isplitl [HSI] <;> iassumption
  icases Hr with ⟨%e6, HSI⟩
  imodintro
  isplitr
  · ipureintro
    refine ⟨fun u hu => ef ▸ hf u hu, e0.trans (V13_kept m ρ c (by decide)), e1.trans (V13_kept m ρ c (by decide)), e2.trans (V13_kept m ρ c (by decide)), e3.trans (V13_kept m ρ c (by decide)), e4.trans (V13_kept m ρ c (by decide)), e5.trans (V13_kept m ρ c (by decide)), e6.trans (V13_kept m ρ c (by decide))⟩
  iexact HSI

set_option backward.isDefEq.respectTransparency.types false in
set_option maxRecDepth 4000 in
/-- The program ends without fault, its arguments as they were, every semaphore at zero, every block of the result at
    values its step admits. -/
theorem run_main : θ_run defs (onTc (τ := τ) (main (F := F))) ⟨m, fun _ => 0, ρ⟩ (fun r => (∀ c, QY m ρ c r.2) ∧ r.2.sem = fun _ => 0) :=
  Pipeline.RDat.θ_run_regions_kit_sems (pcfgs (F := F)) (adm (V13 m ρ)) (rdats (V13 m ρ)) () (cellOf_inj (adm (V13 m ρ))) EP defs₀ 𝒱₀ L lv m ρ main (segs m ρ)
    (fun c Q => by rw [main_chain, Pipeline.RDat.Seg.run_eq_chain]; simp only [segs, List.map_cons, List.map_nil, hseg_prog, region_prog]; exact .rfl)
    (by simp only [Pipeline.RDat.Seg.pipes_host, Pipeline.RDat.Seg.pipes_region, Pipeline.RDat.Seg.pipes_nil]; decide) (O₀ := 0) (hL := fun _ _ => rfl) (G := fun _ => iprop(emp)) (u₀ := u₀ (V13 m ρ))
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V0 m ρ c) ∗ R c)) (Tₙ := Tₙ (V13 m ρ))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (ucRefs τ sig) (V0 m ρ c) from unscopedBufs_held c (V0 m ρ c)]
      iintro ⟨⟨Hh, -, HO, -, -, -⟩, -⟩
      imodintro
      isplitl [Hh]; · iexact Hh
      iexists ∅; iexact HO)
    (QY := QY m ρ)
    (hfin := fin_read m ρ)
    (hQ := fun _ h hz => ⟨h, funext fun g => hz g (.inr (by revert g; decide))⟩)

end Cert.KernelIdeal.Hand
end
-- ==== Proof.Value.Num.lean ====
module

public import Idealize.ShloMosaic.Lib.Pointwise
public import Idealize.ShloMosaic.Lib.BitcastFour
public import Idealize.ShloMosaic.Lib.BitcastPair

/-! The arithmetic under the scores: four-bit codes as numbers, the search for a float of few bits, and the order of the
    96 dimensions in the kernel's rows and in the reference's. -/

@[expose] public section

noncomputable section

namespace Cert.Value

open Idealize.ShloMosaic

/-! ## Codes -/

/-- The four bits of a byte from bit `4 e`. -/
def nib (x : BitVec 8) (e : ℕ) : ℕ := (x.extractLsb' (4 * e) 4).toNat

/-- The exponent of 128, above four bits of its fraction: the float 128 plus those bits. -/
theorem ofBits_code (n : BitVec 4) : Ideal.ofBits .bf16 (0x4300#16 ||| n.setWidth 16) = ((128 + (n.toNat : ℝ) : ℝ) : EReal) := by
  have h1 : ∀ n : BitVec 4, ((0x4300#16 ||| n.setWidth 16).extractLsb' 15 1 == 1#1) = false := by decide
  have h2 : ∀ n : BitVec 4, ((0x4300#16 ||| n.setWidth 16).extractLsb' 7 8).toNat = 134 := by decide
  have h3 : ∀ n : BitVec 4, ((0x4300#16 ||| n.setWidth 16).extractLsb' 0 7).toNat = n.toNat := by decide
  have e1 := h1 n; have e2 := h2 n; have e3 := h3 n
  simp only [Ideal.ofBits, Ideal.ieee]
  norm_num [e1, e2, e3]

theorem ofBits_128 : Ideal.ofBits .bf16 0x4300#16 = ((128 : ℝ) : EReal) := by
  have := ofBits_code 0#4
  simpa using this

/-- A half word that is 128's pattern or'ed with four bits, less 128, is the number those bits make. -/
theorem code_sub (n : BitVec 4) (v : BitVec 16) (hv : v = 0x4300#16 ||| n.setWidth 16) :
    Ideal.ofBits .bf16 v - Ideal.ofBits .bf16 0x4300#16 = ((n.toNat : ℝ) : EReal) := by
  rw [hv, ofBits_code, ofBits_128, ← EReal.coe_sub]
  congr 1; ring

/-- The masked half word, from the word's four bits. -/
theorem half_eq (w : BitVec 32) (x : BitVec 8) (e k : ℕ) (hk : k < 2)
    (h : ∀ i, i < 4 → w.getLsbD (16 * k + i) = x.getLsbD (4 * e + i)) :
    ((w &&& 983055#32) ||| 1124090624#32).extractLsb' (16 * k) 16 = 0x4300#16 ||| (x.extractLsb' (4 * e) 4).setWidth 16 := by
  apply BitVec.eq_of_getLsbD_eq
  intro i hi
  have h0 := h 0 (by omega); have h1 := h 1 (by omega); have h2 := h 2 (by omega); have h3 := h 3 (by omega)
  obtain rfl | rfl : k = 0 ∨ k = 1 := by omega
  all_goals
    interval_cases i <;>
      simp_all [BitVec.getLsbD_extractLsb', BitVec.getLsbD_or, BitVec.getLsbD_and, BitVec.getLsbD_setWidth]

/-! ## The search for a float of few bits -/

/-- One step of the search: the bit is kept if the float it makes is not above the bound. -/
def stp (m : EReal) (b k : BitVec 32) : BitVec 32 := if Ideal.ofBits .f32 (k ||| b) ≤ m then k ||| b else k

theorem stp_and (m : EReal) (b k z : BitVec 32) (hb : b &&& z = 0#32) : stp m b k &&& z = k &&& z := by
  unfold stp
  split
  · rw [BitVec.and_comm, BitVec.and_or_distrib_left, BitVec.and_comm z b, hb, BitVec.or_zero, BitVec.and_comm]
  · rfl

/-- A pattern whose exponent is not all ones is a real number. -/
theorem ofBits_real (w : BitVec 32) (h : w &&& 0x7F800000#32 ≠ 0x7F800000#32) : ∃ r : ℝ, Ideal.ofBits .f32 w = (r : EReal) := by
  have hex : (w.extractLsb' 23 8).toNat ≠ 2 ^ 8 - 1 := by
    intro he
    apply h
    have he' : w.extractLsb' 23 8 = 0xFF#8 := BitVec.eq_of_toNat_eq he
    apply BitVec.eq_of_getLsbD_eq
    intro i hi
    by_cases hr : 23 ≤ i ∧ i < 31
    · have hb := congrArg (fun v => v.getLsbD (i - 23)) he'
      simp only [BitVec.getLsbD_extractLsb'] at hb
      rw [show 23 + (i - 23) = i by omega] at hb
      obtain ⟨h1, h2⟩ := hr
      rw [BitVec.getLsbD_and]
      interval_cases i <;> simp_all
    · rw [BitVec.getLsbD_and]
      have : (0x7F800000#32 : BitVec 32).getLsbD i = false := by
        have hi' : i < 32 := hi
        interval_cases i <;> first | rfl | (exfalso; omega)
      rw [this, Bool.and_false]
  simp only [Ideal.ofBits, Ideal.ieee]
  rw [if_neg hex]
  split
  · exact ⟨_, rfl⟩
  · exact ⟨_, rfl⟩

theorem ofBits_top : Ideal.ofBits .f32 0x7F800000#32 = ⊤ := by
  simp [Ideal.ofBits, Ideal.ieee]

/-- The search, bit by bit from the top of the exponent to the third bit of the fraction. -/
def keepw (m : EReal) : BitVec 32 :=
  stp m 1048576#32 (stp m 2097152#32 (stp m 4194304#32 (stp m 8388608#32 (stp m 16777216#32 (stp m 33554432#32 (stp m 67108864#32
    (stp m 134217728#32 (stp m 268435456#32 (stp m 536870912#32 (stp m 1073741824#32 0#32))))))))))

/-- What the search finds is a real number, if the bound is below infinity. -/
theorem keepw_real (m : EReal) (hm : m < ⊤) : ∃ r : ℝ, Ideal.ofBits .f32 (keepw m) = (r : EReal) := by
  apply ofBits_real
  unfold keepw
  rw [stp_and _ _ _ _ (by decide), stp_and _ _ _ _ (by decide), stp_and _ _ _ _ (by decide)]
  set k := stp m 16777216#32 (stp m 33554432#32 (stp m 67108864#32
    (stp m 134217728#32 (stp m 268435456#32 (stp m 536870912#32 (stp m 1073741824#32 0#32)))))) with hk
  have hz : k &&& 0x80FFFFFF#32 = 0#32 := by
    rw [hk]
    iterate 7 rw [stp_and _ _ _ _ (by decide)]
    decide
  have hb (i : ℕ) (hi : (0x80FFFFFF#32 : BitVec 32).getLsbD i = true) : k.getLsbD i = false := by
    have := congrArg (fun v => v.getLsbD i) hz
    simpa [hi] using this
  intro h
  have h23 := congrArg (fun v => v.getLsbD 23) h
  unfold stp at h h23
  split at h
  · rename_i hle
    have e : k ||| 8388608#32 = 0x7F800000#32 := by
      apply BitVec.eq_of_getLsbD_eq
      intro i hi
      by_cases hr : 23 ≤ i ∧ i < 31
      · have hi' := congrArg (fun v => v.getLsbD i) h
        simp only [BitVec.getLsbD_and] at hi'
        obtain ⟨h1, h2⟩ := hr
        have hc : (0x7F800000#32 : BitVec 32).getLsbD i = true := by interval_cases i <;> rfl
        rw [hc, Bool.and_true] at hi'
        rw [hi', hc]
      · have hc : (0x80FFFFFF#32 : BitVec 32).getLsbD i = true ∧ (8388608#32 : BitVec 32).getLsbD i = false
            ∧ (0x7F800000#32 : BitVec 32).getLsbD i = false := by
          have hi' : i < 32 := hi
          interval_cases i <;> first | exact ⟨rfl, rfl, rfl⟩ | (exfalso; omega)
        rw [BitVec.getLsbD_or, hb i hc.1, hc.2.1, hc.2.2]; rfl
    rw [e, ofBits_top] at hle
    exact absurd hle (not_le.mpr hm)
  · rename_i hle
    rw [if_neg hle] at h23
    simp only [BitVec.getLsbD_and] at h23
    rw [hb 23 rfl] at h23
    exact absurd h23 (by decide)

/-! ## The order of the dimensions -/

/-- The dimension at row `k` of the kernel's table and codes. -/
def dimK (k : ℕ) : ℕ :=
  if k < 64 then 4 * (k % 16) + k / 16
  else if (k - 64) % 16 < 8 then 64 + (k - 64) / 16 + 4 * ((k - 64) % 16)
  else 66 + (k - 64) / 16 + 4 * ((k - 64) % 16 - 8)
/-- The dimension at place `k` of the reference's queries and codes: the even ones, then the odd ones. -/
def dimR (k : ℕ) : ℕ := if k < 48 then 2 * k else 2 * (k - 48) + 1

theorem dimK_lt (k : Fin 96) : dimK k.val < 96 := by revert k; decide
theorem dimR_lt (k : Fin 96) : dimR k.val < 96 := by revert k; decide

theorem sum_dimK {M : Type} [AddCommMonoid M] (f : Fin 96 → M) : ∑ k : Fin 96, f ⟨dimK k.val, dimK_lt k⟩ = ∑ k : Fin 96, f k :=
  Function.Bijective.sum_comp (e := fun k : Fin 96 => (⟨dimK k.val, dimK_lt k⟩ : Fin 96))
    (Finite.injective_iff_bijective.1 (by unfold Function.Injective; decide +kernel)) f
theorem sum_dimR {M : Type} [AddCommMonoid M] (f : Fin 96 → M) : ∑ k : Fin 96, f ⟨dimR k.val, dimR_lt k⟩ = ∑ k : Fin 96, f k :=
  Function.Bijective.sum_comp (e := fun k : Fin 96 => (⟨dimR k.val, dimR_lt k⟩ : Fin 96))
    (Finite.injective_iff_bijective.1 (by unfold Function.Injective; decide +kernel)) f

/-! ## The formula -/

theorem coe_sum {n : ℕ} (f : Fin n → ℝ) : ((∑ k, f k : ℝ) : EReal) = ∑ k, (f k : EReal) :=
  map_sum (⟨⟨Real.toEReal, EReal.coe_zero⟩, EReal.coe_add⟩ : ℝ →+ EReal) f Finset.univ

/-- A sum of real products is a real number. -/
theorem sum_real (x : Fin 96 → EReal) (hx : ∀ k, ∃ r : ℝ, x k = (r : EReal)) (c : Fin 96 → ℕ) :
    ∃ p : ℝ, ∑ k, ((c k : ℝ) : EReal) * x k = (p : EReal) := by
  choose r hr using hx
  refine ⟨∑ k, (c k : ℝ) * r k, ?_⟩
  simp only [hr, ← EReal.coe_mul]
  exact (coe_sum _).symm

/-- A row's codes times a real scale. -/
theorem sum_scale (x : Fin 96 → EReal) (hx : ∀ k, ∃ r : ℝ, x k = (r : EReal)) (c : Fin 96 → ℕ) (s : ℝ) :
    ∑ k, (((c k : ℝ) : EReal) * (s : EReal)) * x k = (s : EReal) * ∑ k, ((c k : ℝ) : EReal) * x k := by
  choose r hr using hx
  simp only [hr, ← EReal.coe_mul]
  rw [← coe_sum, ← coe_sum, ← EReal.coe_mul, Finset.mul_sum]
  congr 1
  exact Finset.sum_congr rfl fun k _ => by ring

end Cert.Value
end
-- ==== Proof.Value.Block.lean ====
module

public import proofs.«01_k».proof.Proof.KernelIdeal.Data
public import proofs.«01_k».proof.Proof.KernelIdeal.Host
public import proofs.«01_k».proof.Proof.Value.Num
public import Idealize.ShloMosaic.Lib.ValueIdx
public import Idealize.ShloMosaic.Lib.Pointwise

/-! What the windows' staging buffers hold at a step, in terms of the program's arguments. -/

@[expose] public section

noncomputable section

namespace Cert.Value

open Cert.KernelIdeal Cert.KernelIdeal.Gen Cert.KernelIdeal.Hand
open Idealize.ShloMosaic hiding ix1 ix2 ix3 ix4
open Idealize.ShloMosaic.ValueIdx
open Idealize.ShloMosaic.TcCoe

variable {F : FTy → Type} [FloatOps F]

/-- A place of the block inside the array is among those a fetch moves. -/
theorem ext_of {o k d : ℕ} {c : Pipeline.Clip} (h : Pipeline.Clip.OkAt o k d c) {j : ℕ} (hj : j < k) (hd : o + j < d) : j < c.extent k := by
  cases c with
  | none => exact hj
  | some n => have := h.2.2; show j < n; omega

/-- A fetched block at a place inside the array holds the array's entry there. -/
theorem fill_at {G : Pipeline.Grid} (w : Pipeline.Window sig G) (t : Fin G.N) (X : w.arr.view.ty.Contents (Elt F)) (d : w.block.Idx → Elt F w.elt)
    (j : w.block.Idx) (y : w.shape.Idx) (hy : ∀ a, w.kind.off (w.index t a) (w.size a) + (j a).val = (y a).val) :
    w.fill (G.coords t) d ((w.blk t).view.read (Elt F) X) j = w.arr.view.read (Elt F) X y := by
  have hm : w.moved (G.coords t) j = true := (w.moved_iff _ _).2 fun a => ext_of (w.hclip (G.coords t) a) (j a).isLt (lt_of_eq_of_lt (hy a) (y a).isLt)
  unfold Pipeline.Window.fill
  rw [dif_pos hm]
  show w.arr.view.read (Elt F) X ((w.rect t).emb _) = _
  congr 1
  funext a
  refine Fin.ext ((Rect.emb_apply _ _ _).trans (Eq.trans ?_ (hy a)))
  show w.kind.off (w.index t a) (w.size a) + 1 * (j a).val = _
  rw [Nat.one_mul]

variable (a : (pcfg0 (F := F)).Adm) (c : Dev nD) (X : (b : Ref sig .tc) → Buf (Elt F) ((c : Thread nD τ).loc b))

theorem fetched2 (t : Fin (cfg0 a).N) (d) (k : Fin 48) (r : Fin 4096) (n : Fin 700000) (hn : t.val * 4096 + r.val = n.val) :
    fetchedAt a c X 2 t d (ix2 k r) = (X main_v85 : S48x700000.Idx → Elt F .i8) (ix2 k n) := by
  refine fill_at ((cfg0 a).win 2) t (X main_v85) d (ix2 k r) (ix2 k n) fun b => ?_
  match b with
  | ⟨0, _⟩ => exact Nat.zero_add _
  | ⟨1, _⟩ => exact (congrArg (· * 4096 + r.val) (tr2 t)).trans hn

theorem fetched4 (t : Fin (cfg0 a).N) (d) (r : Fin 4096) (n : Fin 700000) (hn : t.val * 4096 + r.val = n.val) :
    fetchedAt a c X 4 t d (ix2 0 r) = (X main_v87 : S1x700000.Idx → Elt F .bf16) (ix2 0 n) := by
  refine fill_at ((cfg0 a).win 4) t (X main_v87) d (ix2 0 r) (ix2 0 n) fun b => ?_
  match b with
  | ⟨0, _⟩ => rfl
  | ⟨1, _⟩ => exact (congrArg (· * 4096 + r.val) (tr4 t)).trans hn

theorem fetched5 (t : Fin (cfg0 a).N) (d) (r : Fin 4096) (n : Fin 700000) (hn : t.val * 4096 + r.val = n.val) :
    fetchedAt a c X 5 t d (ix2 0 r) = (X main_v88 : S1x700000.Idx → Elt F .bf16) (ix2 0 n) := by
  refine fill_at ((cfg0 a).win 5) t (X main_v88) d (ix2 0 r) (ix2 0 n) fun b => ?_
  match b with
  | ⟨0, _⟩ => rfl
  | ⟨1, _⟩ => exact (congrArg (· * 4096 + r.val) (tr5 t)).trans hn

theorem fetched0 (t : Fin (cfg0 a).N) (d) : fetchedAt a c X 0 t d = (X main_v83 : S2x96x128.Idx → Elt F .bf16) := by
  funext j
  refine fill_at ((cfg0 a).win 0) t (X main_v83) d j j fun b => ?_
  match b with
  | ⟨0, _⟩ => exact Nat.zero_add _
  | ⟨1, _⟩ => exact Nat.zero_add _
  | ⟨2, _⟩ => exact Nat.zero_add _

theorem fetched1 (t : Fin (cfg0 a).N) (d) : fetchedAt a c X 1 t d = (X main_v84 : S1x96.Idx → Elt F .f32) := by
  funext j
  refine fill_at ((cfg0 a).win 1) t (X main_v84) d j j fun b => ?_
  match b with
  | ⟨0, _⟩ => exact Nat.zero_add _
  | ⟨1, _⟩ => exact Nat.zero_add _

/-! ## The windows' arrays, from the arguments -/

variable (m : (ℓ : Loc nD τ sig) → Buf (Elt F) ℓ) (ρ : Dev nD → PrngReg)

theorem V12_kept {b : Ref sig .tc} (hb : b ∈ kept) : V12 m ρ c (Proc.devRef .tc b) = m ((c : Thread nD τ).loc b) :=
  (after_other writes12 (V12 m ρ c) (kept_12 b hb)).symm.trans (V13_kept m ρ c hb)

theorem v83_of (Y : Valuation τ sig (Elt F)) : (StableHlo.after hostOps0_12 Y (Proc.devRef .tc main_v83) : S2x96x128.Idx → Elt F .bf16)
    = transpose S2x96x128 [0, 2, 1] (Y (Proc.devRef .tc main_arg0) : S2x128x96.Idx → Elt F .bf16) transposes_S2x128x96_S2x96x128_0_2_1 := by
  unfold_abbrev_sides
  after_results
theorem v84_of (Y : Valuation τ sig (Elt F)) : (StableHlo.after hostOps0_12 Y (Proc.devRef .tc main_v84) : S1x96.Idx → Elt F .f32)
    = shapeCast S1x96 (Y (Proc.devRef .tc main_arg1) : S96.Idx → Elt F .f32) shapeCasts_S96_S1x96 := by
  unfold_abbrev_sides
  after_results
  rfl
theorem v85_of (Y : Valuation τ sig (Elt F)) : (StableHlo.after hostOps0_12 Y (Proc.devRef .tc main_v85) : S48x700000.Idx → Elt F .i8)
    = transpose S48x700000 [1, 0] (Y (Proc.devRef .tc main_arg2) : S700000x48.Idx → Elt F .i8) transposes_S700000x48_S48x700000_1_0 := by
  unfold_abbrev_sides
  after_results
theorem v87_of (Y : Valuation τ sig (Elt F)) : (StableHlo.after hostOps0_12 Y (Proc.devRef .tc main_v87) : S1x700000.Idx → Elt F .bf16)
    = shapeCast S1x700000 (Y (Proc.devRef .tc main_arg3) : S700000.Idx → Elt F .bf16) shapeCasts_S700000_S1x700000 := by
  unfold_abbrev_sides
  after_results
  rfl
theorem v88_of (Y : Valuation τ sig (Elt F)) : (StableHlo.after hostOps0_12 Y (Proc.devRef .tc main_v88) : S1x700000.Idx → Elt F .bf16)
    = shapeCast S1x700000 (Y (Proc.devRef .tc main_arg4) : S700000.Idx → Elt F .bf16) shapeCasts_S700000_S1x700000 := by
  unfold_abbrev_sides
  after_results
  rfl

theorem v83_apply (b : Fin 2) (d : Fin 96) (l : Fin 128) :
    (V13 m ρ c (Proc.devRef .tc main_v83) : S2x96x128.Idx → Elt F .bf16) (ix3 b d l) = (m ((c : Thread nD τ).loc main_arg0) : S2x128x96.Idx → Elt F .bf16) (ix3 b l d) := by
  unfold V13
  rw [v83_of, V12_kept c m ρ (by decide)]
  pointwise
  rfl
theorem v84_apply (d : Fin 96) :
    (V13 m ρ c (Proc.devRef .tc main_v84) : S1x96.Idx → Elt F .f32) (ix2 0 d) = (m ((c : Thread nD τ).loc main_arg1) : S96.Idx → Elt F .f32) (ix1 d) := by
  unfold V13
  rw [v84_of, V12_kept c m ρ (by decide)]
  pointwise
  rfl
theorem v85_apply (k : Fin 48) (n : Fin 700000) :
    (V13 m ρ c (Proc.devRef .tc main_v85) : S48x700000.Idx → Elt F .i8) (ix2 k n) = (m ((c : Thread nD τ).loc main_arg2) : S700000x48.Idx → Elt F .i8) (ix2 n k) := by
  unfold V13
  rw [v85_of, V12_kept c m ρ (by decide)]
  pointwise
  rfl
theorem v87_apply (n : Fin 700000) :
    (V13 m ρ c (Proc.devRef .tc main_v87) : S1x700000.Idx → Elt F .bf16) (ix2 0 n) = (m ((c : Thread nD τ).loc main_arg3) : S700000.Idx → Elt F .bf16) (ix1 n) := by
  unfold V13
  rw [v87_of, V12_kept c m ρ (by decide)]
  pointwise
  rfl
theorem v88_apply (n : Fin 700000) :
    (V13 m ρ c (Proc.devRef .tc main_v88) : S1x700000.Idx → Elt F .bf16) (ix2 0 n) = (m ((c : Thread nD τ).loc main_arg4) : S700000.Idx → Elt F .bf16) (ix1 n) := by
  unfold V13
  rw [v88_of, V12_kept c m ρ (by decide)]
  pointwise
  rfl

end Cert.Value
end
-- ==== Proof.Value.Codes.lean ====
module

public import proofs.«01_k».proof.Proof.Gen.KernelIdeal.Skeleton
public import proofs.«01_k».proof.Proof.Value.Num
public import Idealize.ShloMosaic.Lib.ValueIdx
public import Idealize.ShloMosaic.Lib.Pipeline.Value

/-! The codes' rows: what the kernel unpacks from a block of packed bytes, read at a row and a vector. -/

@[expose] public section

noncomputable section

namespace Cert.Value

open Cert.KernelIdeal Cert.KernelIdeal.Gen
open Idealize.ShloMosaic hiding ix1 ix2 ix3 ix4
open Idealize.ShloMosaic.ValueIdx

variable (cp : Vec Ideal S48x4096 .i8)

/-- Blocks of rows put one below another, read at a row of block `g`. -/
theorem cat_rows {α : Type} {A B n : ℕ} (xs : List ((s : Shape) × (s.Idx → α))) (h : Shape.Concatenates (xs.map (·.1)) ⟨2, ![A, n]⟩ 0)
    (k : Fin A) (r : Fin n) (g : ℕ) (x : (⟨2, ![B, n]⟩ : Shape).Idx → α) (hx : xs[g]? = some ⟨⟨2, ![B, n]⟩, x⟩) (pre : ℕ)
    (hpre : (((xs.take g).map (·.1)).map fun s => if h : s.rank = (⟨2, ![A, n]⟩ : Shape).rank then s.size ((0 : Fin 2).cast h.symm) else 0).sum = pre)
    (p : Fin B) (e : pre + p.val = k.val) :
    concatenate ⟨2, ![A, n]⟩ 0 xs h (ix2 k r) = x (ix2 p r) := by
  obtain ⟨hg, hx⟩ := List.getElem?_eq_some_iff.1 hx
  refine concatenate_apply_piece (t := ⟨2, ![A, n]⟩) 0 xs h (ix2 k r) g hg ⟨2, ![B, n]⟩ x hx rfl pre hpre (ix2 p r) ?_ e
  intro b hb
  match b with
  | ⟨0, _⟩ => exact absurd rfl hb
  | ⟨1, _⟩ => rfl

/-- A bit of a shifted word, below the sign. -/
theorem shr_bit (x : BitVec 32) (s q : ℕ) (h : s + q < 32) :
    (IntOp.shrsi .vector x (BitVec.ofNat 32 s)).getLsbD q = x.getLsbD (s + q) := by
  have hs : (BitVec.ofNat 32 s).toNat = s := by rw [BitVec.toNat_ofNat]; omega
  unfold IntOp.shrsi
  rw [if_pos (by rw [hs]; omega), BitVec.sshiftRight', hs, BitVec.getLsbD_sshiftRight]
  have : ¬ 32 ≤ q := by omega
  simp [h, this]

/-- Sixteen rows of codes from eight rows of words, given where each row's four bits come from. -/
theorem grp_apply (W : IVec S8x4096 32) (p : Fin 16) (r : Fin 4096) (x : BitVec 8) (e : ℕ)
    (h : ∀ i, i < 4 → (W (ix2 (⟨p.val / 2, by omega⟩ : Fin 8) r)).getLsbD (16 * (p.val % 2) + i) = x.getLsbD (4 * e + i)) :
    subf (bitcastToFloat (F := Ideal) .bf16 (bitcast S16x4096 16 (ori (andi W (broadcast S8x4096 983055#32)) (broadcast S8x4096 1124090624#32))
        bitcasts_S8x4096_w32_S16x4096_w16)) (broadcast S16x4096 (Scalar.ofBits (F := Ideal) .bf16 0x4300#16)) (ix2 p r)
      = ((nib x e : ℝ) : EReal) := by
  refine code_sub (x.extractLsb' (4 * e) 4) _ ?_
  refine (bitcast_32_16 _ _ _).trans ?_
  rw [show (Shape.Bitcasts.srcIdx bitcasts_S8x4096_w32_S16x4096_w16 (ix2 p r) (S16x4096.row (ix2 p r) / 2) _) = ix2 (⟨p.val / 2, by omega⟩ : Fin 8) r from ?_]
  · exact half_eq _ x e (p.val % 2) (by omega) h
  · funext a
    match a with
    | ⟨0, _⟩ => exact Fin.ext (Shape.Bitcasts.srcIdx_row bitcasts_S8x4096_w32_S16x4096_w16 _ _ _ ⟨0, Nat.zero_lt_two⟩ rfl)
    | ⟨1, _⟩ => exact Fin.ext (Shape.Bitcasts.srcIdx_other bitcasts_S8x4096_w32_S16x4096_w16 _ _ _ ⟨1, Nat.one_lt_two⟩ (by show ¬ 1 + 2 = 2; omega))

/-- A bit of a word is a bit of one of its four bytes. -/
theorem word_bit (a : Fin 12) (r : Fin 4096) (q b : ℕ) (hq : q < 32) (P : Fin 48) (hP : P.val = 4 * a.val + q / 8) (hb : b = q % 8) :
    (k0_pay907 cp (ix2 a r)).getLsbD q = (cp (ix2 P r)).getLsbD b := by
  subst hb
  unfold k0_pay907
  rw [shapeCast_self]
  exact bitcast_8_32_getLsbD_ix2 (R := 48) (r := 12) (n := 4096) cp bitcasts_S48x4096_w8_S12x4096_w32 a r q hq P hP

theorem w0_eq (a : Fin 8) (r : Fin 4096) : k0_pay908 cp (ix2 a r) = k0_pay907 cp (ix2 (⟨a.val, by omega⟩ : Fin 12) r) := by
  unfold k0_pay908
  show k0_pay907 cp _ = _
  congr 1
  funext c
  match c with
  | ⟨0, _⟩ => exact Fin.ext (by show 0 + a.val = a.val; omega)
  | ⟨1, _⟩ => exact Fin.ext (by show 0 + r.val = r.val; omega)

theorem w1_lo (a : Fin 8) (r : Fin 4096) (ha : a.val < 4) : k0_pay909 cp (ix2 a r) = k0_pay907 cp (ix2 (⟨8 + a.val, by omega⟩ : Fin 12) r) := by
  unfold k0_pay909
  refine (cat_rows (B := 4) _ _ a r 0 _ rfl 0 rfl (⟨a.val, ha⟩ : Fin 4) (by show 0 + a.val = a.val; omega)).trans ?_
  show k0_pay907 cp _ = _
  congr 1
  funext c
  match c with
  | ⟨0, _⟩ => rfl
  | ⟨1, _⟩ => exact Fin.ext (by show 0 + r.val = r.val; omega)

theorem w1_hi (a : Fin 8) (r : Fin 4096) (ha : 4 ≤ a.val) :
    k0_pay909 cp (ix2 a r) = IntOp.shrsi .vector (k0_pay907 cp (ix2 (⟨4 + a.val, by omega⟩ : Fin 12) r)) 8#32 := by
  unfold k0_pay909
  refine (cat_rows (B := 4) _ _ a r 1 _ rfl 4 rfl (⟨a.val - 4, by omega⟩ : Fin 4) (by show 4 + (a.val - 4) = a.val; omega)).trans ?_
  show IntOp.shrsi .vector (k0_pay907 cp _) 8#32 = _
  congr 2
  funext c
  match c with
  | ⟨0, _⟩ => exact Fin.ext (by show 8 + (a.val - 4) = 4 + a.val; omega)
  | ⟨1, _⟩ => exact Fin.ext (by show 0 + r.val = r.val; omega)

/-- The block's 96 rows of codes. -/
abbrev codeM : FVec Ideal S96x4096 .bf16 :=
  k0_pay913 (k0_pay908 cp) (k0_pay909 cp) (k0_pay910 cp) (k0_pay911 cp) (k0_pay912 cp)

theorem dimK_half (k : Fin 96) : dimK k.val / 2 < 48 := by have := dimK_lt k; omega

/-- Row `k` of the codes holds the code of dimension `dimK k`. -/
theorem codeM_apply (k : Fin 96) (r : Fin 4096) :
    codeM cp (ix2 k r) = ((nib (cp (ix2 (⟨dimK k.val / 2, dimK_half k⟩ : Fin 48) r)) (dimK k.val % 2) : ℝ) : EReal) := by
  obtain ⟨k, hk⟩ := k
  unfold codeM k0_pay913
  have hg : k / 16 = 0 ∨ k / 16 = 1 ∨ k / 16 = 2 ∨ k / 16 = 3 ∨ k / 16 = 4 ∨ k / 16 = 5 := by omega
  rcases hg with hg | hg | hg | hg | hg | hg
  · refine (cat_rows (B := 16) _ _ _ r 0 _ rfl 0 rfl (⟨k % 16, by omega⟩ : Fin 16) (by show 0 + k % 16 = k; omega)).trans ?_
    have hd : dimK k = 4 * (k % 16) := by unfold dimK; rw [if_pos (by omega)]; omega
    refine grp_apply _ _ r _ _ fun i hi => ?_
    rw [w0_eq]
    exact word_bit cp _ r _ _ (by show 16 * (k % 16 % 2) + i < 32; omega) _ (by show dimK k / 2 = 4 * (k % 16 / 2) + (16 * (k % 16 % 2) + i) / 8; omega)
      (by show 4 * (dimK k % 2) + i = (16 * (k % 16 % 2) + i) % 8; omega)
  · refine (cat_rows (B := 16) _ _ _ r 1 _ rfl 16 rfl (⟨k % 16, by omega⟩ : Fin 16) (by show 16 + k % 16 = k; omega)).trans ?_
    have hd : dimK k = 4 * (k % 16) + 1 := by unfold dimK; rw [if_pos (by omega)]; omega
    refine grp_apply (shrsi (k0_pay908 cp) (broadcast S8x4096 4#32)) _ r _ _ fun i hi => ?_
    refine (shr_bit _ 4 _ (by show 4 + (16 * (k % 16 % 2) + i) < 32; omega)).trans ?_
    rw [w0_eq]
    exact word_bit cp _ r _ _ (by show 4 + (16 * (k % 16 % 2) + i) < 32; omega) _ (by show dimK k / 2 = 4 * (k % 16 / 2) + (4 + (16 * (k % 16 % 2) + i)) / 8; omega)
      (by show 4 * (dimK k % 2) + i = (4 + (16 * (k % 16 % 2) + i)) % 8; omega)
  · refine (cat_rows (B := 16) _ _ _ r 2 _ rfl 32 rfl (⟨k % 16, by omega⟩ : Fin 16) (by show 32 + k % 16 = k; omega)).trans ?_
    have hd : dimK k = 4 * (k % 16) + 2 := by unfold dimK; rw [if_pos (by omega)]; omega
    refine grp_apply (shrsi (k0_pay908 cp) (broadcast S8x4096 8#32)) _ r _ _ fun i hi => ?_
    refine (shr_bit _ 8 _ (by show 8 + (16 * (k % 16 % 2) + i) < 32; omega)).trans ?_
    rw [w0_eq]
    exact word_bit cp _ r _ _ (by show 8 + (16 * (k % 16 % 2) + i) < 32; omega) _ (by show dimK k / 2 = 4 * (k % 16 / 2) + (8 + (16 * (k % 16 % 2) + i)) / 8; omega)
      (by show 4 * (dimK k % 2) + i = (8 + (16 * (k % 16 % 2) + i)) % 8; omega)
  · refine (cat_rows (B := 16) _ _ _ r 3 _ rfl 48 rfl (⟨k % 16, by omega⟩ : Fin 16) (by show 48 + k % 16 = k; omega)).trans ?_
    have hd : dimK k = 4 * (k % 16) + 3 := by unfold dimK; rw [if_pos (by omega)]; omega
    refine grp_apply (shrsi (k0_pay908 cp) (broadcast S8x4096 12#32)) _ r _ _ fun i hi => ?_
    refine (shr_bit _ 12 _ (by show 12 + (16 * (k % 16 % 2) + i) < 32; omega)).trans ?_
    rw [w0_eq]
    exact word_bit cp _ r _ _ (by show 12 + (16 * (k % 16 % 2) + i) < 32; omega) _ (by show dimK k / 2 = 4 * (k % 16 / 2) + (12 + (16 * (k % 16 % 2) + i)) / 8; omega)
      (by show 4 * (dimK k % 2) + i = (12 + (16 * (k % 16 % 2) + i)) % 8; omega)
  · refine (cat_rows (B := 16) _ _ _ r 4 _ rfl 64 rfl (⟨k % 16, by omega⟩ : Fin 16) (by show 64 + k % 16 = k; omega)).trans ?_
    refine grp_apply (k0_pay909 cp) _ r _ _ fun i hi => ?_
    by_cases h8 : k % 16 < 8
    · have hd : dimK k = 64 + 4 * (k % 16) := by
        unfold dimK; rw [if_neg (by omega), if_pos (by omega)]; omega
      rw [w1_lo cp _ r (by show k % 16 / 2 < 4; omega)]
      exact word_bit cp _ r _ _ (by show 16 * (k % 16 % 2) + i < 32; omega) _ (by show dimK k / 2 = 4 * (8 + k % 16 / 2) + (16 * (k % 16 % 2) + i) / 8; omega)
        (by show 4 * (dimK k % 2) + i = (16 * (k % 16 % 2) + i) % 8; omega)
    · have hd : dimK k = 66 + 4 * (k % 16 - 8) := by
        unfold dimK; rw [if_neg (by omega), if_neg (by omega)]; omega
      rw [w1_hi cp _ r (by show 4 ≤ k % 16 / 2; omega)]
      refine (shr_bit _ 8 _ (by show 8 + (16 * (k % 16 % 2) + i) < 32; omega)).trans ?_
      exact word_bit cp _ r _ _ (by show 8 + (16 * (k % 16 % 2) + i) < 32; omega) _ (by show dimK k / 2 = 4 * (4 + k % 16 / 2) + (8 + (16 * (k % 16 % 2) + i)) / 8; omega)
        (by show 4 * (dimK k % 2) + i = (8 + (16 * (k % 16 % 2) + i)) % 8; omega)
  · refine (cat_rows (B := 16) _ _ _ r 5 _ rfl 80 rfl (⟨k % 16, by omega⟩ : Fin 16) (by show 80 + k % 16 = k; omega)).trans ?_
    refine grp_apply (shrsi (k0_pay909 cp) (broadcast S8x4096 4#32)) _ r _ _ fun i hi => ?_
    refine (shr_bit _ 4 _ (by show 4 + (16 * (k % 16 % 2) + i) < 32; omega)).trans ?_
    by_cases h8 : k % 16 < 8
    · have hd : dimK k = 65 + 4 * (k % 16) := by
        unfold dimK; rw [if_neg (by omega), if_pos (by omega)]; omega
      rw [w1_lo cp _ r (by show k % 16 / 2 < 4; omega)]
      exact word_bit cp _ r _ _ (by show 4 + (16 * (k % 16 % 2) + i) < 32; omega) _ (by show dimK k / 2 = 4 * (8 + k % 16 / 2) + (4 + (16 * (k % 16 % 2) + i)) / 8; omega)
        (by show 4 * (dimK k % 2) + i = (4 + (16 * (k % 16 % 2) + i)) % 8; omega)
    · have hd : dimK k = 67 + 4 * (k % 16 - 8) := by
        unfold dimK; rw [if_neg (by omega), if_neg (by omega)]; omega
      rw [w1_hi cp _ r (by show 4 ≤ k % 16 / 2; omega)]
      refine (shr_bit _ 8 _ (by show 8 + (4 + (16 * (k % 16 % 2) + i)) < 32; omega)).trans ?_
      exact word_bit cp _ r _ _ (by show 8 + (4 + (16 * (k % 16 % 2) + i)) < 32; omega) _ (by show dimK k / 2 = 4 * (4 + k % 16 / 2) + (8 + (4 + (16 * (k % 16 % 2) + i))) / 8; omega)
        (by show 4 * (dimK k % 2) + i = (8 + (4 + (16 * (k % 16 % 2) + i))) % 8; omega)

end Cert.Value
end
-- ==== Proof.Value.Score.lean ====
module

public import proofs.«01_k».proof.Proof.Value.Codes
public import proofs.«01_k».proof.Proof.KernelIdeal.Geo

/-! One step's product: the sum over the 208 rows, and what it is when the table holds the queries and their two sums. -/

@[expose] public section

noncomputable section

namespace Cert.Value

open Cert.KernelIdeal Cert.KernelIdeal.Gen Cert.KernelIdeal.Hand
open Idealize.ShloMosaic hiding ix1 ix2 ix3 ix4
open Idealize.ShloMosaic.ValueIdx

/-- The part of a step size that keeps few bits. -/
def s1of (m : EReal) : EReal := if m < 0 then 0 - Ideal.ofBits .f32 (keepw (max m (-m))) else Ideal.ofBits .f32 (keepw (max m (-m)))

theorem s1of_real (s : ℝ) : ∃ r : ℝ, s1of (s : EReal) = (r : EReal) := by
  have hm : max (s : EReal) (-(s : EReal)) < ⊤ := by
    rw [← EReal.coe_neg]
    exact max_lt (EReal.coe_lt_top _) (EReal.coe_lt_top _)
  obtain ⟨r, hr⟩ := keepw_real _ hm
  unfold s1of
  rw [hr]
  split
  · exact ⟨0 - r, by rw [EReal.coe_sub]; rfl⟩
  · exact ⟨r, rfl⟩

section Rows
variable (w : Vec Ideal S208x256 .bf16) (cp : Vec Ideal S48x4096 .i8) (bd st : Vec Ideal S1x4096 .bf16)

/-- A scalar choice on a comparison. -/
theorem sel_le {α : Type} (x y : EReal) (a b : α) : Scalar.select (Ideal.cmp .ole x y) a b = if x ≤ y then a else b := by
  unfold Scalar.select Ideal.cmp
  by_cases h : x ≤ y <;> simp [h]
theorem sel_lt {α : Type} (x y : EReal) (a b : α) : Scalar.select (Ideal.cmp .olt x y) a b = if x < y then a else b := by
  unfold Scalar.select Ideal.cmp
  by_cases h : x < y <;> simp [h]

theorem row_bcast (p : Fin 16) (r : Fin 4096) : k0_pay914 st (ix2 p r) = st (ix2 0 r) := by
  unfold k0_pay914
  rw [shapeCast_self, shapeCast_self]
  show st _ = _
  congr 1
  funext c
  match c with
  | ⟨0, _⟩ => rfl
  | ⟨1, _⟩ => rfl
theorem row_bcast' (p : Fin 16) (r : Fin 4096) : k0_pay915 bd (ix2 p r) = bd (ix2 0 r) := row_bcast bd p r

/-- One step of the search, on every entry. -/
def stpV (M : FVec Ideal S16x4096 .f32) (b : BitVec 32) (K : IVec S16x4096 32) : IVec S16x4096 32 :=
  select (cmpf .ole (bitcastToFloat (F := Ideal) .f32 (ori K (broadcast S16x4096 b))) M) (ori K (broadcast S16x4096 b)) K

theorem stpV_apply (M : FVec Ideal S16x4096 .f32) (b : BitVec 32) (K : IVec S16x4096 32) (i : S16x4096.Idx) : stpV M b K i = stp (M i) b (K i) :=
  sel_le _ _ _ _

theorem pay919_eq (M : FVec Ideal S16x4096 .f32) (K : IVec S16x4096 32) : k0_pay919 (F := Ideal) M K
    = stpV M 2097152#32 (stpV M 4194304#32 (stpV M 8388608#32 (stpV M 16777216#32 (stpV M 33554432#32 (stpV M 67108864#32
    (stpV M 134217728#32 (stpV M 268435456#32 (stpV M 536870912#32 (stpV M 1073741824#32 K))))))))) := rfl

/-- The kept words are the search's. -/
theorem kept_apply (p : Fin 16) (r : Fin 4096) :
    Scalar.select (Ideal.cmp .ole (Ideal.ofBits .f32 (k0_pay919 (F := Ideal) (k0_pay917 st) k0_pay918 (ix2 p r) ||| 1048576#32)) (k0_pay917 (F := Ideal) st (ix2 p r)))
      (k0_pay919 (F := Ideal) (k0_pay917 st) k0_pay918 (ix2 p r) ||| 1048576#32) (k0_pay919 (F := Ideal) (k0_pay917 st) k0_pay918 (ix2 p r))
      = keepw (max (st (ix2 0 r)) (-(st (ix2 0 r)))) := by
  have hm : k0_pay917 (F := Ideal) st (ix2 p r) = max (st (ix2 0 r)) (-(st (ix2 0 r))) := by
    show max (k0_pay914 st (ix2 p r)) (-(k0_pay914 st (ix2 p r))) = _
    rw [row_bcast]
  rw [← hm]
  generalize k0_pay917 (F := Ideal) st = M
  rw [sel_le, pay919_eq]
  simp only [stpV_apply]
  rfl

/-- The product's left factor. -/
def lhs : FVec Ideal S208x4096 .bf16 :=
  have v128 := k0_pay919 (F := Ideal) (k0_pay917 st) k0_pay918
  have v130 : IVec S16x4096 32 := ori v128 (broadcast S16x4096 1048576#32)
  have v133 : IVec S16x4096 32 := select (cmpf .ole (bitcastToFloat (F := Ideal) .f32 v130) (k0_pay917 st)) v130 v128
  have v134 : FVec Ideal S16x4096 .f32 := bitcastToFloat .f32 v133
  have v139 : FVec Ideal S16x4096 .f32 := select (cmpf .olt (k0_pay916 st) (broadcast S16x4096 (Scalar.ofBits .f32 0x00000000#32)))
    (subf (broadcast S16x4096 (Scalar.ofBits .f32 0x00000000#32)) v134) v134
  have v140 : FVec Ideal S16x4096 .bf16 := truncf .bf16 v139 bitsLt_bf16_f32
  have v141 : FVec Ideal S16x4096 .bf16 := subf (k0_pay914 st) v140
  have v142 : FVec Ideal S96x4096 .bf16 := concatenate S96x4096 0 [⟨S16x4096, v140⟩, ⟨S16x4096, v140⟩, ⟨S16x4096, v140⟩, ⟨S16x4096, v140⟩, ⟨S16x4096, v140⟩, ⟨S16x4096, v140⟩] concatenates_S16x4096_S16x4096_S16x4096_S16x4096_S16x4096_S16x4096_S96x4096_d0
  have v143 : FVec Ideal S96x4096 .bf16 := concatenate S96x4096 0 [⟨S16x4096, v141⟩, ⟨S16x4096, v141⟩, ⟨S16x4096, v141⟩, ⟨S16x4096, v141⟩, ⟨S16x4096, v141⟩, ⟨S16x4096, v141⟩] concatenates_S16x4096_S16x4096_S16x4096_S16x4096_S16x4096_S16x4096_S96x4096_d0
  have v146 : IVec S16x4096 1 := cmpi .slt (iota .tc S16x4096 32 [0] iota_S16x4096_d0_w32) (broadcast S16x4096 8#32)
  have v149 : FVec Ideal S16x4096 .f32 := select v146 (extf .f32 (k0_pay915 bd) bitsLt_bf16_f32) (broadcast S16x4096 (Scalar.ofBits .f32 0x3F800000#32))
  have v150 : FVec Ideal S16x4096 .bf16 := truncf .bf16 v149 bitsLt_bf16_f32
  concatenate S208x4096 0 [⟨S96x4096, mulf (codeM cp) v142⟩, ⟨S96x4096, mulf (codeM cp) v143⟩, ⟨S16x4096, v150⟩] concatenates_S96x4096_S96x4096_S16x4096_S208x4096_d0

/-- Six copies of sixteen rows, one below another. -/
theorem rep6 {α : Type} (x : S16x4096.Idx → α) (h) (k : Fin 96) (r : Fin 4096) :
    concatenate S96x4096 0 [⟨S16x4096, x⟩, ⟨S16x4096, x⟩, ⟨S16x4096, x⟩, ⟨S16x4096, x⟩, ⟨S16x4096, x⟩, ⟨S16x4096, x⟩] h (ix2 k r)
      = x (ix2 (⟨k.val % 16, by omega⟩ : Fin 16) r) := by
  obtain ⟨k, hk⟩ := k
  have hg : k / 16 = 0 ∨ k / 16 = 1 ∨ k / 16 = 2 ∨ k / 16 = 3 ∨ k / 16 = 4 ∨ k / 16 = 5 := by omega
  rcases hg with hg | hg | hg | hg | hg | hg
  · exact cat_rows (B := 16) _ _ _ r 0 x rfl 0 rfl ⟨k % 16, by omega⟩ (by show 0 + k % 16 = k; omega)
  · exact cat_rows (B := 16) _ _ _ r 1 x rfl 16 rfl ⟨k % 16, by omega⟩ (by show 16 + k % 16 = k; omega)
  · exact cat_rows (B := 16) _ _ _ r 2 x rfl 32 rfl ⟨k % 16, by omega⟩ (by show 32 + k % 16 = k; omega)
  · exact cat_rows (B := 16) _ _ _ r 3 x rfl 48 rfl ⟨k % 16, by omega⟩ (by show 48 + k % 16 = k; omega)
  · exact cat_rows (B := 16) _ _ _ r 4 x rfl 64 rfl ⟨k % 16, by omega⟩ (by show 64 + k % 16 = k; omega)
  · exact cat_rows (B := 16) _ _ _ r 5 x rfl 80 rfl ⟨k % 16, by omega⟩ (by show 80 + k % 16 = k; omega)

/-- The sixteen equal rows of the kept part. -/
theorem s1_apply (p : Fin 16) (r : Fin 4096) :
    (select (cmpf .olt (k0_pay916 (F := Ideal) st) (broadcast S16x4096 (Scalar.ofBits .f32 0x00000000#32)))
      (subf (broadcast S16x4096 (Scalar.ofBits (F := Ideal) .f32 0x00000000#32))
        (bitcastToFloat .f32 (select (cmpf .ole (bitcastToFloat (F := Ideal) .f32 (ori (k0_pay919 (F := Ideal) (k0_pay917 st) k0_pay918) (broadcast S16x4096 1048576#32))) (k0_pay917 st)) (ori (k0_pay919 (F := Ideal) (k0_pay917 st) k0_pay918) (broadcast S16x4096 1048576#32)) (k0_pay919 (F := Ideal) (k0_pay917 st) k0_pay918))))
        (bitcastToFloat .f32 (select (cmpf .ole (bitcastToFloat (F := Ideal) .f32 (ori (k0_pay919 (F := Ideal) (k0_pay917 st) k0_pay918) (broadcast S16x4096 1048576#32))) (k0_pay917 st)) (ori (k0_pay919 (F := Ideal) (k0_pay917 st) k0_pay918) (broadcast S16x4096 1048576#32)) (k0_pay919 (F := Ideal) (k0_pay917 st) k0_pay918)))
      : FVec Ideal S16x4096 .f32) (ix2 p r) = s1of (st (ix2 0 r)) := by
  have h := kept_apply st p r
  show Scalar.select (Ideal.cmp .olt (k0_pay914 st (ix2 p r)) (Ideal.ofBits .f32 0x00000000#32)) (Ideal.ofBits .f32 0x00000000#32 - Ideal.ofBits .f32 (Scalar.select _ _ _)) (Ideal.ofBits .f32 (Scalar.select _ _ _)) = _
  rw [sel_lt, row_bcast]
  have h0 : Ideal.ofBits .f32 0x00000000#32 = 0 := by simp [Ideal.ofBits, Ideal.ieee]
  rw [h0]
  unfold s1of
  rw [← h]
  rfl

theorem lhs_1 (k : Fin 96) (r : Fin 4096) :
    lhs cp bd st (ix2 (⟨k.val, by omega⟩ : Fin 208) r) = codeM cp (ix2 k r) * s1of (st (ix2 0 r)) := by
  unfold lhs
  refine (cat_rows (B := 96) _ _ _ r 0 _ rfl 0 rfl k (by show 0 + k.val = k.val; omega)).trans ?_
  refine congrArg (codeM cp (ix2 k r) * ·) ((rep6 _ _ k r).trans ?_)
  exact s1_apply st _ r

theorem lhs_2 (k : Fin 96) (r : Fin 4096) :
    lhs cp bd st (ix2 (⟨96 + k.val, by omega⟩ : Fin 208) r) = codeM cp (ix2 k r) * (st (ix2 0 r) - s1of (st (ix2 0 r))) := by
  unfold lhs
  refine (cat_rows (B := 96) _ _ _ r 1 _ rfl 96 rfl k rfl).trans ?_
  refine congrArg (codeM cp (ix2 k r) * ·) ((rep6 _ _ k r).trans ?_)
  exact congrArg₂ (fun a b : EReal => a - b) (row_bcast st _ r) (s1_apply st _ r)

theorem lhs_3 (p : Fin 16) (r : Fin 4096) :
    lhs cp bd st (ix2 (⟨192 + p.val, by omega⟩ : Fin 208) r) = if p.val < 8 then bd (ix2 0 r) else 1 := by
  unfold lhs
  refine (cat_rows (B := 16) _ _ _ r 2 _ rfl 192 rfl p rfl).trans ?_
  have h1 : Ideal.ofBits .f32 0x3F800000#32 = 1 := by
    have e1 : (0x3F800000#32).extractLsb' 31 1 = 0#1 := by decide
    have e2 : (1065353216 : ℕ) >>> 23 % 256 = 127 := by decide
    norm_num [Ideal.ofBits, Ideal.ieee, e1, e2]
  show Scalar.select (IntOp.cmpi .slt (iota .tc S16x4096 32 [0] iota_S16x4096_d0_w32 (ix2 p r)) 8#32) (k0_pay915 bd (ix2 p r)) (Ideal.ofBits .f32 0x3F800000#32) = _
  rw [row_bcast', h1]
  have hi : ∀ p : Fin 16, IntOp.cmpi .slt (BitVec.ofNat 32 p.val) 8#32 = if p.val < 8 then 1#1 else 0#1 := by decide
  have hio : iota .tc S16x4096 32 [0] iota_S16x4096_d0_w32 (ix2 p r) = BitVec.ofNat 32 p.val := by pointwise
  rw [hio, hi]
  unfold Scalar.select
  by_cases hp : p.val < 8 <;> simp [hp]

/-- The product is the sum over the 208 rows. -/
theorem score_apply (r : Fin 4096) (q : Fin 256) :
    score w cp bd st (ix2 r q) = ∑ k : Fin 208, lhs cp bd st (ix2 k r) * w (ix2 k q) := by
  have h0 : Ideal.ofBits .f32 0x00000000#32 = 0 := by simp [Ideal.ofBits, Ideal.ieee]
  refine (Ideal.matmul_apply₁_of dot_S208x4096_S208x256_S4096x256_0_0_1_1_n_n (a := 0) rfl (K := 208) rfl (lhs cp bd st) w _ (ix2 r q)
    (fun k => ix2 k r) (fun k => ix2 k q) (fun k => ?_) (fun k => ?_)).trans ?_
  · rw [Shape.Idx.norm_def]; funext a; match a with | ⟨0, _⟩ => rfl | ⟨1, _⟩ => rfl
  · rw [Shape.Idx.norm_def]; funext a; match a with | ⟨0, _⟩ => rfl | ⟨1, _⟩ => rfl
  · show Ideal.ofBits .f32 0x00000000#32 + _ = _
    rw [h0, zero_add]

/-- The product, given what the table holds: the step size times the queries' sum over the codes, the bound times the
    query's sum, and the query's product with the centroid. -/
theorem score_eq (r : Fin 4096) (q : Fin 256) (s : ℝ) (hs : st (ix2 0 r) = (s : EReal)) (x : Fin 96 → EReal) (hx : ∀ k, ∃ a : ℝ, x k = (a : EReal))
    (S Q : EReal) (h1 : ∀ k : Fin 96, w (ix2 (⟨k.val, by omega⟩ : Fin 208) q) = x ⟨dimK k.val, dimK_lt k⟩)
    (h2 : ∀ k : Fin 96, w (ix2 (⟨96 + k.val, by omega⟩ : Fin 208) q) = x ⟨dimK k.val, dimK_lt k⟩)
    (h3 : ∀ p : Fin 16, w (ix2 (⟨192 + p.val, by omega⟩ : Fin 208) q) = if p.val = 0 then S else if p.val = 8 then Q else 0) :
    score w cp bd st (ix2 r q) = Q + bd (ix2 0 r) * S
      + (s : EReal) * ∑ d : Fin 96, ((nib (cp (ix2 (⟨d.val / 2, by omega⟩ : Fin 48) r)) (d.val % 2) : ℝ) : EReal) * x d := by
  rw [score_apply]
  have hsplit := Fin.sum_univ_add (a := 96) (b := 96 + 16) (fun k : Fin 208 => lhs cp bd st (ix2 k r) * w (ix2 k q))
  have hsplit' := Fin.sum_univ_add (a := 96) (b := 16) (fun k : Fin (96 + 16) => lhs cp bd st (ix2 (Fin.natAdd 96 k : Fin 208) r) * w (ix2 (Fin.natAdd 96 k : Fin 208) q))
  rw [hsplit, hsplit']
  have e1 : ∀ k : Fin 96, lhs cp bd st (ix2 (Fin.castAdd (96 + 16) k : Fin 208) r) * w (ix2 (Fin.castAdd (96 + 16) k : Fin 208) q)
      = codeM cp (ix2 k r) * s1of (st (ix2 0 r)) * x ⟨dimK k.val, dimK_lt k⟩ := fun k =>
    congrArg₂ (· * ·) (lhs_1 cp bd st k r) (h1 k)
  have e2 : ∀ k : Fin 96, lhs cp bd st (ix2 (Fin.natAdd 96 (Fin.castAdd 16 k) : Fin 208) r) * w (ix2 (Fin.natAdd 96 (Fin.castAdd 16 k) : Fin 208) q)
      = codeM cp (ix2 k r) * (st (ix2 0 r) - s1of (st (ix2 0 r))) * x ⟨dimK k.val, dimK_lt k⟩ := fun k =>
    congrArg₂ (· * ·) (lhs_2 cp bd st k r) (h2 k)
  have e3 : ∀ p : Fin 16, lhs cp bd st (ix2 (Fin.natAdd 96 (Fin.natAdd 96 p) : Fin 208) r) * w (ix2 (Fin.natAdd 96 (Fin.natAdd 96 p) : Fin 208) q)
      = (if p.val < 8 then bd (ix2 0 r) else 1) * (if p.val = 0 then S else if p.val = 8 then Q else 0) := fun p => by
    have hh : (Fin.natAdd 96 (Fin.natAdd 96 p) : Fin 208) = ⟨192 + p.val, by omega⟩ := Fin.ext (by show 96 + (96 + p.val) = 192 + p.val; omega)
    rw [hh, lhs_3, h3]
  rw [Finset.sum_congr rfl fun k _ => e1 k, Finset.sum_congr rfl fun k _ => e2 k, Finset.sum_congr rfl fun k _ => e3 k]
  obtain ⟨t, ht⟩ := s1of_real s
  simp only [codeM_apply, hs, ht, ← EReal.coe_sub]
  rw [sum_scale (fun k => x ⟨dimK k.val, dimK_lt k⟩) (fun k => hx _) (fun k => nib (cp (ix2 (⟨dimK k.val / 2, dimK_half k⟩ : Fin 48) r)) (dimK k.val % 2)) t,
    sum_scale (fun k => x ⟨dimK k.val, dimK_lt k⟩) (fun k => hx _) (fun k => nib (cp (ix2 (⟨dimK k.val / 2, dimK_half k⟩ : Fin 48) r)) (dimK k.val % 2)) (s - t)]
  rw [sum_dimK (fun d : Fin 96 => ((nib (cp (ix2 (⟨d.val / 2, by omega⟩ : Fin 48) r)) (d.val % 2) : ℝ) : EReal) * x d)]
  obtain ⟨p, hp⟩ := sum_real x hx (fun d => nib (cp (ix2 (⟨d.val / 2, by omega⟩ : Fin 48) r)) (d.val % 2))
  rw [hp]
  have e16 : (∑ p : Fin 16, (if p.val < 8 then bd (ix2 0 r) else 1) * (if p.val = 0 then S else if p.val = 8 then Q else 0)) = bd (ix2 0 r) * S + Q := by
    simp [Fin.sum_univ_succ]
  rw [e16, ← add_assoc, ← EReal.coe_mul, ← EReal.coe_mul, ← EReal.coe_add, ← EReal.coe_mul]
  rw [show t * p + (s - t) * p = s * p by ring, add_comm, add_comm Q]

end Rows
end Cert.Value
end
-- ==== Proof.Value.Table.lean ====
module

public import proofs.«01_k».proof.Proof.Value.Codes
public import proofs.«01_k».proof.Proof.KernelIdeal.Step

/-! What the first step's table holds: the queries twice, then each query's sum and its product with the centroid. -/

@[expose] public section

noncomputable section

namespace Cert.Value

open Cert.KernelIdeal Cert.KernelIdeal.Gen Cert.KernelIdeal.Hand
open Idealize.ShloMosaic hiding ix1 ix2 ix3 ix4
open Idealize.ShloMosaic.ValueIdx
open Idealize.ShloMosaic.TcCoe

/-- A load from a scratch buffer whose last store filled it. -/
theorem xf_read (inb) (v : S96x128.Idx → Elt Ideal .f32) (L : List (View.Piece (Elt Ideal) S96x128 .f32)) (B : LoadRect S96x128) (j : B.shape.Idx) :
    xfM.view.readCov (⟨Rect.unit (s := S96x128) ![0, 0] S96x128.size inb, v⟩ :: L) B j = v (B.idx j) := by
  have e : (Rect.unit (s := S96x128) ![0, 0] S96x128.size inb).emb (B.idx j) = B.idx j := by
    funext a
    match a with
    | ⟨0, _⟩ => exact Fin.ext ((Nat.zero_add _).trans (Nat.one_mul _))
    | ⟨1, _⟩ => exact Fin.ext ((Nat.zero_add _).trans (Nat.one_mul _))
  have h := View.read_writes_cons_emb (Val := Elt Ideal) xfM.view xfM.view.junk (Rect.unit (s := S96x128) ![0, 0] S96x128.size inb) v L (B.idx j)
  rw [e] at h
  exact h

/-- A load of every fourth row. -/
theorem strided_idx (o : ℕ) {n : ℕ} (inb) (p : Fin n) (l : Fin 128) (ho : o + 4 * p.val < 96) :
    ({ off := ![o, 0], size := (⟨2, ![n, 128]⟩ : Shape).size, stride := ![4, 1], inb := inb } : LoadRect S96x128).idx (ix2 p l) = ix2 (⟨o + 4 * p.val, ho⟩ : Fin 96) l := by
  funext a
  match a with
  | ⟨0, _⟩ => rfl
  | ⟨1, _⟩ => exact Fin.ext (by show 0 + 1 * l.val = l.val; omega)

/-- The queries' rows in the codes' order. -/
theorem pay12_apply (v0 v1 v2 v3 : Vec Ideal S16x128 .f32) (w0 w1 w2 w3 : Vec Ideal S8x128 .f32) (G : ℕ → Fin 128 → EReal)
    (h0 : ∀ p l, v0 (ix2 p l) = G (0 + 4 * p.val) l) (h1 : ∀ p l, v1 (ix2 p l) = G (1 + 4 * p.val) l)
    (h2 : ∀ p l, v2 (ix2 p l) = G (2 + 4 * p.val) l) (h3 : ∀ p l, v3 (ix2 p l) = G (3 + 4 * p.val) l)
    (h4 : ∀ p l, w0 (ix2 p l) = G (64 + 4 * p.val) l) (h5 : ∀ p l, w1 (ix2 p l) = G (66 + 4 * p.val) l)
    (h6 : ∀ p l, w2 (ix2 p l) = G (65 + 4 * p.val) l) (h7 : ∀ p l, w3 (ix2 p l) = G (67 + 4 * p.val) l)
    (k : Fin 96) (l : Fin 128) : k0_pay13 (F := Ideal) v0 v1 v2 v3 w0 w1 w2 w3 (ix2 k l) = G (dimK k.val) l := by
  unfold k0_pay13
  rw [shapeCast_self]
  unfold k0_pay12
  show concatenate S96x128 0 [⟨S16x128, v0⟩, ⟨S16x128, v1⟩, ⟨S16x128, v2⟩, ⟨S16x128, v3⟩, ⟨S8x128, w0⟩, ⟨S8x128, w1⟩, ⟨S8x128, w2⟩, ⟨S8x128, w3⟩] concatenates_S16x128_S16x128_S16x128_S16x128_S8x128_S8x128_S8x128_S8x128_S96x128_d0 (ix2 k l) = _
  obtain ⟨k, hk⟩ := k
  by_cases hlt : k < 64
  · have hg : k / 16 = 0 ∨ k / 16 = 1 ∨ k / 16 = 2 ∨ k / 16 = 3 := by omega
    have hd : dimK k = k / 16 + 4 * (k % 16) := by unfold dimK; simp only [hlt, if_true]; omega
    show _ = G (dimK k) l
    rw [hd]
    rcases hg with hg | hg | hg | hg <;> rw [hg]
    · exact (cat_rows (B := 16) _ _ _ l 0 v0 rfl 0 rfl ⟨k % 16, by omega⟩ (by show 0 + k % 16 = k; omega)).trans (h0 _ _)
    · exact (cat_rows (B := 16) _ _ _ l 1 v1 rfl 16 rfl ⟨k % 16, by omega⟩ (by show 16 + k % 16 = k; omega)).trans (h1 _ _)
    · exact (cat_rows (B := 16) _ _ _ l 2 v2 rfl 32 rfl ⟨k % 16, by omega⟩ (by show 32 + k % 16 = k; omega)).trans (h2 _ _)
    · exact (cat_rows (B := 16) _ _ _ l 3 v3 rfl 48 rfl ⟨k % 16, by omega⟩ (by show 48 + k % 16 = k; omega)).trans (h3 _ _)
  · have hg : k / 8 = 8 ∨ k / 8 = 9 ∨ k / 8 = 10 ∨ k / 8 = 11 := by omega
    show _ = G (dimK k) l
    rcases hg with hg | hg | hg | hg
    · rw [show dimK k = 64 + 4 * (k % 8) by unfold dimK; rw [if_neg hlt]; split <;> omega]
      exact (cat_rows (B := 8) _ _ _ l 4 w0 rfl 64 rfl ⟨k % 8, by omega⟩ (by show 64 + k % 8 = k; omega)).trans (h4 _ _)
    · rw [show dimK k = 66 + 4 * (k % 8) by unfold dimK; rw [if_neg hlt]; split <;> omega]
      exact (cat_rows (B := 8) _ _ _ l 5 w1 rfl 72 rfl ⟨k % 8, by omega⟩ (by show 72 + k % 8 = k; omega)).trans (h5 _ _)
    · rw [show dimK k = 65 + 4 * (k % 8) by unfold dimK; rw [if_neg hlt]; split <;> omega]
      exact (cat_rows (B := 8) _ _ _ l 6 w2 rfl 80 rfl ⟨k % 8, by omega⟩ (by show 80 + k % 8 = k; omega)).trans (h6 _ _)
    · rw [show dimK k = 67 + 4 * (k % 8) by unfold dimK; rw [if_neg hlt]; split <;> omega]
      exact (cat_rows (B := 8) _ _ _ l 7 w3 rfl 88 rfl ⟨k % 8, by omega⟩ (by show 88 + k % 8 = k; omega)).trans (h7 _ _)

/-- The last sixteen rows. -/
theorem pay15_apply (a b c d e f : FVec Ideal S1x128 .f32) (hb : ∀ l, b (ix2 0 l) = (0 : EReal)) (hc : ∀ l, c (ix2 0 l) = (0 : EReal)) (he : ∀ l, e (ix2 0 l) = (0 : EReal)) (hf : ∀ l, f (ix2 0 l) = (0 : EReal))
    (p : Fin 16) (l : Fin 128) : k0_pay15 (F := Ideal) a b c d e f (ix2 p l) = if p.val = 0 then a (ix2 0 l) else if p.val = 8 then d (ix2 0 l) else (0 : EReal) := by
  unfold k0_pay15
  rw [shapeCast_self]
  show concatenate S16x128 0 [⟨S1x128, a⟩, ⟨S1x128, b⟩, ⟨S1x128, c⟩, ⟨S5x128, broadcast S5x128 (Scalar.ofBits (F := Ideal) .f32 0x00000000#32)⟩, ⟨S1x128, d⟩, ⟨S1x128, e⟩, ⟨S1x128, f⟩, ⟨S5x128, broadcast S5x128 (Scalar.ofBits (F := Ideal) .f32 0x00000000#32)⟩] concatenates_S1x128_S1x128_S1x128_S5x128_S1x128_S1x128_S1x128_S5x128_S16x128_d0 (ix2 p l) = _
  have hz : ∀ i, (broadcast S5x128 (Scalar.ofBits (F := Ideal) .f32 0x00000000#32) : FVec Ideal S5x128 .f32) i = (0 : EReal) := fun _ => Ideal.ofBits_zero_f32
  obtain ⟨p, hp⟩ := p
  have hg : p = 0 ∨ p = 1 ∨ p = 2 ∨ (3 ≤ p ∧ p < 8) ∨ p = 8 ∨ p = 9 ∨ p = 10 ∨ (11 ≤ p ∧ p < 16) := by omega
  rcases hg with h | h | h | h | h | h | h | h
  · subst h; exact cat_rows (B := 1) _ _ _ l 0 a rfl 0 rfl 0 rfl
  · subst h; exact (cat_rows (B := 1) _ _ _ l 1 b rfl 1 rfl 0 rfl).trans (hb l)
  · subst h; exact (cat_rows (B := 1) _ _ _ l 2 c rfl 2 rfl 0 rfl).trans (hc l)
  · rw [if_neg (by show ¬ p = 0; omega), if_neg (by show ¬ p = 8; omega)]
    exact (cat_rows (B := 5) _ _ _ l 3 _ rfl 3 rfl ⟨p - 3, by omega⟩ (by show 3 + (p - 3) = p; omega)).trans (hz _)
  · subst h; exact cat_rows (B := 1) _ _ _ l 4 d rfl 8 rfl 0 rfl
  · subst h; exact (cat_rows (B := 1) _ _ _ l 5 e rfl 9 rfl 0 rfl).trans (he l)
  · subst h; exact (cat_rows (B := 1) _ _ _ l 6 f rfl 10 rfl 0 rfl).trans (hf l)
  · rw [if_neg (by show ¬ p = 0; omega), if_neg (by show ¬ p = 8; omega)]
    exact (cat_rows (B := 5) _ _ _ l 7 _ rfl 11 rfl ⟨p - 11, by omega⟩ (by show 11 + (p - 11) = p; omega)).trans (hz _)

section Block
variable (mu : Vec Ideal S1x96 .f32) (X : Vec Ideal S1x96x128 .bf16)

theorem pay2_apply (d : Fin 96) (l : Fin 128) : k0_pay2 (F := Ideal) X (ix2 d l) = X (ix3 0 d l) := by
  unfold k0_pay2
  show shapeCast S96x128 X _ (ix2 d l) = _
  pointwise
  rfl

theorem pay3_apply (d : Fin 96) (l : Fin 128) : k0_pay3 (F := Ideal) X (ix2 d l) = X (ix3 0 d l) := by
  unfold k0_pay3
  rw [shapeCast_self]
  exact pay2_apply X d l

theorem pay1_apply (d : Fin 96) (l : Fin 128) : k0_pay1 (F := Ideal) mu (ix2 d l) = mu (ix2 0 d) := by
  unfold k0_pay1
  rw [shapeCast_self, shapeCast_self]
  pointwise
  rfl

theorem sum_apply (v : FVec Ideal S96x128 .f32) (l : Fin 128) :
    shapeCast S1x128 (multiReduction .add [0] S128 v 0x00000000#32 reduces_S96x128_S128 (.inl rfl) rfl) shapeCasts_S128_S1x128 (ix2 0 l) = ∑ d : Fin 96, v (ix2 d l) := by
  pointwise
  rfl

theorem pay4_apply (l : Fin 128) : k0_pay4 (F := Ideal) X (ix2 0 l) = ∑ d : Fin 96, X (ix3 0 d l) :=
  (sum_apply _ l).trans (Finset.sum_congr rfl fun d _ => pay2_apply X d l)

theorem pay8_apply (l : Fin 128) : k0_pay8 (F := Ideal) mu X (ix2 0 l) = ∑ d : Fin 96, X (ix3 0 d l) * mu (ix2 0 d) :=
  (sum_apply _ l).trans (Finset.sum_congr rfl fun d _ => congrArg₂ (fun a b : EReal => a * b) (pay2_apply X d l) (pay1_apply mu d l))

theorem sub_self_real {v : EReal} (h : ∃ r : ℝ, v = (r : EReal)) : v - v = 0 := by
  obtain ⟨r, rfl⟩ := h
  rw [← EReal.coe_sub, sub_self]; rfl

variable (hX : ∀ d l, ∃ r : ℝ, X (ix3 0 d l) = (r : EReal)) (hmu : ∀ d, ∃ r : ℝ, mu (ix2 0 d) = (r : EReal))

include hX in
theorem s_real (l : Fin 128) : ∃ r : ℝ, k0_pay4 (F := Ideal) X (ix2 0 l) = (r : EReal) := by
  choose x hx using hX
  rw [pay4_apply]
  simp only [hx]
  exact ⟨_, (coe_sum _).symm⟩

include hX hmu in
theorem q_real (l : Fin 128) : ∃ r : ℝ, k0_pay8 (F := Ideal) mu X (ix2 0 l) = (r : EReal) := by
  choose x hx using hX
  choose m hm using hmu
  rw [pay8_apply]
  simp only [hx, hm, ← EReal.coe_mul]
  exact ⟨_, (coe_sum _).symm⟩

include hX hmu in
/-- The last sixteen rows hold the sum and the product, each in one row. -/
theorem rows_apply (p : Fin 16) (l : Fin 128) :
    k0_pay15 (F := Ideal) (k0_pay5 X) (k0_pay6 X) (k0_pay7 X) (k0_pay9 mu X) (k0_pay10 mu X) (k0_pay11 mu X) (ix2 p l)
      = if p.val = 0 then ∑ d : Fin 96, X (ix3 0 d l) else if p.val = 8 then ∑ d : Fin 96, X (ix3 0 d l) * mu (ix2 0 d) else (0 : EReal) := by
  have z6 : ∀ l, k0_pay6 (F := Ideal) X (ix2 0 l) = (0 : EReal) := fun l => sub_self_real (s_real X hX l)
  have z10 : ∀ l, k0_pay10 (F := Ideal) mu X (ix2 0 l) = (0 : EReal) := fun l => sub_self_real (q_real mu X hX hmu l)
  rw [← pay4_apply, ← pay8_apply]
  refine pay15_apply _ _ _ _ _ _ z6 (fun l => ?_) z10 (fun l => ?_) p l
  · show (k0_pay6 (F := Ideal) X (ix2 0 l) : EReal) - k0_pay6 (F := Ideal) X (ix2 0 l) = 0
    rw [z6, sub_zero]
  · show (k0_pay10 (F := Ideal) mu X (ix2 0 l) : EReal) - k0_pay10 (F := Ideal) mu X (ix2 0 l) = 0
    rw [z10, sub_zero]

end Block

/-- What the table holds at a row and a query. -/
def tab (x : S2x96x128.Idx → EReal) (mu : S1x96.Idx → EReal) (k : Fin 208) (q : Fin 256) : EReal :=
  if k.val < 192 then x (ix3 (⟨q.val / 128, by omega⟩ : Fin 2) (⟨dimK (k.val % 96), dimK_lt ⟨k.val % 96, by omega⟩⟩ : Fin 96) (⟨q.val % 128, by omega⟩ : Fin 128))
  else if k.val - 192 = 0 then ∑ d : Fin 96, x (ix3 (⟨q.val / 128, by omega⟩ : Fin 2) d (⟨q.val % 128, by omega⟩ : Fin 128))
  else if k.val - 192 = 8 then ∑ d : Fin 96, x (ix3 (⟨q.val / 128, by omega⟩ : Fin 2) d (⟨q.val % 128, by omega⟩ : Fin 128)) * mu (ix2 0 d)
  else 0

/-- A piece of the table, at one of its own places. -/
theorem piece_emb {A n : ℕ} (a b : ℕ) (inb) (x : (⟨2, ![A, n]⟩ : Shape).Idx) (h0 : a + (x 0).val < 208) (h1 : b + (x 1).val < 256) :
    (Rect.unit (s := S208x256) ![a, b] (⟨2, ![A, n]⟩ : Shape).size inb).emb x = ix2 (⟨a + (x 0).val, h0⟩ : Fin 208) (⟨b + (x 1).val, h1⟩ : Fin 256) := by
  funext c
  match c with
  | ⟨0, _⟩ => exact Fin.ext (by show a + 1 * (x 0).val = a + (x 0).val; omega)
  | ⟨1, _⟩ => exact Fin.ext (by show b + 1 * (x 1).val = b + (x 1).val; omega)

section Table
variable (c : Dev nD) (arg2 : Memref sig .tc .vmem S2x96x128 .bf16) (arg3 : Memref sig .tc .vmem S1x96 .f32)
  (f2 : Buf (Elt Ideal) (arg2.view.loc (c : Thread nD τ))) (f3 : Buf (Elt Ideal) (arg3.view.loc (c : Thread nD τ)))
  (x : S2x96x128.Idx → EReal) (mu : S1x96.Idx → EReal)

/-- A batch of the queries, as the body loads it. -/
theorem load_x (b : ℕ) (hb : b < 2) (inb) (d : Fin 96) (l : Fin 128) (hx : arg2.view.read (Elt Ideal) f2 = x) :
    arg2.view.readAt (Elt Ideal) (Rect.unit (s := S2x96x128) ![b, 0, 0] S1x96x128.size inb).toLoadRect f2 (ix3 0 d l) = x (ix3 (⟨b, hb⟩ : Fin 2) d l) := by
  rw [← hx]
  show arg2.view.read (Elt Ideal) f2 _ = _
  congr 1
  funext a
  match a with
  | ⟨0, _⟩ => rfl
  | ⟨1, _⟩ => exact Fin.ext (by show 0 + 1 * d.val = d.val; omega)
  | ⟨2, _⟩ => exact Fin.ext (by show 0 + 1 * l.val = l.val; omega)

theorem load_mu (inb) (d : Fin 96) (hm : arg3.view.read (Elt Ideal) f3 = mu) :
    arg3.view.readAt (Elt Ideal) (Rect.unit (s := S1x96) ![0, 0] S1x96.size inb).toLoadRect f3 (ix2 0 d) = mu (ix2 0 d) := by
  rw [← hm]
  show arg3.view.read (Elt Ideal) f3 _ = _
  congr 1
  funext a
  match a with
  | ⟨0, _⟩ => rfl
  | ⟨1, _⟩ => exact Fin.ext (by show 0 + 1 * d.val = d.val; omega)

/-- Two batches' rows of the table. -/
theorem tab_top (a b : ℕ) (ha : a = 0 ∨ a = 96) (hb : b < 2) (k : Fin 96) (l : Fin 128) (h0 h1) :
    tab x mu ⟨a + k.val, h0⟩ ⟨128 * b + l.val, h1⟩ = x (ix3 (⟨b, hb⟩ : Fin 2) (⟨dimK k.val, dimK_lt k⟩ : Fin 96) l) := by
  have e1 : (128 * b + l.val) / 128 = b := by omega
  have e2 : (128 * b + l.val) % 128 = l.val := by omega
  have e3 : (a + k.val) % 96 = k.val := by omega
  unfold tab
  rw [if_pos (by show a + k.val < 192; omega)]
  simp only [e1, e2, e3]

theorem tab_low (b : ℕ) (hb : b < 2) (p : Fin 16) (l : Fin 128) (h0 h1) :
    tab x mu ⟨192 + p.val, h0⟩ ⟨128 * b + l.val, h1⟩ = if p.val = 0 then ∑ d : Fin 96, x (ix3 (⟨b, hb⟩ : Fin 2) d l)
      else if p.val = 8 then ∑ d : Fin 96, x (ix3 (⟨b, hb⟩ : Fin 2) d l) * mu (ix2 0 d) else 0 := by
  have e1 : (128 * b + l.val) / 128 = b := by omega
  have e2 : (128 * b + l.val) % 128 = l.val := by omega
  have e3 : 192 + p.val - 192 = p.val := by omega
  unfold tab
  rw [if_neg (by show ¬ 192 + p.val < 192; omega)]
  simp only [e1, e2, e3]

/-- A piece of the table's writes agrees with the table. -/
theorem piece_ok {A n : ℕ} (a b : ℕ) (inb) (hA : a + A ≤ 208) (hn : b + n ≤ 256) (w : (⟨2, ![A, n]⟩ : Shape).Idx → EReal)
    (h : ∀ (p : Fin A) (l : Fin n), w (ix2 p l) = tab x mu ⟨a + p.val, by omega⟩ ⟨b + l.val, by omega⟩) (xx : (⟨2, ![A, n]⟩ : Shape).Idx) :
    w xx = (fun y : S208x256.Idx => tab x mu (y 0) (y 1)) ((Rect.unit (s := S208x256) ![a, b] (⟨2, ![A, n]⟩ : Shape).size inb).emb xx) := by
  have h0 : (xx 0).val < A := (xx 0).isLt
  have h1 : (xx 1).val < n := (xx 1).isLt
  rw [piece_emb a b inb xx (by omega) (by omega)]
  have e : xx = ix2 (⟨(xx 0).val, h0⟩ : Fin A) (⟨(xx 1).val, h1⟩ : Fin n) := by
    funext c
    match c with
    | ⟨0, _⟩ => rfl
    | ⟨1, _⟩ => rfl
  exact (congrArg w e).trans (h _ _)

/-- A batch's rows, from what the scratch buffer holds. -/
theorem top_rows (b : ℕ) (hb : b < 2) (X : Vec Ideal S1x96x128 .bf16) (hX : ∀ d l, X (ix3 0 d l) = x (ix3 (⟨b, hb⟩ : Fin 2) d l))
    (inb) (L : List (View.Piece (Elt Ideal) S96x128 .f32)) (i0 i1 i2 i3 i4 i5 i6 i7) (k : Fin 96) (l : Fin 128) :
    k0_pay13 (F := Ideal)
      (xfM.view.readCov (⟨Rect.unit (s := S96x128) ![0, 0] S96x128.size inb, k0_pay3 (F := Ideal) X⟩ :: L) { off := ![0, 0], size := S16x128.size, stride := ![4, 1], inb := i0 })
      (xfM.view.readCov (⟨Rect.unit (s := S96x128) ![0, 0] S96x128.size inb, k0_pay3 (F := Ideal) X⟩ :: L) { off := ![1, 0], size := S16x128.size, stride := ![4, 1], inb := i1 })
      (xfM.view.readCov (⟨Rect.unit (s := S96x128) ![0, 0] S96x128.size inb, k0_pay3 (F := Ideal) X⟩ :: L) { off := ![2, 0], size := S16x128.size, stride := ![4, 1], inb := i2 })
      (xfM.view.readCov (⟨Rect.unit (s := S96x128) ![0, 0] S96x128.size inb, k0_pay3 (F := Ideal) X⟩ :: L) { off := ![3, 0], size := S16x128.size, stride := ![4, 1], inb := i3 })
      (xfM.view.readCov (⟨Rect.unit (s := S96x128) ![0, 0] S96x128.size inb, k0_pay3 (F := Ideal) X⟩ :: L) { off := ![64, 0], size := S8x128.size, stride := ![4, 1], inb := i4 })
      (xfM.view.readCov (⟨Rect.unit (s := S96x128) ![0, 0] S96x128.size inb, k0_pay3 (F := Ideal) X⟩ :: L) { off := ![66, 0], size := S8x128.size, stride := ![4, 1], inb := i5 })
      (xfM.view.readCov (⟨Rect.unit (s := S96x128) ![0, 0] S96x128.size inb, k0_pay3 (F := Ideal) X⟩ :: L) { off := ![65, 0], size := S8x128.size, stride := ![4, 1], inb := i6 })
      (xfM.view.readCov (⟨Rect.unit (s := S96x128) ![0, 0] S96x128.size inb, k0_pay3 (F := Ideal) X⟩ :: L) { off := ![67, 0], size := S8x128.size, stride := ![4, 1], inb := i7 })
      (ix2 k l) = x (ix3 (⟨b, hb⟩ : Fin 2) (⟨dimK k.val, dimK_lt k⟩ : Fin 96) l) := by
  have hr : ∀ (o n : ℕ) (inb') (p : Fin n) (l : Fin 128) (ho : o + 4 * p.val < 96),
      xfM.view.readCov (⟨Rect.unit (s := S96x128) ![0, 0] S96x128.size inb, k0_pay3 (F := Ideal) X⟩ :: L) { off := ![o, 0], size := (⟨2, ![n, 128]⟩ : Shape).size, stride := ![4, 1], inb := inb' } (ix2 p l)
        = if h : o + 4 * p.val < 96 then x (ix3 (⟨b, hb⟩ : Fin 2) ⟨o + 4 * p.val, h⟩ l) else 0 := by
    intro o n inb' p l ho
    rw [dif_pos ho]
    refine (xf_read inb _ L _ _).trans ?_
    rw [strided_idx o inb' p l ho]
    exact (pay3_apply X _ l).trans (hX _ l)
  refine (pay12_apply _ _ _ _ _ _ _ _ (fun j l => if h : j < 96 then x (ix3 (⟨b, hb⟩ : Fin 2) ⟨j, h⟩ l) else 0) (fun p l => hr 0 16 _ p l (by omega)) (fun p l => hr 1 16 _ p l (by omega))
    (fun p l => hr 2 16 _ p l (by omega)) (fun p l => hr 3 16 _ p l (by omega)) (fun p l => hr 64 8 _ p l (by omega)) (fun p l => hr 66 8 _ p l (by omega))
    (fun p l => hr 65 8 _ p l (by omega)) (fun p l => hr 67 8 _ p l (by omega)) k l).trans ?_
  exact dif_pos (dimK_lt k)

/-- The table, after the first step's six stores. -/
theorem table_apply (hx : arg2.view.read (Elt Ideal) f2 = x) (hm : arg3.view.read (Elt Ideal) f3 = mu) (hxr : ∀ i, ∃ r : ℝ, x i = (r : EReal)) (hmr : ∀ i, ∃ r : ℝ, mu i = (r : EReal))
    (k : Fin 208) (q : Fin 256) : ldW c (firstW c arg2 arg3 f2 f3) (ix2 k q) = tab x mu k q := by
  have e : (Rect.unit (s := S208x256) ![0, 0] S208x256.size inb_S208x256_S208x256_0_0).toLoadRect.idx (ix2 k q) = ix2 k q := by
    funext a
    match a with
    | ⟨0, _⟩ => exact Fin.ext (by show 0 + 1 * k.val = k.val; omega)
    | ⟨1, _⟩ => exact Fin.ext (by show 0 + 1 * q.val = q.val; omega)
  show wM.view.read (Elt Ideal) _ ((Rect.unit (s := S208x256) ![0, 0] S208x256.size inb_S208x256_S208x256_0_0).toLoadRect.idx (ix2 k q)) = _
  rw [e]
  have low : ∀ (b : ℕ) (hb : b < 2) (inb) (inb'), ∀ (p : Fin 16) (l : Fin 128),
      k0_pay15 (F := Ideal) (k0_pay5 (arg2.view.readAt (Elt Ideal) (Rect.unit (s := S2x96x128) ![b, 0, 0] S1x96x128.size inb).toLoadRect f2))
        (k0_pay6 (arg2.view.readAt (Elt Ideal) (Rect.unit (s := S2x96x128) ![b, 0, 0] S1x96x128.size inb).toLoadRect f2))
        (k0_pay7 (arg2.view.readAt (Elt Ideal) (Rect.unit (s := S2x96x128) ![b, 0, 0] S1x96x128.size inb).toLoadRect f2))
        (k0_pay9 (arg3.view.readAt (Elt Ideal) (Rect.unit (s := S1x96) ![0, 0] S1x96.size inb').toLoadRect f3) (arg2.view.readAt (Elt Ideal) (Rect.unit (s := S2x96x128) ![b, 0, 0] S1x96x128.size inb).toLoadRect f2))
        (k0_pay10 (arg3.view.readAt (Elt Ideal) (Rect.unit (s := S1x96) ![0, 0] S1x96.size inb').toLoadRect f3) (arg2.view.readAt (Elt Ideal) (Rect.unit (s := S2x96x128) ![b, 0, 0] S1x96x128.size inb).toLoadRect f2))
        (k0_pay11 (arg3.view.readAt (Elt Ideal) (Rect.unit (s := S1x96) ![0, 0] S1x96.size inb').toLoadRect f3) (arg2.view.readAt (Elt Ideal) (Rect.unit (s := S2x96x128) ![b, 0, 0] S1x96x128.size inb).toLoadRect f2))
        (ix2 p l) = tab x mu ⟨192 + p.val, by omega⟩ ⟨128 * b + l.val, by omega⟩ := by
    intro b hb inb inb' p l
    rw [tab_low x mu b hb p l]
    refine (rows_apply _ _ (fun d l => ?_) (fun d => ?_) p l).trans ?_
    · rw [load_x c arg2 f2 x b hb inb d l hx]; exact hxr _
    · rw [load_mu c arg3 f3 mu inb' d hm]; exact hmr _
    · simp only [load_x c arg2 f2 x b hb inb _ l hx, load_mu c arg3 f3 mu inb' _ hm]
  refine View.read_writes_apply_of_pieces wM.view wM.view.junk (fun y : S208x256.Idx => tab x mu (y 0) (y 1)) (tabs.sl.H13_6 c arg2 arg3 f2 f3) (fun p hp => ?_) (ix2 k q) ?_
  · unfold tabs.sl.H13_6 tabs.sl.H13_3 at hp
    simp only [List.mem_cons, List.not_mem_nil, or_false] at hp
    rcases hp with rfl | rfl | rfl | rfl | rfl | rfl
    · exact piece_ok x mu (A := 16) (n := 128) 192 128 inb_S208x256_S16x128_192_128 (by omega) (by omega) _ (fun p l => low 1 (by omega) _ _ p l)
    · exact piece_ok x mu (A := 96) (n := 128) 96 128 inb_S208x256_S96x128_96_128 (by omega) (by omega) _ (fun p l => (top_rows x 1 (by omega) _ (fun d l => load_x c arg2 f2 x 1 (by omega) _ d l hx) _ _ _ _ _ _ _ _ _ _ p l).trans (tab_top x mu 96 1 (.inr rfl) (by omega) p l _ _).symm)
    · exact piece_ok x mu (A := 96) (n := 128) 0 128 inb_S208x256_S96x128_0_128 (by omega) (by omega) _ (fun p l => (top_rows x 1 (by omega) _ (fun d l => load_x c arg2 f2 x 1 (by omega) _ d l hx) _ _ _ _ _ _ _ _ _ _ p l).trans (tab_top x mu 0 1 (.inl rfl) (by omega) p l _ _).symm)
    · exact piece_ok x mu (A := 16) (n := 128) 192 0 inb_S208x256_S16x128_192_0 (by omega) (by omega) _ (fun p l => low 0 (by omega) _ _ p l)
    · exact piece_ok x mu (A := 96) (n := 128) 96 0 inb_S208x256_S96x128_96_0 (by omega) (by omega) _ (fun p l => (top_rows x 0 (by omega) _ (fun d l => load_x c arg2 f2 x 0 (by omega) _ d l hx) _ _ _ _ _ _ _ _ _ _ p l).trans (tab_top x mu 96 0 (.inr rfl) (by omega) p l _ _).symm)
    · exact piece_ok x mu (A := 96) (n := 128) 0 0 inb_S208x256_S96x128_0_0 (by omega) (by omega) _ (fun p l => (top_rows x 0 (by omega) _ (fun d l => load_x c arg2 f2 x 0 (by omega) _ d l hx) _ _ _ _ _ _ _ _ _ _ p l).trans (tab_top x mu 0 0 (.inl rfl) (by omega) p l _ _).symm)
  · have hmem : ∀ (A n a b : ℕ) (inb), a ≤ k.val → k.val < a + A → b ≤ q.val → q.val < b + n → ix2 k q ∈ (Rect.unit (s := S208x256) ![a, b] (⟨2, ![A, n]⟩ : Shape).size inb).set := by
      intro A n a b inb h1 h2 h3 h4
      have := piece_emb a b inb (ix2 (⟨k.val - a, by omega⟩ : Fin A) (⟨q.val - b, by omega⟩ : Fin n)) (by show a + (k.val - a) < 208; omega) (by show b + (q.val - b) < 256; omega)
      have e2 : ix2 k q = (Rect.unit (s := S208x256) ![a, b] (⟨2, ![A, n]⟩ : Shape).size inb).emb (ix2 (⟨k.val - a, by omega⟩ : Fin A) (⟨q.val - b, by omega⟩ : Fin n)) := by
        rw [this]
        funext c
        match c with
        | ⟨0, _⟩ => exact Fin.ext (by show k.val = a + (k.val - a); omega)
        | ⟨1, _⟩ => exact Fin.ext (by show q.val = b + (q.val - b); omega)
      rw [e2, ← Rect.map_emb_univ]
      exact Finset.mem_map_of_mem _ (Finset.mem_univ _)
    unfold tabs.sl.H13_6 tabs.sl.H13_3
    have hk := k.isLt
    have hq := q.isLt
    by_cases hq : q.val < 128
    · by_cases h1 : k.val < 96
      · exact ⟨_, .tail _ (.tail _ (.tail _ (.tail _ (.tail _ (.head _))))), hmem 96 128 0 0 inb_S208x256_S96x128_0_0 (by omega) (by omega) (by omega) (by omega)⟩
      · by_cases h2 : k.val < 192
        · exact ⟨_, .tail _ (.tail _ (.tail _ (.tail _ (.head _)))), hmem 96 128 96 0 inb_S208x256_S96x128_96_0 (by omega) (by omega) (by omega) (by omega)⟩
        · exact ⟨_, .tail _ (.tail _ (.tail _ (.head _))), hmem 16 128 192 0 inb_S208x256_S16x128_192_0 (by omega) (by omega) (by omega) (by omega)⟩
    · by_cases h1 : k.val < 96
      · exact ⟨_, .tail _ (.tail _ (.head _)), hmem 96 128 0 128 inb_S208x256_S96x128_0_128 (by omega) (by omega) (by omega) (by omega)⟩
      · by_cases h2 : k.val < 192
        · exact ⟨_, .tail _ (.head _), hmem 96 128 96 128 inb_S208x256_S96x128_96_128 (by omega) (by omega) (by omega) (by omega)⟩
        · exact ⟨_, .head _, hmem 16 128 192 128 inb_S208x256_S16x128_192_128 (by omega) (by omega) (by omega) (by omega)⟩

end Table
end Cert.Value
end
-- ==== Proof.Value.Ref.lean ====
module

public import proofs.«01_k».proof.Proof.Gen.ReferenceIdeal.Run
public import proofs.«01_k».proof.Proof.Value.Num
public import Idealize.ShloMosaic.Lib.ValueIdx
public import Idealize.ShloMosaic.Lib.Pipeline.Value

/-! The reference's first result, read at a place: the query's product with the centroid, the bound times its sum, and the
    step size times its product with the codes. -/

@[expose] public section

noncomputable section

namespace Cert.Value

open Cert.ReferenceIdeal Cert.ReferenceIdeal.Gen
open Idealize.ShloMosaic hiding ix1 ix2 ix3 ix4
open Idealize.ShloMosaic.ValueIdx

variable (x : FVec Ideal S2x128x96 .bf16) (mu : FVec Ideal S96 .f32) (cp : IVec S700000x48 8) (bd st : FVec Ideal S700000 .bf16)

theorem lo_nib : ∀ b : BitVec 8, ((b.setWidth 32 &&& 15#32).toInt) = (nib b 0 : ℤ) := by decide
theorem hi_nib' : ∀ b : BitVec 8, (((b.setWidth 32).sshiftRight' 4#32).toInt) = (nib b 1 : ℤ) := by decide
theorem hi_nib (b : BitVec 8) : (IntOp.shrsi .host (b.setWidth 32) 4#32).toInt = (nib b 1 : ℤ) := by
  rw [← hi_nib' b]
  exact congrArg BitVec.toInt (if_pos (by decide))

/-- The queries, even dimensions first. -/
def xeo : FVec Ideal S2x128x96 .bf16 :=
  concatenate S2x128x96 2 [⟨S2x128x48, (Host.slice S2x128x48 ![0, 0, 0] ![1, 1, 2] x slicesBy_S2x128x96_S2x128x48_0s1_0s1_0s2)⟩, ⟨S2x128x48, (Host.slice S2x128x48 ![0, 0, 1] ![1, 1, 2] x slicesBy_S2x128x96_S2x128x48_0s1_0s1_1s2)⟩] concatenates_S2x128x48_S2x128x48_S2x128x96_d2
/-- The codes, in the same order. -/
def ceo : FVec Ideal S700000x96 .bf16 :=
  concatenate S700000x96 1 [⟨S700000x48, (sitofp .bf16 (andi (extui 32 cp natLt_8_32) (broadcastInDim S700000x48 ![] bcast_S_S700000x48 (constantI S_ 32 15#32))))⟩, ⟨S700000x48, (sitofp .bf16 (Host.shrsi (extui 32 cp natLt_8_32) (broadcastInDim S700000x48 ![] bcast_S_S700000x48 (constantI S_ 32 4#32))))⟩] concatenates_S700000x48_S700000x48_S700000x96_d1

theorem xeo_apply (b : Fin 2) (l : Fin 128) (k : Fin 96) : xeo x (ix3 b l k) = x (ix3 b l (⟨dimR k.val, dimR_lt k⟩ : Fin 96)) := by
  unfold xeo
  obtain ⟨k, hk⟩ := k
  by_cases h : k < 48
  · refine (concatenate_apply_piece (t := S2x128x96) 2 _ _ _ 0 (by show 0 < 2; omega) S2x128x48 _ rfl rfl 0 rfl (ix3 b l (⟨k, h⟩ : Fin 48)) (fun a ha => ?_) (Nat.zero_add _)).trans ?_
    · match a with
      | ⟨0, _⟩ => rfl
      | ⟨1, _⟩ => rfl
      | ⟨2, _⟩ => exact absurd rfl ha
    · show x _ = _
      congr 1
      funext a
      match a with
      | ⟨0, _⟩ => exact Fin.ext (by show 0 + 1 * b.val = b.val; omega)
      | ⟨1, _⟩ => exact Fin.ext (by show 0 + 1 * l.val = l.val; omega)
      | ⟨2, _⟩ => exact Fin.ext (by show 0 + 2 * k = dimR k; unfold dimR; rw [if_pos h]; omega)
  · refine (concatenate_apply_piece (t := S2x128x96) 2 _ _ _ 1 (by show 1 < 2; omega) S2x128x48 _ rfl rfl 48 rfl (ix3 b l (⟨k - 48, by omega⟩ : Fin 48)) (fun a ha => ?_) (by show 48 + (k - 48) = k; omega)).trans ?_
    · match a with
      | ⟨0, _⟩ => rfl
      | ⟨1, _⟩ => rfl
      | ⟨2, _⟩ => exact absurd rfl ha
    · show x _ = _
      congr 1
      funext a
      match a with
      | ⟨0, _⟩ => exact Fin.ext (by show 0 + 1 * b.val = b.val; omega)
      | ⟨1, _⟩ => exact Fin.ext (by show 0 + 1 * l.val = l.val; omega)
      | ⟨2, _⟩ => exact Fin.ext (by show 1 + 2 * (k - 48) = dimR k; unfold dimR; rw [if_neg h]; omega)

theorem ceo_apply (n : Fin 700000) (k : Fin 96) :
    ceo cp (ix2 n k) = ((nib (cp (ix2 n (⟨dimR k.val / 2, by have := dimR_lt k; omega⟩ : Fin 48))) (dimR k.val % 2) : ℝ) : EReal) := by
  unfold ceo
  obtain ⟨k, hk⟩ := k
  by_cases h : k < 48
  · refine (concatenate_apply_piece (t := S700000x96) 1 _ _ _ 0 (by show 0 < 2; omega) S700000x48 _ rfl rfl 0 rfl (ix2 n (⟨k, h⟩ : Fin 48)) (fun a ha => ?_) (Nat.zero_add _)).trans ?_
    · match a with
      | ⟨0, _⟩ => rfl
      | ⟨1, _⟩ => exact absurd rfl ha
    · have e1 : dimR k / 2 = k := by unfold dimR; rw [if_pos h]; omega
      have e2 : dimR k % 2 = 0 := by unfold dimR; rw [if_pos h]; omega
      simp only [e1, e2]
      show ((((cp (ix2 n (⟨k, h⟩ : Fin 48))).setWidth 32 &&& 15#32).toInt : ℝ) : EReal) = _
      rw [lo_nib]
      norm_cast
  · refine (concatenate_apply_piece (t := S700000x96) 1 _ _ _ 1 (by show 1 < 2; omega) S700000x48 _ rfl rfl 48 rfl (ix2 n (⟨k - 48, by omega⟩ : Fin 48)) (fun a ha => ?_) (by show 48 + (k - 48) = k; omega)).trans ?_
    · match a with
      | ⟨0, _⟩ => rfl
      | ⟨1, _⟩ => exact absurd rfl ha
    · have e1 : dimR k / 2 = k - 48 := by unfold dimR; rw [if_neg h]; omega
      have e2 : dimR k % 2 = 1 := by unfold dimR; rw [if_neg h]; omega
      simp only [e1, e2]
      show ((((IntOp.shrsi .host ((cp (ix2 n (⟨k - 48, by omega⟩ : Fin 48))).setWidth 32) 4#32).toInt : ℝ)) : EReal) = _
      rw [hi_nib]
      norm_cast

/-- The reference's first result. -/
def refv : FVec Ideal S2x700000x128 .f32 :=
  transpose S2x700000x128 [0, 2, 1] (addf (addf (broadcastInDim S2x128x700000 ![0, 1, 2] bcast_S2x128x1_S2x128x700000_0_1_2 (broadcastInDim S2x128x1 ![0, 1] bcast_S2x128_S2x128x1_0_1 (Host.dotGeneral dot_S2x128x96_S96_S2x128_2_0_01_n_n_n (some .fp32) (extf .f32 x bitsLt_bf16_f32) mu))) (mulf (broadcastInDim S2x128x700000 ![0, 1, 2] bcast_S1x1x700000_S2x128x700000_0_1_2 (broadcastInDim S1x1x700000 ![2] bcast_S700000_S1x1x700000_2 (extf .f32 bd bitsLt_bf16_f32))) (broadcastInDim S2x128x700000 ![0, 1, 2] bcast_S2x128x1_S2x128x700000_0_1_2 (broadcastInDim S2x128x1 ![0, 1] bcast_S2x128_S2x128x1_0_1 (Host.reduceAdd (extf .f32 x bitsLt_bf16_f32) (constant S_ .f32 0x00000000#32) reducesTo_S2x128x96_S2x128_d2 h_S_))))) (mulf (broadcastInDim S2x128x700000 ![0, 1, 2] bcast_S1x1x700000_S2x128x700000_0_1_2 (broadcastInDim S1x1x700000 ![2] bcast_S700000_S1x1x700000_2 (extf .f32 st bitsLt_bf16_f32))) (Host.dotGeneral dot_S2x128x96_S700000x96_S2x128x700000_2_1_01_0_n_n none (xeo x) (ceo cp)))) transposes_S2x128x700000_S2x700000x128_0_2_1

/-- The query's product with the centroid. -/
theorem dot1_apply (b : Fin 2) (l : Fin 128) :
    Host.dotGeneral dot_S2x128x96_S96_S2x128_2_0_01_n_n_n (some .fp32) (extf .f32 x bitsLt_bf16_f32) mu (ix2 b l) = ∑ d : Fin 96, x (ix3 b l d) * mu (ix1 d) := by
  pointwise
  rfl

theorem dot2_apply (X : FVec Ideal S2x128x96 .bf16) (C : FVec Ideal S700000x96 .bf16) (b : Fin 2) (l : Fin 128) (n : Fin 700000) :
    (Host.dotGeneral dot_S2x128x96_S700000x96_S2x128x700000_2_1_01_0_n_n none X C : FVec Ideal S2x128x700000 .f32) (ix3 b l n) = ∑ k : Fin 96, X (ix3 b l k) * C (ix2 n k) := by
  pointwise
  rfl

theorem sum0_apply (b : Fin 2) (l : Fin 128) :
    Host.reduceAdd (extf .f32 x bitsLt_bf16_f32) (constant S_ .f32 0x00000000#32) reducesTo_S2x128x96_S2x128_d2 h_S_ (ix2 b l) = ∑ d : Fin 96, x (ix3 b l d) := by
  pointwise
  rfl

/-- The reference's first result at a place. -/
theorem refv_apply (b : Fin 2) (n : Fin 700000) (l : Fin 128) :
    refv x mu cp bd st (ix3 b n l) = (∑ d : Fin 96, x (ix3 b l d) * mu (ix1 d)) + bd (ix1 n) * (∑ d : Fin 96, x (ix3 b l d))
      + st (ix1 n) * ∑ d : Fin 96, ((nib (cp (ix2 n (⟨d.val / 2, by omega⟩ : Fin 48))) (d.val % 2) : ℝ) : EReal) * x (ix3 b l d) := by
  have h : refv x mu cp bd st (ix3 b n l) = Host.dotGeneral dot_S2x128x96_S96_S2x128_2_0_01_n_n_n (some .fp32) (extf .f32 x bitsLt_bf16_f32) mu (ix2 b l)
      + bd (ix1 n) * Host.reduceAdd (extf .f32 x bitsLt_bf16_f32) (constant S_ .f32 0x00000000#32) reducesTo_S2x128x96_S2x128_d2 h_S_ (ix2 b l)
      + st (ix1 n) * (Host.dotGeneral dot_S2x128x96_S700000x96_S2x128x700000_2_1_01_0_n_n none (xeo x) (ceo cp) : FVec Ideal S2x128x700000 .f32) (ix3 b l n) := by
    unfold refv
    pointwise
    rfl
  rw [h, dot1_apply, sum0_apply, dot2_apply]
  congr 2
  refine Eq.trans (Finset.sum_congr rfl fun k _ => ?_) (sum_dimR fun d : Fin 96 => ((nib (cp (ix2 n (⟨d.val / 2, by omega⟩ : Fin 48))) (d.val % 2) : ℝ) : EReal) * x (ix3 b l d))
  rw [xeo_apply, ceo_apply, mul_comm]

end Cert.Value
end
-- ==== Proof.Value.Final.lean ====
module

public import proofs.«01_k».proof.Defs
public import proofs.«01_k».proof.Proof.KernelIdeal.Run
public import proofs.«01_k».proof.Proof.Value.Block
public import proofs.«01_k».proof.Proof.Value.Score
public import proofs.«01_k».proof.Proof.Value.Table
public import proofs.«01_k».proof.Proof.Value.Ref
public import Idealize.ShloMosaic.Lib.IdealHost

/-! The kernel's first result equals the reference's, at every place, for finite queries, centroid and step sizes. -/

@[expose] public section

noncomputable section

namespace Cert.Value

open Cert.KernelIdeal Cert.KernelIdeal.Gen Cert.KernelIdeal.Hand
open Idealize.ShloMosaic hiding ix1 ix2 ix3 ix4
open Idealize.ShloMosaic.ValueIdx
open Idealize.ShloMosaic.TcCoe

/-- An ideal number whose absolute value is below infinity is real. -/
theorem real_of_lt {v : EReal} (h : max v (-v) < ⊤) : ∃ r : ℝ, v = (r : EReal) := by
  induction v with
  | bot => simp at h
  | top => simp at h
  | coe r => exact ⟨r, rfl⟩

theorem real_of_cmp {v b : EReal} (hb : b = ⊤) (h : Ideal.cmp .olt (max v (-v)) b = 1#1) : ∃ r : ℝ, v = (r : EReal) := by
  subst hb
  refine real_of_lt ?_
  by_contra hn
  have : Ideal.cmp .olt (max v (-v)) ⊤ = 0#1 := by
    show BitVec.ofBool (decide _) = _
    rw [decide_eq_false hn]
    rfl
  rw [this] at h
  exact absurd h (by decide)

theorem top_bf16 : Ideal.ofBits .bf16 0x7F80#16 = ⊤ := by simp [Ideal.ofBits, Ideal.ieee]
theorem top_f32 : Ideal.ofBits .f32 0x7F800000#32 = ⊤ := by simp [Ideal.ofBits, Ideal.ieee]

section Load
variable {F : FTy → Type} [FloatOps F] (c : Dev nD)

/-- A whole load of the codes' window. -/
theorem ldCP_apply (arg4 : Memref sig .tc .vmem S48x4096 .i8) (f : Buf (Elt F) (arg4.view.loc (c : Thread nD τ))) (k : Fin 48) (r : Fin 4096) :
    ldCP c arg4 f (ix2 k r) = arg4.view.read (Elt F) f (ix2 k r) := by
  have e : (Rect.unit (s := S48x4096) ![0, 0] S48x4096.size inb_S48x4096_S48x4096_0_0).toLoadRect.idx (ix2 k r) = ix2 k r := by
    funext a
    match a with
    | ⟨0, _⟩ => exact Fin.ext (by show 0 + 1 * k.val = k.val; omega)
    | ⟨1, _⟩ => exact Fin.ext (by show 0 + 1 * r.val = r.val; omega)
  exact congrArg (arg4.view.read (Elt F) f) e

/-- A whole load of a row's window. -/
theorem ldRow_apply (a : Memref sig .tc .vmem S1x4096 .bf16) (f : Buf (Elt F) (a.view.loc (c : Thread nD τ))) (r : Fin 4096) :
    ldRow c a f (ix2 0 r) = a.view.read (Elt F) f (ix2 0 r) := by
  have e : (Rect.unit (s := S1x4096) ![0, 0] S1x4096.size inb_S1x4096_S1x4096_0_0).toLoadRect.idx (ix2 0 r) = ix2 0 r := by
    funext a
    match a with
    | ⟨0, _⟩ => rfl
    | ⟨1, _⟩ => exact Fin.ext (by show 0 + 1 * r.val = r.val; omega)
  exact congrArg (a.view.read (Elt F) f) e
end Load

variable (m : (ℓ : Loc nD τ sig) → Buf (Elt Ideal) ℓ) (ρ : Dev nD → PrngReg) (c : Dev nD)
  (x : FVec Ideal S2x128x96 .bf16) (mu : FVec Ideal S96 .f32) (cp : IVec S700000x48 8) (bd st : FVec Ideal S700000 .bf16)
  (hx : (m ((c : Thread nD τ).loc main_arg0) : S2x128x96.Idx → Elt Ideal .bf16) = x) (hmu : (m ((c : Thread nD τ).loc main_arg1) : S96.Idx → Elt Ideal .f32) = mu)
  (hcp : (m ((c : Thread nD τ).loc main_arg2) : S700000x48.Idx → Elt Ideal .i8) = cp) (hbd : (m ((c : Thread nD τ).loc main_arg3) : S700000.Idx → Elt Ideal .bf16) = bd)
  (hst : (m ((c : Thread nD τ).loc main_arg4) : S700000.Idx → Elt Ideal .bf16) = st)
  (hxr : ∀ i, ∃ r : ℝ, x i = (r : EReal)) (hmr : ∀ i, ∃ r : ℝ, mu i = (r : EReal)) (hsr : ∀ i, ∃ r : ℝ, st i = (r : EReal))

/-- The queries as the kernel's table step reads them. -/
def xT : S2x96x128.Idx → EReal := fun i => x (ix3 (i 0) (i 2) (i 1))
/-- The centroid as a row. -/
def muT : S1x96.Idx → EReal := fun i => mu (ix1 (i 1))

include hx in
theorem xT_eq : (V13 m ρ c (Proc.devRef .tc main_v83) : S2x96x128.Idx → Elt Ideal .bf16) = xT x := by
  funext i
  rw [← ix3_eta i]
  exact (v83_apply c m ρ (i 0) (i 1) (i 2)).trans (congrFun hx _)

include hmu in
theorem muT_eq : (V13 m ρ c (Proc.devRef .tc main_v84) : S1x96.Idx → Elt Ideal .f32) = muT mu := by
  funext i
  have h0 : i 0 = (0 : Fin 1) := Subsingleton.elim (α := Fin 1) _ _
  rw [← ix2_eta i, h0]
  exact (v84_apply c m ρ (i 1)).trans (congrFun hmu _)

include hx hmu hcp hbd hst hxr hmr hsr in
/-- What step `u` gives its block is the reference's value there. -/
theorem Bk_eq (u : ℕ) (v : S2x4096x128.Idx → Elt Ideal .f32) (hv : Bk (adm (V13 m ρ) 0) c (Vb (V13 m ρ) c) u v)
    (b : Fin 2) (r : Fin 4096) (l : Fin 128) (n : Fin 700000) (hn : u * 4096 + r.val = n.val) :
    v (ix3 b r l) = refv x mu cp bd st (ix3 b n l) := by
  obtain ⟨f13, t, arg4, h4, arg6, h6, arg7, h7, f4, f6, f7, ⟨arg2, h2, arg3, h3, f2, f3, ⟨d2, e2⟩, ⟨d3, e3⟩, rfl⟩, rfl, ⟨d4, e4⟩, ⟨d6, e6⟩, ⟨d7, e7⟩, rfl⟩ := hv
  have hb : b.val < 2 := b.isLt
  have hX : arg2.view.read (Elt Ideal) f2 = xT x := e2.trans ((fetched0 _ c _ _ d2).trans (xT_eq m ρ c x hx))
  have hM : arg3.view.read (Elt Ideal) f3 = muT mu := e3.trans ((fetched1 _ c _ _ d3).trans (muT_eq m ρ c mu hmu))
  have hC : ∀ k : Fin 48, ldCP c arg4 f4 (ix2 k r) = cp (ix2 n k) := fun k =>
    (ldCP_apply c arg4 f4 k r).trans ((congrFun e4 _).trans ((fetched2 _ c _ t d4 k r n hn).trans ((v85_apply c m ρ k n).trans (congrFun hcp _))))
  have hB : ldRow c arg6 f6 (ix2 0 r) = bd (ix1 n) :=
    (ldRow_apply c arg6 f6 r).trans ((congrFun e6 _).trans ((fetched4 _ c _ t d6 r n hn).trans ((v87_apply c m ρ n).trans (congrFun hbd _))))
  have hS : ldRow c arg7 f7 (ix2 0 r) = st (ix1 n) :=
    (ldRow_apply c arg7 f7 r).trans ((congrFun e7 _).trans ((fetched5 _ c _ t d7 r n hn).trans ((v88_apply c m ρ n).trans (congrFun hst _))))
  have hT := fun k q => table_apply c arg2 arg3 f2 f3 (xT x) (muT mu) hX hM (fun i => hxr _) (fun i => hmr _) k q
  obtain ⟨s, hs⟩ := hsr (ix1 n)
  refine (score_eq (ldW c (firstW c arg2 arg3 f2 f3)) (ldCP c arg4 f4) (ldRow c arg6 f6) (ldRow c arg7 f7) r (⟨128 * b.val + l.val, by omega⟩ : Fin 256) s (hS.trans hs)
    (fun d => x (ix3 b l d)) (fun d => hxr _) (∑ d : Fin 96, x (ix3 b l d)) (∑ d : Fin 96, x (ix3 b l d) * mu (ix1 d)) (fun k => ?_) (fun k => ?_) (fun p => ?_)).trans ?_
  · rw [hT]
    have := tab_top (xT x) (muT mu) 0 b.val (.inl rfl) hb k l (by omega) (by omega)
    simp only [Nat.zero_add] at this
    exact this
  · rw [hT]
    exact tab_top (xT x) (muT mu) 96 b.val (.inr rfl) hb k l (by omega) (by omega)
  · rw [hT]
    exact tab_low (xT x) (muT mu) b.val hb p l (by omega) (by omega)
  · rw [refv_apply, hB, hs]
    simp only [hC]

include hx hmu hcp hbd hst hxr hmr hsr in
/-- The kernel's first result is the reference's. -/
theorem result_eq (s : MemSt nD τ sig (Elt Ideal)) (h : QY m ρ c s) : (s.mem ((c : Thread nD τ).loc main_v89_0) : S2x700000x128.Idx → Elt Ideal .f32) = refv x mu cp bd st := by
  funext y
  have hy : (y 1).val < 700000 := (y 1).isLt
  obtain ⟨v, hv, hf⟩ := h.1 ((y 1).val / 4096) (by omega)
  refine (hf y (by omega) (by omega)).trans ?_
  refine (Bk_eq m ρ c x mu cp bd st hx hmu hcp hbd hst hxr hmr hsr _ v hv (y 0) ⟨(y 1).val % 4096, Nat.mod_lt _ (by decide)⟩ (y 2) (y 1) (by show (y 1).val / 4096 * 4096 + (y 1).val % 4096 = (y 1).val; omega)).trans ?_
  exact congrArg _ (ix3_eta y)

end Cert.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value.Final
public import Idealize.ShloMosaic.Adequacy
public import Idealize.ShloMosaic.Init

@[expose] public section

noncomputable section

namespace Cert.Proof

open Idealize.ShloMosaic Idealize.SL.Sem

theorem pre_facts : Cert.Pre_finite.Facts where
  bcast_S_S2x128x96 := by decide
  bcast_S_S96 := by decide
  bcast_S_S700000 := by decide

theorem on_facts : Cert.On_primary_scores.Facts where
  bcast_S_S2x700000x128 := by decide
  bcast_S_S50x2x128 := by decide

/-- The kernel at its own floats: it ends, its arguments unchanged, every semaphore at zero. -/
theorem kernel_quiescent : Cert.quiescent_Kernel := by
  intro m g _
  exact (θ_run _ _ _).mono (fun r h => ⟨fun c => (h.1 c).2, h.2⟩) (Cert.Kernel.Hand.run_main (F := Bits) m g)

/-- The same at the ideal numbers. -/
theorem kernelIdeal_quiescent : Cert.quiescent_KernelIdeal := by
  intro m g _
  exact (θ_run _ _ _).mono (fun r h => ⟨fun c => (h.1 c).2, h.2⟩) (Cert.KernelIdeal.Hand.run_main (F := Ideal) m g)

/-- The reference ends, its arguments unchanged, every semaphore at zero. -/
theorem reference_quiescent : Cert.quiescent_ReferenceIdeal := by
  intro m g _
  exact (θ_run _ _ _).mono (fun r h => ⟨fun c => (h c).2.2, Idealize.ShloMosaic.sem_eq_zero_of_no_sems (by decide) r.2⟩) (Cert.ReferenceIdeal.Value.run (F := Ideal) m g)

/-- The value both first results have. -/
def common (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v89_0) :=
  Cert.Value.refv (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (m ((c.tc : Thread Cert.KernelIdeal.nD Cert.KernelIdeal.τ).loc Cert.KernelIdeal.main_arg4))

/-- The first results of the two programs are equal. -/
theorem primary_equal : Cert.algebraic_KernelIdeal_ReferenceIdeal_on_primary_scores_pre_finite (hPre_finite := pre_facts) (hOn_primary_scores := on_facts) := by
  intro m g m' g' hpre hag
  have key : ∀ (c : Dev Cert.KernelIdeal.nD) (s : MemSt Cert.KernelIdeal.nD Cert.KernelIdeal.τ Cert.KernelIdeal.sig (Elt Ideal)), Cert.KernelIdeal.Hand.QY m g c s →
      s.mem ((c.tc : Thread Cert.KernelIdeal.nD Cert.KernelIdeal.τ).loc Cert.KernelIdeal.main_v89_0) = common m c := fun c s h =>
    Cert.Value.result_eq m g c _ _ _ _ _ rfl rfl rfl rfl rfl
      (fun i => Cert.Value.real_of_cmp Cert.Value.top_bf16 (congrFun (hpre c).1 i)) (fun i => Cert.Value.real_of_cmp Cert.Value.top_f32 (congrFun (hpre c).2.1 i))
      (fun i => Cert.Value.real_of_cmp Cert.Value.top_bf16 (congrFun (hpre c).2.2 i)) s h
  refine ⟨common m, fun c => m ((c.tc : Thread Cert.KernelIdeal.nD Cert.KernelIdeal.τ).loc Cert.KernelIdeal.main_v89_1), ?_, ?_⟩
  · exact (θ_run _ _ _).mono (fun r h c => ⟨fun i _ => congrFun (key c r.2 (h.1 c)) i, fun i hi => absurd hi (by show ¬ (0#1 = 1#1); decide), (h.1 c).2⟩)
      (Cert.KernelIdeal.Hand.run_main (F := Ideal) m g)
  · refine (θ_run _ _ _).mono (fun r h c => ⟨fun i _ => ?_, fun i hi => absurd hi (by show ¬ (0#1 = 1#1); decide), (h c).2.2⟩) (Cert.ReferenceIdeal.Value.run (F := Ideal) m' g')
    obtain ⟨h0, h1, h2, h3, h4, -, -⟩ := hag c
    refine congrFun ((h c).1.trans ?_) i
    unfold common
    rw [← h0, ← h1, ← h2, ← h3, ← h4]
    rfl

theorem claim : Cert.Claim := ⟨Cert.Kernel.Gen.facts, Cert.KernelIdeal.Gen.facts, Cert.ReferenceIdeal.Gen.facts, pre_facts, on_facts,
  kernel_quiescent, kernelIdeal_quiescent, fun m g _ => kernelIdeal_quiescent m g trivial, reference_quiescent, fun m g _ => reference_quiescent m g trivial,
  trivial, primary_equal⟩

end Cert.Proof

end
